-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_qk_finite [hPre_qk_finite : Cert.Pre_qk_finite.Facts] (m : (ℓ : Loc Cert.AttnIdeal.nD Cert.AttnIdeal.τ Cert.AttnIdeal.sig) → Buf (Elt Ideal) ℓ) : Prop :=
  ∀ c : Dev Cert.AttnIdeal.nD,
    (Cert.Pre_qk_finite.fn (F := Ideal) (m ((c.tc : Thread Cert.AttnIdeal.nD Cert.AttnIdeal.τ).loc Cert.AttnIdeal.main_arg0))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_qk_finite [hPre_qk_finite : Cert.Pre_qk_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_qk_finite.fn (F := Ideal) (m ((c.tc : Thread Cert.AttnRefIdeal.nD Cert.AttnRefIdeal.τ).loc Cert.AttnRefIdeal.main_arg0))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InSb (m : (ℓ : Loc Cert.InSb.nD Cert.InSb.τ Cert.InSb.sig) → Buf (Elt Bits) ℓ) : Prop :=
  True

def Pre_InSbIdeal (m : (ℓ : Loc Cert.InSbIdeal.nD Cert.InSbIdeal.τ Cert.InSbIdeal.sig) → Buf (Elt Ideal) ℓ) : Prop :=
  True

def Pre_InSbRefIdeal (m : (ℓ : Loc Cert.InSbRefIdeal.nD Cert.InSbRefIdeal.τ Cert.InSbRefIdeal.sig) → Buf (Elt Ideal) ℓ) : Prop :=
  True

def Pre_InMain (m : (ℓ : Loc Cert.InMain.nD Cert.InMain.τ Cert.InMain.sig) → Buf (Elt Bits) ℓ) : Prop :=
  True

def Pre_InMainIdeal (m : (ℓ : Loc Cert.InMainIdeal.nD Cert.InMainIdeal.τ Cert.InMainIdeal.sig) → Buf (Elt Ideal) ℓ) : Prop :=
  True

def Pre_InMainRefIdeal (m : (ℓ : Loc Cert.InMainRefIdeal.nD Cert.InMainRefIdeal.τ Cert.InMainRefIdeal.sig) → Buf (Elt Ideal) ℓ) : Prop :=
  True

def Pre_InGate (m : (ℓ : Loc Cert.InGate.nD Cert.InGate.τ Cert.InGate.sig) → Buf (Elt Bits) ℓ) : Prop :=
  True

def Pre_InGateIdeal (m : (ℓ : Loc Cert.InGateIdeal.nD Cert.InGateIdeal.τ Cert.InGateIdeal.sig) → Buf (Elt Ideal) ℓ) : Prop :=
  True

def Pre_InGateRefIdeal (m : (ℓ : Loc Cert.InGateRefIdeal.nD Cert.InGateRefIdeal.τ Cert.InGateRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_GdnRefIdeal (m : (ℓ : Loc Cert.GdnRefIdeal.nD Cert.GdnRefIdeal.τ Cert.GdnRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnIdeal_pre_qk_finite [hAttnIdeal : Cert.AttnIdeal.Facts] [hPre_qk_finite : Cert.Pre_qk_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_qk_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_AttnRefIdeal_pre_qk_finite [hAttnRefIdeal : Cert.AttnRefIdeal.Facts] [hPre_qk_finite : Cert.Pre_qk_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_qk_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_InSb [hInSb : Cert.InSb.Facts] : Prop :=
  ∀ (m : (ℓ : Loc Cert.InSb.nD Cert.InSb.τ Cert.InSb.sig) → Buf (Elt Bits) ℓ) (g : Dev Cert.InSb.nD → PrngReg), Pre_InSb m →
    θ_run (Cert.InSb.defs (F := Bits)) (onTc (τ := Cert.InSb.τ) (Cert.InSb.main (F := Bits))) ⟨m, fun _ => 0, g⟩ (fun r => (∀ c : Dev Cert.InSb.nD,
      r.2.mem ((c.tc : Thread Cert.InSb.nD Cert.InSb.τ).loc Cert.InSb.main_arg0) = m ((c.tc : Thread Cert.InSb.nD Cert.InSb.τ).loc Cert.InSb.main_arg0)
      ∧ r.2.mem ((c.tc : Thread Cert.InSb.nD Cert.InSb.τ).loc Cert.InSb.main_arg1) = m ((c.tc : Thread Cert.InSb.nD Cert.InSb.τ).loc Cert.InSb.main_arg1)
      ∧ r.2.mem ((c.tc : Thread Cert.InSb.nD Cert.InSb.τ).loc Cert.InSb.main_arg2) = m ((c.tc : Thread Cert.InSb.nD Cert.InSb.τ).loc Cert.InSb.main_arg2))
      ∧ r.2.sem = fun _ => 0)

def quiescent_InSbIdeal [hInSbIdeal : Cert.InSbIdeal.Facts] : Prop :=
  ∀ (m : (ℓ : Loc Cert.InSbIdeal.nD Cert.InSbIdeal.τ Cert.InSbIdeal.sig) → Buf (Elt Ideal) ℓ) (g : Dev Cert.InSbIdeal.nD → PrngReg), Pre_InSbIdeal m →
    θ_run (Cert.InSbIdeal.defs (F := Ideal)) (onTc (τ := Cert.InSbIdeal.τ) (Cert.InSbIdeal.main (F := Ideal))) ⟨m, fun _ => 0, g⟩ (fun r => (∀ c : Dev Cert.InSbIdeal.nD,
      r.2.mem ((c.tc : Thread Cert.InSbIdeal.nD Cert.InSbIdeal.τ).loc Cert.InSbIdeal.main_arg0) = m ((c.tc : Thread Cert.InSbIdeal.nD Cert.InSbIdeal.τ).loc Cert.InSbIdeal.main_arg0)
      ∧ r.2.mem ((c.tc : Thread Cert.InSbIdeal.nD Cert.InSbIdeal.τ).loc Cert.InSbIdeal.main_arg1) = m ((c.tc : Thread Cert.InSbIdeal.nD Cert.InSbIdeal.τ).loc Cert.InSbIdeal.main_arg1)
      ∧ r.2.mem ((c.tc : Thread Cert.InSbIdeal.nD Cert.InSbIdeal.τ).loc Cert.InSbIdeal.main_arg2) = m ((c.tc : Thread Cert.InSbIdeal.nD Cert.InSbIdeal.τ).loc Cert.InSbIdeal.main_arg2))
      ∧ r.2.sem = fun _ => 0)

def quiescent_InSbRefIdeal [hInSbRefIdeal : Cert.InSbRefIdeal.Facts] : Prop :=
  ∀ (m : (ℓ : Loc Cert.InSbRefIdeal.nD Cert.InSbRefIdeal.τ Cert.InSbRefIdeal.sig) → Buf (Elt Ideal) ℓ) (g : Dev Cert.InSbRefIdeal.nD → PrngReg), Pre_InSbRefIdeal m →
    θ_run (Cert.InSbRefIdeal.defs (F := Ideal)) (onTc (τ := Cert.InSbRefIdeal.τ) (Cert.InSbRefIdeal.main (F := Ideal))) ⟨m, fun _ => 0, g⟩ (fun r => (∀ c : Dev Cert.InSbRefIdeal.nD,
      r.2.mem ((c.tc : Thread Cert.InSbRefIdeal.nD Cert.InSbRefIdeal.τ).loc Cert.InSbRefIdeal.main_arg0) = m ((c.tc : Thread Cert.InSbRefIdeal.nD Cert.InSbRefIdeal.τ).loc Cert.InSbRefIdeal.main_arg0)
      ∧ r.2.mem ((c.tc : Thread Cert.InSbRefIdeal.nD Cert.InSbRefIdeal.τ).loc Cert.InSbRefIdeal.main_arg1) = m ((c.tc : Thread Cert.InSbRefIdeal.nD Cert.InSbRefIdeal.τ).loc Cert.InSbRefIdeal.main_arg1)
      ∧ r.2.mem ((c.tc : Thread Cert.InSbRefIdeal.nD Cert.InSbRefIdeal.τ).loc Cert.InSbRefIdeal.main_arg2) = m ((c.tc : Thread Cert.InSbRefIdeal.nD Cert.InSbRefIdeal.τ).loc Cert.InSbRefIdeal.main_arg2))
      ∧ r.2.sem = fun _ => 0)

def quiescent_InMain [hInMain : Cert.InMain.Facts] : Prop :=
  ∀ (m : (ℓ : Loc Cert.InMain.nD Cert.InMain.τ Cert.InMain.sig) → Buf (Elt Bits) ℓ) (g : Dev Cert.InMain.nD → PrngReg), Pre_InMain m →
    θ_run (Cert.InMain.defs (F := Bits)) (onTc (τ := Cert.InMain.τ) (Cert.InMain.main (F := Bits))) ⟨m, fun _ => 0, g⟩ (fun r => (∀ c : Dev Cert.InMain.nD,
      r.2.mem ((c.tc : Thread Cert.InMain.nD Cert.InMain.τ).loc Cert.InMain.main_arg0) = m ((c.tc : Thread Cert.InMain.nD Cert.InMain.τ).loc Cert.InMain.main_arg0)
      ∧ r.2.mem ((c.tc : Thread Cert.InMain.nD Cert.InMain.τ).loc Cert.InMain.main_arg1) = m ((c.tc : Thread Cert.InMain.nD Cert.InMain.τ).loc Cert.InMain.main_arg1)
      ∧ r.2.mem ((c.tc : Thread Cert.InMain.nD Cert.InMain.τ).loc Cert.InMain.main_arg2) = m ((c.tc : Thread Cert.InMain.nD Cert.InMain.τ).loc Cert.InMain.main_arg2))
      ∧ r.2.sem = fun _ => 0)

def quiescent_InMainIdeal [hInMainIdeal : Cert.InMainIdeal.Facts] : Prop :=
  ∀ (m : (ℓ : Loc Cert.InMainIdeal.nD Cert.InMainIdeal.τ Cert.InMainIdeal.sig) → Buf (Elt Ideal) ℓ) (g : Dev Cert.InMainIdeal.nD → PrngReg), Pre_InMainIdeal m →
    θ_run (Cert.InMainIdeal.defs (F := Ideal)) (onTc (τ := Cert.InMainIdeal.τ) (Cert.InMainIdeal.main (F := Ideal))) ⟨m, fun _ => 0, g⟩ (fun r => (∀ c : Dev Cert.InMainIdeal.nD,
      r.2.mem ((c.tc : Thread Cert.InMainIdeal.nD Cert.InMainIdeal.τ).loc Cert.InMainIdeal.main_arg0) = m ((c.tc : Thread Cert.InMainIdeal.nD Cert.InMainIdeal.τ).loc Cert.InMainIdeal.main_arg0)
      ∧ r.2.mem ((c.tc : Thread Cert.InMainIdeal.nD Cert.InMainIdeal.τ).loc Cert.InMainIdeal.main_arg1) = m ((c.tc : Thread Cert.InMainIdeal.nD Cert.InMainIdeal.τ).loc Cert.InMainIdeal.main_arg1)
      ∧ r.2.mem ((c.tc : Thread Cert.InMainIdeal.nD Cert.InMainIdeal.τ).loc Cert.InMainIdeal.main_arg2) = m ((c.tc : Thread Cert.InMainIdeal.nD Cert.InMainIdeal.τ).loc Cert.InMainIdeal.main_arg2))
      ∧ r.2.sem = fun _ => 0)

def quiescent_InMainRefIdeal [hInMainRefIdeal : Cert.InMainRefIdeal.Facts] : Prop :=
  ∀ (m : (ℓ : Loc Cert.InMainRefIdeal.nD Cert.InMainRefIdeal.τ Cert.InMainRefIdeal.sig) → Buf (Elt Ideal) ℓ) (g : Dev Cert.InMainRefIdeal.nD → PrngReg), Pre_InMainRefIdeal m →
    θ_run (Cert.InMainRefIdeal.defs (F := Ideal)) (onTc (τ := Cert.InMainRefIdeal.τ) (Cert.InMainRefIdeal.main (F := Ideal))) ⟨m, fun _ => 0, g⟩ (fun r => (∀ c : Dev Cert.InMainRefIdeal.nD,
      r.2.mem ((c.tc : Thread Cert.InMainRefIdeal.nD Cert.InMainRefIdeal.τ).loc Cert.InMainRefIdeal.main_arg0) = m ((c.tc : Thread Cert.InMainRefIdeal.nD Cert.InMainRefIdeal.τ).loc Cert.InMainRefIdeal.main_arg0)
      ∧ r.2.mem ((c.tc : Thread Cert.InMainRefIdeal.nD Cert.InMainRefIdeal.τ).loc Cert.InMainRefIdeal.main_arg1) = m ((c.tc : Thread Cert.InMainRefIdeal.nD Cert.InMainRefIdeal.τ).loc Cert.InMainRefIdeal.main_arg1)
      ∧ r.2.mem ((c.tc : Thread Cert.InMainRefIdeal.nD Cert.InMainRefIdeal.τ).loc Cert.InMainRefIdeal.main_arg2) = m ((c.tc : Thread Cert.InMainRefIdeal.nD Cert.InMainRefIdeal.τ).loc Cert.InMainRefIdeal.main_arg2))
      ∧ r.2.sem = fun _ => 0)

def quiescent_InGate [hInGate : Cert.InGate.Facts] : Prop :=
  ∀ (m : (ℓ : Loc Cert.InGate.nD Cert.InGate.τ Cert.InGate.sig) → Buf (Elt Bits) ℓ) (g : Dev Cert.InGate.nD → PrngReg), Pre_InGate m →
    θ_run (Cert.InGate.defs (F := Bits)) (onTc (τ := Cert.InGate.τ) (Cert.InGate.main (F := Bits))) ⟨m, fun _ => 0, g⟩ (fun r => (∀ c : Dev Cert.InGate.nD,
      r.2.mem ((c.tc : Thread Cert.InGate.nD Cert.InGate.τ).loc Cert.InGate.main_arg0) = m ((c.tc : Thread Cert.InGate.nD Cert.InGate.τ).loc Cert.InGate.main_arg0)
      ∧ r.2.mem ((c.tc : Thread Cert.InGate.nD Cert.InGate.τ).loc Cert.InGate.main_arg1) = m ((c.tc : Thread Cert.InGate.nD Cert.InGate.τ).loc Cert.InGate.main_arg1)
      ∧ r.2.mem ((c.tc : Thread Cert.InGate.nD Cert.InGate.τ).loc Cert.InGate.main_arg2) = m ((c.tc : Thread Cert.InGate.nD Cert.InGate.τ).loc Cert.InGate.main_arg2))
      ∧ r.2.sem = fun _ => 0)

def quiescent_InGateIdeal [hInGateIdeal : Cert.InGateIdeal.Facts] : Prop :=
  ∀ (m : (ℓ : Loc Cert.InGateIdeal.nD Cert.InGateIdeal.τ Cert.InGateIdeal.sig) → Buf (Elt Ideal) ℓ) (g : Dev Cert.InGateIdeal.nD → PrngReg), Pre_InGateIdeal m →
    θ_run (Cert.InGateIdeal.defs (F := Ideal)) (onTc (τ := Cert.InGateIdeal.τ) (Cert.InGateIdeal.main (F := Ideal))) ⟨m, fun _ => 0, g⟩ (fun r => (∀ c : Dev Cert.InGateIdeal.nD,
      r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
      ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1)
      ∧ r.2.mem ((c.tc : Thread Cert.InGateIdeal.nD Cert.InGateIdeal.τ).loc Cert.InGateIdeal.main_arg2) = m ((c.tc : Thread Cert.InGateIdeal.nD Cert.InGateIdeal.τ).loc Cert.InGateIdeal.main_arg2))
      ∧ r.2.sem = fun _ => 0)

def quiescent_InGateRefIdeal [hInGateRefIdeal : Cert.InGateRefIdeal.Facts] : Prop :=
  ∀ (m : (ℓ : Loc Cert.InGateRefIdeal.nD Cert.InGateRefIdeal.τ Cert.InGateRefIdeal.sig) → Buf (Elt Ideal) ℓ) (g : Dev Cert.InGateRefIdeal.nD → PrngReg), Pre_InGateRefIdeal m →
    θ_run (Cert.InGateRefIdeal.defs (F := Ideal)) (onTc (τ := Cert.InGateRefIdeal.τ) (Cert.InGateRefIdeal.main (F := Ideal))) ⟨m, fun _ => 0, g⟩ (fun r => (∀ c : Dev Cert.InGateRefIdeal.nD,
      r.2.mem ((c.tc : Thread Cert.InGateRefIdeal.nD Cert.InGateRefIdeal.τ).loc Cert.InGateRefIdeal.main_arg0) = m ((c.tc : Thread Cert.InGateRefIdeal.nD Cert.InGateRefIdeal.τ).loc Cert.InGateRefIdeal.main_arg0)
      ∧ r.2.mem ((c.tc : Thread Cert.InGateRefIdeal.nD Cert.InGateRefIdeal.τ).loc Cert.InGateRefIdeal.main_arg1) = m ((c.tc : Thread Cert.InGateRefIdeal.nD Cert.InGateRefIdeal.τ).loc Cert.InGateRefIdeal.main_arg1)
      ∧ r.2.mem ((c.tc : Thread Cert.InGateRefIdeal.nD Cert.InGateRefIdeal.τ).loc Cert.InGateRefIdeal.main_arg2) = m ((c.tc : Thread Cert.InGateRefIdeal.nD Cert.InGateRefIdeal.τ).loc Cert.InGateRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5))
      ∧ r.2.sem = fun _ => 0)

def quiescent_GdnRefIdeal [hGdnRefIdeal : Cert.GdnRefIdeal.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4)
      ∧ r.2.mem ((c.tc : Thread Cert.GdnRefIdeal.nD Cert.GdnRefIdeal.τ).loc Cert.GdnRefIdeal.main_arg5) = m ((c.tc : Thread Cert.GdnRefIdeal.nD Cert.GdnRefIdeal.τ).loc Cert.GdnRefIdeal.main_arg5))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def preserves_Attn_AttnIdeal : Prop :=
  True

def algebraic_AttnIdeal_AttnRefIdeal_pre_qk_finite [hAttnIdeal : Cert.AttnIdeal.Facts] [hAttnRefIdeal : Cert.AttnRefIdeal.Facts] [hPre_qk_finite : Cert.Pre_qk_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_qk_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v29) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v16) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_InSb_InSbIdeal : Prop :=
  True

def algebraic_InSbIdeal_InSbRefIdeal [hInSbIdeal : Cert.InSbIdeal.Facts] [hInSbRefIdeal : Cert.InSbRefIdeal.Facts] : Prop :=
  ∀ (m : (ℓ : Loc Cert.InSbIdeal.nD Cert.InSbIdeal.τ Cert.InSbIdeal.sig) → Buf (Elt Ideal) ℓ) (g : Dev Cert.InSbIdeal.nD → PrngReg)
    (m' : (ℓ : Loc Cert.InSbRefIdeal.nD Cert.InSbRefIdeal.τ Cert.InSbRefIdeal.sig) → Buf (Elt Ideal) ℓ) (g' : Dev Cert.InSbRefIdeal.nD → PrngReg), Pre_InSbIdeal m →
    (∀ c : Dev Cert.InSbIdeal.nD,
      m' ((c.tc : Thread Cert.InSbRefIdeal.nD Cert.InSbRefIdeal.τ).loc Cert.InSbRefIdeal.main_arg0) = m ((c.tc : Thread Cert.InSbIdeal.nD Cert.InSbIdeal.τ).loc Cert.InSbIdeal.main_arg0)
      ∧ m' ((c.tc : Thread Cert.InSbRefIdeal.nD Cert.InSbRefIdeal.τ).loc Cert.InSbRefIdeal.main_arg1) = m ((c.tc : Thread Cert.InSbIdeal.nD Cert.InSbIdeal.τ).loc Cert.InSbIdeal.main_arg1)
      ∧ m' ((c.tc : Thread Cert.InSbRefIdeal.nD Cert.InSbRefIdeal.τ).loc Cert.InSbRefIdeal.main_arg2) = m ((c.tc : Thread Cert.InSbIdeal.nD Cert.InSbIdeal.τ).loc Cert.InSbIdeal.main_arg2)) →
    ∃ (v0 : (c : Dev Cert.InSbIdeal.nD) → Buf (Elt Ideal) ((c.tc : Thread Cert.InSbIdeal.nD Cert.InSbIdeal.τ).loc Cert.InSbIdeal.main_v3)),
      θ_run (Cert.InSbIdeal.defs (F := Ideal)) (onTc (τ := Cert.InSbIdeal.τ) (Cert.InSbIdeal.main (F := Ideal))) ⟨m, fun _ => 0, g⟩ (fun r => ∀ c : Dev Cert.InSbIdeal.nD,
          r.2.mem ((c.tc : Thread Cert.InSbIdeal.nD Cert.InSbIdeal.τ).loc Cert.InSbIdeal.main_v3) = v0 c
          ∧ r.2.mem ((c.tc : Thread Cert.InSbIdeal.nD Cert.InSbIdeal.τ).loc Cert.InSbIdeal.main_arg0) = m ((c.tc : Thread Cert.InSbIdeal.nD Cert.InSbIdeal.τ).loc Cert.InSbIdeal.main_arg0)
          ∧ r.2.mem ((c.tc : Thread Cert.InSbIdeal.nD Cert.InSbIdeal.τ).loc Cert.InSbIdeal.main_arg1) = m ((c.tc : Thread Cert.InSbIdeal.nD Cert.InSbIdeal.τ).loc Cert.InSbIdeal.main_arg1)
          ∧ r.2.mem ((c.tc : Thread Cert.InSbIdeal.nD Cert.InSbIdeal.τ).loc Cert.InSbIdeal.main_arg2) = m ((c.tc : Thread Cert.InSbIdeal.nD Cert.InSbIdeal.τ).loc Cert.InSbIdeal.main_arg2))
      ∧ θ_run (Cert.InSbRefIdeal.defs (F := Ideal)) (onTc (τ := Cert.InSbRefIdeal.τ) (Cert.InSbRefIdeal.main (F := Ideal))) ⟨m', fun _ => 0, g'⟩ (fun r => ∀ c : Dev Cert.InSbRefIdeal.nD,
          r.2.mem ((c.tc : Thread Cert.InSbRefIdeal.nD Cert.InSbRefIdeal.τ).loc Cert.InSbRefIdeal.main_v15) = v0 c
          ∧ r.2.mem ((c.tc : Thread Cert.InSbRefIdeal.nD Cert.InSbRefIdeal.τ).loc Cert.InSbRefIdeal.main_arg0) = m' ((c.tc : Thread Cert.InSbRefIdeal.nD Cert.InSbRefIdeal.τ).loc Cert.InSbRefIdeal.main_arg0)
          ∧ r.2.mem ((c.tc : Thread Cert.InSbRefIdeal.nD Cert.InSbRefIdeal.τ).loc Cert.InSbRefIdeal.main_arg1) = m' ((c.tc : Thread Cert.InSbRefIdeal.nD Cert.InSbRefIdeal.τ).loc Cert.InSbRefIdeal.main_arg1)
          ∧ r.2.mem ((c.tc : Thread Cert.InSbRefIdeal.nD Cert.InSbRefIdeal.τ).loc Cert.InSbRefIdeal.main_arg2) = m' ((c.tc : Thread Cert.InSbRefIdeal.nD Cert.InSbRefIdeal.τ).loc Cert.InSbRefIdeal.main_arg2))

def preserves_InMain_InMainIdeal : Prop :=
  True

def algebraic_InMainIdeal_InMainRefIdeal [hInMainIdeal : Cert.InMainIdeal.Facts] [hInMainRefIdeal : Cert.InMainRefIdeal.Facts] : Prop :=
  ∀ (m : (ℓ : Loc Cert.InMainIdeal.nD Cert.InMainIdeal.τ Cert.InMainIdeal.sig) → Buf (Elt Ideal) ℓ) (g : Dev Cert.InMainIdeal.nD → PrngReg)
    (m' : (ℓ : Loc Cert.InMainRefIdeal.nD Cert.InMainRefIdeal.τ Cert.InMainRefIdeal.sig) → Buf (Elt Ideal) ℓ) (g' : Dev Cert.InMainRefIdeal.nD → PrngReg), Pre_InMainIdeal m →
    (∀ c : Dev Cert.InMainIdeal.nD,
      m' ((c.tc : Thread Cert.InMainRefIdeal.nD Cert.InMainRefIdeal.τ).loc Cert.InMainRefIdeal.main_arg0) = m ((c.tc : Thread Cert.InMainIdeal.nD Cert.InMainIdeal.τ).loc Cert.InMainIdeal.main_arg0)
      ∧ m' ((c.tc : Thread Cert.InMainRefIdeal.nD Cert.InMainRefIdeal.τ).loc Cert.InMainRefIdeal.main_arg1) = m ((c.tc : Thread Cert.InMainIdeal.nD Cert.InMainIdeal.τ).loc Cert.InMainIdeal.main_arg1)
      ∧ m' ((c.tc : Thread Cert.InMainRefIdeal.nD Cert.InMainRefIdeal.τ).loc Cert.InMainRefIdeal.main_arg2) = m ((c.tc : Thread Cert.InMainIdeal.nD Cert.InMainIdeal.τ).loc Cert.InMainIdeal.main_arg2)) →
    ∃ (v0 : (c : Dev Cert.InMainIdeal.nD) → Buf (Elt Ideal) ((c.tc : Thread Cert.InMainIdeal.nD Cert.InMainIdeal.τ).loc Cert.InMainIdeal.main_v3)),
      θ_run (Cert.InMainIdeal.defs (F := Ideal)) (onTc (τ := Cert.InMainIdeal.τ) (Cert.InMainIdeal.main (F := Ideal))) ⟨m, fun _ => 0, g⟩ (fun r => ∀ c : Dev Cert.InMainIdeal.nD,
          r.2.mem ((c.tc : Thread Cert.InMainIdeal.nD Cert.InMainIdeal.τ).loc Cert.InMainIdeal.main_v3) = v0 c
          ∧ r.2.mem ((c.tc : Thread Cert.InMainIdeal.nD Cert.InMainIdeal.τ).loc Cert.InMainIdeal.main_arg0) = m ((c.tc : Thread Cert.InMainIdeal.nD Cert.InMainIdeal.τ).loc Cert.InMainIdeal.main_arg0)
          ∧ r.2.mem ((c.tc : Thread Cert.InMainIdeal.nD Cert.InMainIdeal.τ).loc Cert.InMainIdeal.main_arg1) = m ((c.tc : Thread Cert.InMainIdeal.nD Cert.InMainIdeal.τ).loc Cert.InMainIdeal.main_arg1)
          ∧ r.2.mem ((c.tc : Thread Cert.InMainIdeal.nD Cert.InMainIdeal.τ).loc Cert.InMainIdeal.main_arg2) = m ((c.tc : Thread Cert.InMainIdeal.nD Cert.InMainIdeal.τ).loc Cert.InMainIdeal.main_arg2))
      ∧ θ_run (Cert.InMainRefIdeal.defs (F := Ideal)) (onTc (τ := Cert.InMainRefIdeal.τ) (Cert.InMainRefIdeal.main (F := Ideal))) ⟨m', fun _ => 0, g'⟩ (fun r => ∀ c : Dev Cert.InMainRefIdeal.nD,
          r.2.mem ((c.tc : Thread Cert.InMainRefIdeal.nD Cert.InMainRefIdeal.τ).loc Cert.InMainRefIdeal.main_v14) = v0 c
          ∧ r.2.mem ((c.tc : Thread Cert.InMainRefIdeal.nD Cert.InMainRefIdeal.τ).loc Cert.InMainRefIdeal.main_arg0) = m' ((c.tc : Thread Cert.InMainRefIdeal.nD Cert.InMainRefIdeal.τ).loc Cert.InMainRefIdeal.main_arg0)
          ∧ r.2.mem ((c.tc : Thread Cert.InMainRefIdeal.nD Cert.InMainRefIdeal.τ).loc Cert.InMainRefIdeal.main_arg1) = m' ((c.tc : Thread Cert.InMainRefIdeal.nD Cert.InMainRefIdeal.τ).loc Cert.InMainRefIdeal.main_arg1)
          ∧ r.2.mem ((c.tc : Thread Cert.InMainRefIdeal.nD Cert.InMainRefIdeal.τ).loc Cert.InMainRefIdeal.main_arg2) = m' ((c.tc : Thread Cert.InMainRefIdeal.nD Cert.InMainRefIdeal.τ).loc Cert.InMainRefIdeal.main_arg2))

def preserves_InGate_InGateIdeal : Prop :=
  True

def algebraic_InGateIdeal_InGateRefIdeal [hInGateIdeal : Cert.InGateIdeal.Facts] [hInGateRefIdeal : Cert.InGateRefIdeal.Facts] : Prop :=
  ∀ (m : (ℓ : Loc Cert.InGateIdeal.nD Cert.InGateIdeal.τ Cert.InGateIdeal.sig) → Buf (Elt Ideal) ℓ) (g : Dev Cert.InGateIdeal.nD → PrngReg)
    (m' : (ℓ : Loc Cert.InGateRefIdeal.nD Cert.InGateRefIdeal.τ Cert.InGateRefIdeal.sig) → Buf (Elt Ideal) ℓ) (g' : Dev Cert.InGateRefIdeal.nD → PrngReg), Pre_InGateIdeal m →
    (∀ c : Dev Cert.InGateIdeal.nD,
      m' ((c.tc : Thread Cert.InGateRefIdeal.nD Cert.InGateRefIdeal.τ).loc Cert.InGateRefIdeal.main_arg0) = m ((c.tc : Thread Cert.InGateIdeal.nD Cert.InGateIdeal.τ).loc Cert.InGateIdeal.main_arg0)
      ∧ m' ((c.tc : Thread Cert.InGateRefIdeal.nD Cert.InGateRefIdeal.τ).loc Cert.InGateRefIdeal.main_arg1) = m ((c.tc : Thread Cert.InGateIdeal.nD Cert.InGateIdeal.τ).loc Cert.InGateIdeal.main_arg1)
      ∧ m' ((c.tc : Thread Cert.InGateRefIdeal.nD Cert.InGateRefIdeal.τ).loc Cert.InGateRefIdeal.main_arg2) = m ((c.tc : Thread Cert.InGateIdeal.nD Cert.InGateIdeal.τ).loc Cert.InGateIdeal.main_arg2)) →
    ∃ (v0 : (c : Dev Cert.InGateIdeal.nD) → Buf (Elt Ideal) ((c.tc : Thread Cert.InGateIdeal.nD Cert.InGateIdeal.τ).loc Cert.InGateIdeal.main_v6)),
      θ_run (Cert.InGateIdeal.defs (F := Ideal)) (onTc (τ := Cert.InGateIdeal.τ) (Cert.InGateIdeal.main (F := Ideal))) ⟨m, fun _ => 0, g⟩ (fun r => ∀ c : Dev Cert.InGateIdeal.nD,
          r.2.mem ((c.tc : Thread Cert.InGateIdeal.nD Cert.InGateIdeal.τ).loc Cert.InGateIdeal.main_v6) = v0 c
          ∧ r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
          ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1)
          ∧ r.2.mem ((c.tc : Thread Cert.InGateIdeal.nD Cert.InGateIdeal.τ).loc Cert.InGateIdeal.main_arg2) = m ((c.tc : Thread Cert.InGateIdeal.nD Cert.InGateIdeal.τ).loc Cert.InGateIdeal.main_arg2))
      ∧ θ_run (Cert.InGateRefIdeal.defs (F := Ideal)) (onTc (τ := Cert.InGateRefIdeal.τ) (Cert.InGateRefIdeal.main (F := Ideal))) ⟨m', fun _ => 0, g'⟩ (fun r => ∀ c : Dev Cert.InGateRefIdeal.nD,
          r.2.mem ((c.tc : Thread Cert.InGateRefIdeal.nD Cert.InGateRefIdeal.τ).loc Cert.InGateRefIdeal.main_v15) = v0 c
          ∧ r.2.mem ((c.tc : Thread Cert.InGateRefIdeal.nD Cert.InGateRefIdeal.τ).loc Cert.InGateRefIdeal.main_arg0) = m' ((c.tc : Thread Cert.InGateRefIdeal.nD Cert.InGateRefIdeal.τ).loc Cert.InGateRefIdeal.main_arg0)
          ∧ r.2.mem ((c.tc : Thread Cert.InGateRefIdeal.nD Cert.InGateRefIdeal.τ).loc Cert.InGateRefIdeal.main_arg1) = m' ((c.tc : Thread Cert.InGateRefIdeal.nD Cert.InGateRefIdeal.τ).loc Cert.InGateRefIdeal.main_arg1)
          ∧ r.2.mem ((c.tc : Thread Cert.InGateRefIdeal.nD Cert.InGateRefIdeal.τ).loc Cert.InGateRefIdeal.main_arg2) = m' ((c.tc : Thread Cert.InGateRefIdeal.nD Cert.InGateRefIdeal.τ).loc Cert.InGateRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v30) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_Gdn_GdnIdeal : Prop :=
  True

def algebraic_GdnIdeal_GdnRefIdeal [hGdnIdeal : Cert.GdnIdeal.Facts] [hGdnRefIdeal : Cert.GdnRefIdeal.Facts] : Prop :=
  ∀ (m : (ℓ : Loc Cert.GdnIdeal.nD Cert.GdnIdeal.τ Cert.GdnIdeal.sig) → Buf (Elt Ideal) ℓ) (g : Dev Cert.GdnIdeal.nD → PrngReg)
    (m' : (ℓ : Loc Cert.GdnRefIdeal.nD Cert.GdnRefIdeal.τ Cert.GdnRefIdeal.sig) → Buf (Elt Ideal) ℓ) (g' : Dev Cert.GdnRefIdeal.nD → PrngReg), Pre_GdnIdeal m →
    (∀ c : Dev Cert.GdnIdeal.nD,
      m' ((c.tc : Thread Cert.GdnRefIdeal.nD Cert.GdnRefIdeal.τ).loc Cert.GdnRefIdeal.main_arg0) = m ((c.tc : Thread Cert.GdnIdeal.nD Cert.GdnIdeal.τ).loc Cert.GdnIdeal.main_arg0)
      ∧ m' ((c.tc : Thread Cert.GdnRefIdeal.nD Cert.GdnRefIdeal.τ).loc Cert.GdnRefIdeal.main_arg1) = m ((c.tc : Thread Cert.GdnIdeal.nD Cert.GdnIdeal.τ).loc Cert.GdnIdeal.main_arg1)
      ∧ m' ((c.tc : Thread Cert.GdnRefIdeal.nD Cert.GdnRefIdeal.τ).loc Cert.GdnRefIdeal.main_arg2) = m ((c.tc : Thread Cert.GdnIdeal.nD Cert.GdnIdeal.τ).loc Cert.GdnIdeal.main_arg2)
      ∧ m' ((c.tc : Thread Cert.GdnRefIdeal.nD Cert.GdnRefIdeal.τ).loc Cert.GdnRefIdeal.main_arg3) = m ((c.tc : Thread Cert.GdnIdeal.nD Cert.GdnIdeal.τ).loc Cert.GdnIdeal.main_arg3)
      ∧ m' ((c.tc : Thread Cert.GdnRefIdeal.nD Cert.GdnRefIdeal.τ).loc Cert.GdnRefIdeal.main_arg4) = m ((c.tc : Thread Cert.GdnIdeal.nD Cert.GdnIdeal.τ).loc Cert.GdnIdeal.main_arg4)
      ∧ m' ((c.tc : Thread Cert.GdnRefIdeal.nD Cert.GdnRefIdeal.τ).loc Cert.GdnRefIdeal.main_arg5) = m ((c.tc : Thread Cert.GdnIdeal.nD Cert.GdnIdeal.τ).loc Cert.GdnIdeal.main_arg5)) →
    ∃ (v0 : (c : Dev Cert.GdnIdeal.nD) → Buf (Elt Ideal) ((c.tc : Thread Cert.GdnIdeal.nD Cert.GdnIdeal.τ).loc Cert.GdnIdeal.main_v11)),
      θ_run (Cert.GdnIdeal.defs (F := Ideal)) (onTc (τ := Cert.GdnIdeal.τ) (Cert.GdnIdeal.main (F := Ideal))) ⟨m, fun _ => 0, g⟩ (fun r => ∀ c : Dev Cert.GdnIdeal.nD,
          r.2.mem ((c.tc : Thread Cert.GdnIdeal.nD Cert.GdnIdeal.τ).loc Cert.GdnIdeal.main_v11) = v0 c
          ∧ r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
          ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
          ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
          ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
          ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
          ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5))
      ∧ θ_run (Cert.GdnRefIdeal.defs (F := Ideal)) (onTc (τ := Cert.GdnRefIdeal.τ) (Cert.GdnRefIdeal.main (F := Ideal))) ⟨m', fun _ => 0, g'⟩ (fun r => ∀ c : Dev Cert.GdnRefIdeal.nD,
          r.2.mem ((c.tc : Thread Cert.GdnRefIdeal.nD Cert.GdnRefIdeal.τ).loc Cert.GdnRefIdeal.main_v417) = v0 c
          ∧ r.2.mem ((c.tc : Thread Cert.GdnRefIdeal.nD Cert.GdnRefIdeal.τ).loc Cert.GdnRefIdeal.main_arg0) = m' ((c.tc : Thread Cert.GdnRefIdeal.nD Cert.GdnRefIdeal.τ).loc Cert.GdnRefIdeal.main_arg0)
          ∧ r.2.mem ((c.tc : Thread Cert.GdnRefIdeal.nD Cert.GdnRefIdeal.τ).loc Cert.GdnRefIdeal.main_arg1) = m' ((c.tc : Thread Cert.GdnRefIdeal.nD Cert.GdnRefIdeal.τ).loc Cert.GdnRefIdeal.main_arg1)
          ∧ r.2.mem ((c.tc : Thread Cert.GdnRefIdeal.nD Cert.GdnRefIdeal.τ).loc Cert.GdnRefIdeal.main_arg2) = m' ((c.tc : Thread Cert.GdnRefIdeal.nD Cert.GdnRefIdeal.τ).loc Cert.GdnRefIdeal.main_arg2)
          ∧ r.2.mem ((c.tc : Thread Cert.GdnRefIdeal.nD Cert.GdnRefIdeal.τ).loc Cert.GdnRefIdeal.main_arg3) = m' ((c.tc : Thread Cert.GdnRefIdeal.nD Cert.GdnRefIdeal.τ).loc Cert.GdnRefIdeal.main_arg3)
          ∧ r.2.mem ((c.tc : Thread Cert.GdnRefIdeal.nD Cert.GdnRefIdeal.τ).loc Cert.GdnRefIdeal.main_arg4) = m' ((c.tc : Thread Cert.GdnRefIdeal.nD Cert.GdnRefIdeal.τ).loc Cert.GdnRefIdeal.main_arg4)
          ∧ r.2.mem ((c.tc : Thread Cert.GdnRefIdeal.nD Cert.GdnRefIdeal.τ).loc Cert.GdnRefIdeal.main_arg5) = m' ((c.tc : Thread Cert.GdnRefIdeal.nD Cert.GdnRefIdeal.τ).loc Cert.GdnRefIdeal.main_arg5))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def Claim : Prop :=
  ∃ (hAttn : Cert.Attn.Facts) (hAttnIdeal : Cert.AttnIdeal.Facts) (hAttnRefIdeal : Cert.AttnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hInSb : Cert.InSb.Facts) (hInSbIdeal : Cert.InSbIdeal.Facts) (hInSbRefIdeal : Cert.InSbRefIdeal.Facts) (hInMain : Cert.InMain.Facts) (hInMainIdeal : Cert.InMainIdeal.Facts) (hInMainRefIdeal : Cert.InMainRefIdeal.Facts) (hInGate : Cert.InGate.Facts) (hInGateIdeal : Cert.InGateIdeal.Facts) (hInGateRefIdeal : Cert.InGateRefIdeal.Facts) (hConv : Cert.Conv.Facts) (hConvIdeal : Cert.ConvIdeal.Facts) (hConvRefIdeal : Cert.ConvRefIdeal.Facts) (hGdn : Cert.Gdn.Facts) (hGdnIdeal : Cert.GdnIdeal.Facts) (hGdnRefIdeal : Cert.GdnRefIdeal.Facts) (hFinal : Cert.Final.Facts) (hFinalIdeal : Cert.FinalIdeal.Facts) (hFinalRefIdeal : Cert.FinalRefIdeal.Facts) (hPre_qk_finite : Cert.Pre_qk_finite.Facts),
    quiescent_Attn (hAttn := hAttn)
    ∧ quiescent_AttnIdeal (hAttnIdeal := hAttnIdeal)
    ∧ quiescent_AttnIdeal_pre_qk_finite (hAttnIdeal := hAttnIdeal) (hPre_qk_finite := hPre_qk_finite)
    ∧ quiescent_AttnRefIdeal (hAttnRefIdeal := hAttnRefIdeal)
    ∧ quiescent_AttnRefIdeal_pre_qk_finite (hAttnRefIdeal := hAttnRefIdeal) (hPre_qk_finite := hPre_qk_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_InSb (hInSb := hInSb)
    ∧ quiescent_InSbIdeal (hInSbIdeal := hInSbIdeal)
    ∧ quiescent_InSbRefIdeal (hInSbRefIdeal := hInSbRefIdeal)
    ∧ quiescent_InMain (hInMain := hInMain)
    ∧ quiescent_InMainIdeal (hInMainIdeal := hInMainIdeal)
    ∧ quiescent_InMainRefIdeal (hInMainRefIdeal := hInMainRefIdeal)
    ∧ quiescent_InGate (hInGate := hInGate)
    ∧ quiescent_InGateIdeal (hInGateIdeal := hInGateIdeal)
    ∧ quiescent_InGateRefIdeal (hInGateRefIdeal := hInGateRefIdeal)
    ∧ quiescent_Conv (hConv := hConv)
    ∧ quiescent_ConvIdeal (hConvIdeal := hConvIdeal)
    ∧ quiescent_ConvRefIdeal (hConvRefIdeal := hConvRefIdeal)
    ∧ quiescent_Gdn (hGdn := hGdn)
    ∧ quiescent_GdnIdeal (hGdnIdeal := hGdnIdeal)
    ∧ quiescent_GdnRefIdeal (hGdnRefIdeal := hGdnRefIdeal)
    ∧ quiescent_Final (hFinal := hFinal)
    ∧ quiescent_FinalIdeal (hFinalIdeal := hFinalIdeal)
    ∧ quiescent_FinalRefIdeal (hFinalRefIdeal := hFinalRefIdeal)
    ∧ preserves_Attn_AttnIdeal
    ∧ algebraic_AttnIdeal_AttnRefIdeal_pre_qk_finite (hAttnIdeal := hAttnIdeal) (hAttnRefIdeal := hAttnRefIdeal) (hPre_qk_finite := hPre_qk_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_InSb_InSbIdeal
    ∧ algebraic_InSbIdeal_InSbRefIdeal (hInSbIdeal := hInSbIdeal) (hInSbRefIdeal := hInSbRefIdeal)
    ∧ preserves_InMain_InMainIdeal
    ∧ algebraic_InMainIdeal_InMainRefIdeal (hInMainIdeal := hInMainIdeal) (hInMainRefIdeal := hInMainRefIdeal)
    ∧ preserves_InGate_InGateIdeal
    ∧ algebraic_InGateIdeal_InGateRefIdeal (hInGateIdeal := hInGateIdeal) (hInGateRefIdeal := hInGateRefIdeal)
    ∧ preserves_Conv_ConvIdeal
    ∧ algebraic_ConvIdeal_ConvRefIdeal (hConvIdeal := hConvIdeal) (hConvRefIdeal := hConvRefIdeal)
    ∧ preserves_Gdn_GdnIdeal
    ∧ algebraic_GdnIdeal_GdnRefIdeal (hGdnIdeal := hGdnIdeal) (hGdnRefIdeal := hGdnRefIdeal)
    ∧ preserves_Final_FinalIdeal
    ∧ algebraic_FinalIdeal_FinalRefIdeal (hFinalIdeal := hFinalIdeal) (hFinalRefIdeal := hFinalRefIdeal)
-- ==== Pre_qk_finite.lean ====
abbrev S16384x2304 : Shape := ⟨2, ![16384, 2304]⟩
abbrev S16384x1536 : Shape := ⟨2, ![16384, 1536]⟩
abbrev S_ : Shape := ⟨0, ![]⟩

class Facts : Prop where
  slices_S16384x2304_S16384x1536_0_0 : S16384x2304.Slices ![0, 0] S16384x1536
  bitsLt_bf16_f32 : FTy.bits .bf16 < FTy.bits .f32
  bcast_S_S16384x1536 : S_.BroadcastsInDim S16384x1536 (![] : Fin 0 → Fin S16384x1536.rank)
  reducesTo_S16384x1536_S_d0_1 : S16384x1536.ReducesTo [0, 1] S_
  h_S_ : 0 < S_.numel

variable [Facts]

def fn {F : FTy → Type} [FloatOps F] (main_arg0 : FVec F S16384x2304 .bf16) : IVec S_ 1 :=
  let main_v0 : FVec F S16384x1536 .bf16 := (extractStridedSlice S16384x1536 ![0, 0] · slices_S16384x2304_S16384x1536_0_0) main_arg0
  let main_v1 : FVec F S16384x1536 .f32 := (extf .f32 · bitsLt_bf16_f32) main_v0
  let main_v2 : FVec F S16384x1536 .f32 := Host.absf main_v1
  let main_cst : FVec F S_ .f32 := constant S_ .f32 0x7F800000#32
  let main_v3 : FVec F S16384x1536 .f32 := broadcastInDim S16384x1536 ![] bcast_S_S16384x1536 main_cst
  let main_v4 : IVec S16384x1536 1 := cmpf .olt main_v2 main_v3
  let main_c : IVec S_ 1 := constantI S_ 1 1#1
  let main_v5 : IVec S_ 1 := (fun x v => Host.reduce IntOp.andi x v reducesTo_S16384x1536_S_d0_1 h_S_) main_v4 main_c
  main_v5
-- ==== Attn.lean ====
abbrev S16384x2304 : Shape := ⟨2, ![16384, 2304]⟩
abbrev S16384x768 : Shape := ⟨2, ![16384, 768]⟩
abbrev S256x128 : Shape := ⟨2, ![256, 128]⟩
abbrev S4096x128 : Shape := ⟨2, ![4096, 128]⟩
abbrev S256x256 : Shape := ⟨2, ![256, 256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S16384x2304, .bf16⟩
  | .hbm, ⟨1, _⟩ => ⟨S16384x768, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | _, _ => ⟨S16384x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 6, 16], ![false, false, false]⟩

def k0_mult1 (i : grid0.Coords) : BitVec 32 :=
  let arg2 : BitVec 32 := BitVec.ofNat 32 (i 2).val
  let c256_i32 : BitVec 32 := 256#32
  let v11 : BitVec 32 := Scalar.muli arg2 c256_i32
  v11
def k0_off1 (i : grid0.Coords) : Fin 2 → Nat :=
  let arg2 : BitVec 32 := BitVec.ofNat 32 (i 2).val
  let c256_i32 : BitVec 32 := 256#32
  let v11 : BitVec 32 := Scalar.muli arg2 c256_i32
  let v12 : BitVec 32 := v11
  let v13 : Index := Scalar.indexCast v12
  let c0_4 : Index := 0#32
  ![v13.toNat, 0]
@[reducible] def k0_t1_loop (i : grid0.Coords) : Scf.Loop 32 :=
  let c0_i32 : BitVec 32 := 0#32
  let arg2 : BitVec 32 := BitVec.ofNat 32 (i 2).val
  let v47 : BitVec 32 := Scalar.subi arg2 c0_i32
  let c1_i32 : BitVec 32 := 1#32
  let v49 : BitVec 32 := Scalar.divsi v47 c1_i32
  let v50 : BitVec 32 := Scalar.muli v49 c1_i32
  let v51 : BitVec 32 := Scalar.addi c0_i32 v50
  let c1_i32_15 : BitVec 32 := 1#32
  ⟨c0_i32, v51, c1_i32_15⟩
def k0_mult2 (i : grid0.Coords) (k0_t1 : Fin (k0_t1_loop i).trips) : BitVec 32 :=
  let arg2 : BitVec 32 := BitVec.ofNat 32 (i 2).val
  let c1_i32_19 : BitVec 32 := 1#32
  let v56 : BitVec 32 := Scalar.subi arg2 c1_i32_19
  let c0_i32 : BitVec 32 := 0#32
  let c1_i32_15 : BitVec 32 := 1#32
  let arg7 : BitVec 32 := Scf.iv c0_i32 c1_i32_15 k0_t1
  let v57 : BitVec 32 := Scalar.subi v56 arg7
  let c256_i32_20 : BitVec 32 := 256#32
  let v58 : BitVec 32 := Scalar.muli v57 c256_i32_20
  v58
def k0_off2 (i : grid0.Coords) (k0_t1 : Fin (k0_t1_loop i).trips) : Fin 2 → Nat :=
  let arg2 : BitVec 32 := BitVec.ofNat 32 (i 2).val
  let c1_i32_19 : BitVec 32 := 1#32
  let v56 : BitVec 32 := Scalar.subi arg2 c1_i32_19
  let c0_i32 : BitVec 32 := 0#32
  let c1_i32_15 : BitVec 32 := 1#32
  let arg7 : BitVec 32 := Scf.iv c0_i32 c1_i32_15 k0_t1
  let v57 : BitVec 32 := Scalar.subi v56 arg7
  let c256_i32_20 : BitVec 32 := 256#32
  let v58 : BitVec 32 := Scalar.muli v57 c256_i32_20
  let v59 : BitVec 32 := v58
  let v60 : Index := Scalar.indexCast v59
  let c0_21 : Index := 0#32
  ![v60.toNat, 0]
@[reducible] def k0_t2_loop (i : grid0.Coords) : Scf.Loop 32 :=
  let c0_i32 : BitVec 32 := 0#32
  let arg2 : BitVec 32 := BitVec.ofNat 32 (i 2).val
  let v47 : BitVec 32 := Scalar.subi arg2 c0_i32
  let c1_i32 : BitVec 32 := 1#32
  let v49 : BitVec 32 := Scalar.divsi v47 c1_i32
  let v50 : BitVec 32 := Scalar.muli v49 c1_i32
  let v51 : BitVec 32 := Scalar.addi c0_i32 v50
  let v48 : BitVec 32 := Scalar.addi c0_i32 v47
  let c1_i32_16 : BitVec 32 := 1#32
  ⟨v51, v48, c1_i32_16⟩
def k0_mult3 (i : grid0.Coords) (k0_t2 : Fin (k0_t2_loop i).trips) : BitVec 32 :=
  let arg2 : BitVec 32 := BitVec.ofNat 32 (i 2).val
  let c1_i32_19 : BitVec 32 := 1#32
  let v56 : BitVec 32 := Scalar.subi arg2 c1_i32_19
  let c0_i32 : BitVec 32 := 0#32
  let v47 : BitVec 32 := Scalar.subi arg2 c0_i32
  let c1_i32 : BitVec 32 := 1#32
  let v49 : BitVec 32 := Scalar.divsi v47 c1_i32
  let v50 : BitVec 32 := Scalar.muli v49 c1_i32
  let v51 : BitVec 32 := Scalar.addi c0_i32 v50
  let c1_i32_16 : BitVec 32 := 1#32
  let arg7 : BitVec 32 := Scf.iv v51 c1_i32_16 k0_t2
  let v57 : BitVec 32 := Scalar.subi v56 arg7
  let c256_i32_20 : BitVec 32 := 256#32
  let v58 : BitVec 32 := Scalar.muli v57 c256_i32_20
  v58
def k0_off3 (i : grid0.Coords) (k0_t2 : Fin (k0_t2_loop i).trips) : Fin 2 → Nat :=
  let arg2 : BitVec 32 := BitVec.ofNat 32 (i 2).val
  let c1_i32_19 : BitVec 32 := 1#32
  let v56 : BitVec 32 := Scalar.subi arg2 c1_i32_19
  let c0_i32 : BitVec 32 := 0#32
  let v47 : BitVec 32 := Scalar.subi arg2 c0_i32
  let c1_i32 : BitVec 32 := 1#32
  let v49 : BitVec 32 := Scalar.divsi v47 c1_i32
  let v50 : BitVec 32 := Scalar.muli v49 c1_i32
  let v51 : BitVec 32 := Scalar.addi c0_i32 v50
  let c1_i32_16 : BitVec 32 := 1#32
  let arg7 : BitVec 32 := Scf.iv v51 c1_i32_16 k0_t2
  let v57 : BitVec 32 := Scalar.subi v56 arg7
  let c256_i32_20 : BitVec 32 := 256#32
  let v58 : BitVec 32 := Scalar.muli v57 c256_i32_20
  let v59 : BitVec 32 := v58
  let v60 : Index := Scalar.indexCast v59
  let c0_21 : Index := 0#32
  ![v60.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S16384x2304 : Shape := ⟨2, ![16384, 2304]⟩
abbrev S4x4096x2304 : Shape := ⟨3, ![4, 4096, 2304]⟩
abbrev S4x4096x768 : Shape := ⟨3, ![4, 4096, 768]⟩
abbrev S4x4096x6x128 : Shape := ⟨4, ![4, 4096, 6, 128]⟩
abbrev S4096 : Shape := ⟨1, ![4096]⟩
abbrev S4x6x4096x4096 : Shape := ⟨4, ![4, 6, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x6x128x4096 : Shape := ⟨4, ![4, 6, 128, 4096]⟩
abbrev S16384x768 : Shape := ⟨2, ![16384, 768]⟩

abbrev nBuf : Space → Nat
  | .hbm => 70
  | .vmem => 0
  | .smem => 0
  | _ => 0

abbrev bufTy : (tb : Table) → Fin (tcTables nBuf tb) → BufTy
  | .hbm, ⟨0, _⟩ => ⟨S16384x2304, .bf16⟩
  | .hbm, ⟨1, _⟩ => ⟨S16384x2304, .f32⟩
  | .hbm, ⟨2, _⟩ => ⟨S4x4096x2304, .f32⟩
  | .hbm, ⟨3, _⟩ => ⟨S4x4096x768, .f32⟩
  | .hbm, ⟨4, _⟩ => ⟨S4x4096x768, .f32⟩
  | .hbm, ⟨5, _⟩ => ⟨S4x4096x768, .f32⟩
  | .hbm, ⟨6, _⟩ => ⟨S4x4096x6x128, .f32⟩
  | .hbm, ⟨7, _⟩ => ⟨S4x4096x6x128, .f32⟩
  | .hbm, ⟨8, _⟩ => ⟨S4x4096x6x128, .f32⟩
  | .hbm, ⟨9, _⟩ => ⟨S4096, .i32⟩
  | .hbm, ⟨10, _⟩ => ⟨S4x6x4096x4096, .f32⟩
  | .hbm, ⟨11, _⟩ => ⟨S_, .f32⟩
  | .hbm, ⟨12, _⟩ => ⟨S4x6x4096x4096, .f32⟩
  | .hbm, ⟨13, _⟩ => ⟨S4x6x4096x4096, .f32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S4x6x4096x4096, .f32⟩
  | .hbm, ⟨21, _⟩ => ⟨S4x6x4096x4096, .f32⟩
  | .hbm, ⟨22, _⟩ => ⟨S4x6x4096x4096, .f32⟩
  | .hbm, ⟨23, _⟩ => ⟨S4x6x4096x4096, .f32⟩
  | .hbm, ⟨24, _⟩ => ⟨S4x6x4096x4096, .i1⟩
  | .hbm, ⟨25, _⟩ => ⟨S4x6x4096x4096, .f32⟩
  | .hbm, ⟨26, _⟩ => ⟨S4x6x4096x4096, .f32⟩
  | .hbm, ⟨27, _⟩ => ⟨S4x6x4096x4096, .f32⟩
  | .hbm, ⟨28, _⟩ => ⟨S4x6x4096x4096, .f32⟩
  | .hbm, ⟨29, _⟩ => ⟨S4x6x4096x4096, .f32⟩
  | .hbm, ⟨30, _⟩ => ⟨S4x6x4096x4096, .f32⟩
  | .hbm, ⟨31, _⟩ => ⟨S4x6x4096x4096, .f32⟩
  | .hbm, ⟨32, _⟩ => ⟨S4x6x4096x4096, .f32⟩
  | .hbm, ⟨33, _⟩ => ⟨S4x6x4096x4096, .f32⟩
  | .hbm, ⟨34, _⟩ => ⟨S_, .f32⟩
  | .hbm, ⟨35, _⟩ => ⟨S_, .f32⟩
  | .hbm, ⟨36, _⟩ => ⟨S4x6x4096x4096, .i1⟩
  | .hbm, ⟨37, _⟩ => ⟨S4x6x4096x4096, .f32⟩
  | .hbm, ⟨38, _⟩ => ⟨S4x6x4096x4096, .f32⟩
  | .hbm, ⟨39, _⟩ => ⟨S_, .f32⟩
  | .hbm, ⟨40, _⟩ => ⟨S_, .f32⟩
  | .hbm, ⟨41, _⟩ => ⟨S4x6x4096x4096, .f32⟩
  | .hbm, ⟨42, _⟩ => ⟨S4x6x4096x4096, .f32⟩
  | .hbm, ⟨43, _⟩ => ⟨S4x6x4096x4096, .f32⟩
  | .hbm, ⟨44, _⟩ => ⟨S_, .f32⟩
  | .hbm, ⟨45, _⟩ => ⟨S4x6x4096x4096, .f32⟩
  | .hbm, ⟨46, _⟩ => ⟨S4x6x4096x4096, .f32⟩
  | .hbm, ⟨47, _⟩ => ⟨S4x6x4096x4096, .f32⟩
  | .hbm, ⟨48, _⟩ => ⟨S4x6x4096x4096, .f32⟩
  | .hbm, ⟨49, _⟩ => ⟨S4x6x4096x4096, .i1⟩
  | .hbm, ⟨50, _⟩ => ⟨S4x6x4096x4096, .f32⟩
  | .hbm, ⟨51, _⟩ => ⟨S4x6x4096x4096, .f32⟩
  | .hbm, ⟨52, _⟩ => ⟨S4x6x4096x4096, .f32⟩
  | .hbm, ⟨53, _⟩ => ⟨S4x6x4096x4096, .f32⟩
  | .hbm, ⟨54, _⟩ => ⟨S4x6x4096x4096, .f32⟩
  | .hbm, ⟨55, _⟩ => ⟨S4x6x4096x4096, .f32⟩
  | .hbm, ⟨56, _⟩ => ⟨S4x6x4096x4096, .f32⟩
  | .hbm, ⟨57, _⟩ => ⟨S4x6x4096x4096, .f32⟩
  | .hbm, ⟨58, _⟩ => ⟨S4x6x4096x4096, .f32⟩
  | .hbm, ⟨59, _⟩ => ⟨S4x6x4096x4096, .f32⟩
  | .hbm, ⟨60, _⟩ => ⟨S4x6x4096x4096, .f32⟩
  | .hbm, ⟨61, _⟩ => ⟨S_, .f32⟩
  | .hbm, ⟨62, _⟩ => ⟨S_, .f32⟩
  | .hbm, ⟨63, _⟩ => ⟨S4x6x4096x4096, .i1⟩
  | .hbm, ⟨64, _⟩ => ⟨S4x6x4096x4096, .f32⟩
  | .hbm, ⟨65, _⟩ => ⟨S4x6x4096x4096, .f32⟩
  | .hbm, ⟨66, _⟩ => ⟨S4x6x128x4096, .f32⟩
  | .hbm, ⟨67, _⟩ => ⟨S4x4096x6x128, .f32⟩
  | .hbm, ⟨68, _⟩ => ⟨S16384x768, .f32⟩
  | .hbm, ⟨69, _⟩ => ⟨S16384x768, .bf16⟩
  | _, _ => ⟨S16384x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v19 : Ref sig .tc := ⟨.hbm, 38, rfl⟩
abbrev main_call2_cst : Ref sig .tc := ⟨.hbm, 39, rfl⟩
abbrev main_call2_v0 : Ref sig .tc := ⟨.hbm, 40, rfl⟩
abbrev main_v20 : Ref sig .tc := ⟨.hbm, 41, rfl⟩
abbrev main_v21 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩

abbrev nD : Nat := 1
abbrev τ : Topo := Topo.v7x

variable {F : FTy → Type} [FloatOps F]
-- ==== Up.lean ====
abbrev S16384x2048 : Shape := ⟨2, ![16384, 2048]⟩
abbrev S2048 : Shape := ⟨1, ![2048]⟩
abbrev S2048x8192 : Shape := ⟨2, ![2048, 8192]⟩
abbrev S1x2048 : Shape := ⟨2, ![1, 2048]⟩
abbrev S16384x8192 : Shape := ⟨2, ![16384, 8192]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S2048x8192, .bf16⟩
  | .hbm, ⟨4, _⟩ => ⟨S1x2048, .f32⟩
  | .hbm, ⟨5, _⟩ => ⟨S16384x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S16384x2048 : Shape := ⟨2, ![16384, 2048]⟩
abbrev S2048 : Shape := ⟨1, ![2048]⟩
abbrev S2048x8192 : Shape := ⟨2, ![2048, 8192]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x8192, .f32⟩
  | .hbm, ⟨20, _⟩ => ⟨S_, .f32⟩
  | .hbm, ⟨21, _⟩ => ⟨S16384x8192, .f32⟩
  | .hbm, ⟨22, _⟩ => ⟨S16384x8192, .f32⟩
  | .hbm, ⟨23, _⟩ => ⟨S16384x8192, .f32⟩
  | .hbm, ⟨24, _⟩ => ⟨S16384x8192, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Down.lean ====
abbrev S16384x8192 : Shape := ⟨2, ![16384, 8192]⟩
abbrev S8192x2048 : Shape := ⟨2, ![8192, 2048]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x8192, .bf16⟩
  | .hbm, ⟨1, _⟩ => ⟨S8192x2048, .f32⟩
  | .hbm, ⟨2, _⟩ => ⟨S16384x2048, .f32⟩
  | .hbm, ⟨3, _⟩ => ⟨S8192x2048, .bf16⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S16384x8192 : Shape := ⟨2, ![16384, 8192]⟩
abbrev S8192x2048 : Shape := ⟨2, ![8192, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S8192x2048, .f32⟩
  | .hbm, ⟨2, _⟩ => ⟨S16384x2048, .f32⟩
  | .hbm, ⟨3, _⟩ => ⟨S16384x8192, .f32⟩
  | .hbm, ⟨4, _⟩ => ⟨S16384x2048, .f32⟩
  | .hbm, ⟨5, _⟩ => ⟨S16384x2048, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Out.lean ====
abbrev S16384x768 : Shape := ⟨2, ![16384, 768]⟩
abbrev S16384x512 : Shape := ⟨2, ![16384, 512]⟩
abbrev S2048x2048 : Shape := ⟨2, ![2048, 2048]⟩
abbrev S16384x2048 : Shape := ⟨2, ![16384, 2048]⟩
abbrev S1024x768 : Shape := ⟨2, ![1024, 768]⟩
abbrev S1024x512 : Shape := ⟨2, ![1024, 512]⟩
abbrev S2048x1024 : Shape := ⟨2, ![2048, 1024]⟩
abbrev S1024x1024 : Shape := ⟨2, ![1024, 1024]⟩
abbrev S768x1024 : Shape := ⟨2, ![768, 1024]⟩
abbrev S512x1024 : Shape := ⟨2, ![512, 1024]⟩

abbrev nBuf : Space → Nat
  | .hbm => 7
  | .vmem => 12
  | .smem => 0
  | _ => 0

abbrev bufTy : (tb : Table) → Fin (tcTables nBuf tb) → BufTy
  | .hbm, ⟨0, _⟩ => ⟨S16384x768, .bf16⟩
  | .hbm, ⟨1, _⟩ => ⟨S16384x512, .bf16⟩
  | .hbm, ⟨2, _⟩ => ⟨S16384x768, .bf16⟩
  | .hbm, ⟨3, _⟩ => ⟨S2048x2048, .f32⟩
  | .hbm, ⟨4, _⟩ => ⟨S16384x2048, .f32⟩
  | .hbm, ⟨5, _⟩ => ⟨S2048x2048, .bf16⟩
  | .hbm, ⟨6, _⟩ => ⟨S16384x2048, .f32⟩
  | .local _ .vmem, ⟨0, _⟩ => ⟨S1024x768, .bf16⟩
  | .local _ .vmem, ⟨1, _⟩ => ⟨S1024x768, .bf16⟩
  | .local _ .vmem, ⟨2, _⟩ => ⟨S1024x512, .bf16⟩
  | .local _ .vmem, ⟨3, _⟩ => ⟨S1024x512, .bf16⟩
  | .local _ .vmem, ⟨4, _⟩ => ⟨S1024x768, .bf16⟩
  | .local _ .vmem, ⟨5, _⟩ => ⟨S1024x768, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutRefIdeal.lean ====
abbrev S16384x768 : Shape := ⟨2, ![16384, 768]⟩
abbrev S16384x512 : Shape := ⟨2, ![16384, 512]⟩
abbrev S2048x2048 : Shape := ⟨2, ![2048, 2048]⟩
abbrev S16384x2048 : Shape := ⟨2, ![16384, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S16384x512, .bf16⟩
  | .hbm, ⟨2, _⟩ => ⟨S16384x768, .bf16⟩
  | .hbm, ⟨3, _⟩ => ⟨S2048x2048, .f32⟩
  | .hbm, ⟨4, _⟩ => ⟨S16384x2048, .f32⟩
  | .hbm, ⟨5, _⟩ => ⟨S16384x768, .f32⟩
  | .hbm, ⟨6, _⟩ => ⟨S16384x512, .f32⟩
  | .hbm, ⟨7, _⟩ => ⟨S16384x768, .f32⟩
  | .hbm, ⟨8, _⟩ => ⟨S16384x2048, .f32⟩
  | .hbm, ⟨9, _⟩ => ⟨S16384x2048, .f32⟩
  | .hbm, ⟨10, _⟩ => ⟨S16384x2048, .f32⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== InSb.lean ====
abbrev S16384x2048 : Shape := ⟨2, ![16384, 2048]⟩
abbrev S2048 : Shape := ⟨1, ![2048]⟩
abbrev S2048x6924 : Shape := ⟨2, ![2048, 6924]⟩
abbrev S2048x2304 : Shape := ⟨2, ![2048, 2304]⟩
abbrev S1x2048 : Shape := ⟨2, ![1, 2048]⟩
abbrev S16384x2304 : Shape := ⟨2, ![16384, 2304]⟩
abbrev S1024x2048 : Shape := ⟨2, ![1024, 2048]⟩
abbrev S2048x1152 : Shape := ⟨2, ![2048, 1152]⟩
abbrev S1024x1152 : Shape := ⟨2, ![1024, 1152]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6924, .f32⟩
  | .hbm, ⟨3, _⟩ => ⟨S2048x2304, .f32⟩
  | .hbm, ⟨4, _⟩ => ⟨S2048x2304, .bf16⟩
  | .hbm, ⟨5, _⟩ => ⟨S1x2048, .f32⟩
  | .hbm, ⟨6, _⟩ => ⟨S16384x2304, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1152, .bf16⟩
  | .local _ .vmem, ⟨4, _⟩ => ⟨S2048x1152, .bf16⟩
  | .local _ .vmem, ⟨5, _⟩ => ⟨S1024x1152, .bf16⟩
  | .local _ .vmem, ⟨6, _⟩ => ⟨S1024x1152, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InSbRefIdeal.lean ====
abbrev S16384x2048 : Shape := ⟨2, ![16384, 2048]⟩
abbrev S2048 : Shape := ⟨1, ![2048]⟩
abbrev S2048x6924 : Shape := ⟨2, ![2048, 6924]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6924 : Shape := ⟨2, ![16384, 6924]⟩
abbrev S16384x2304 : Shape := ⟨2, ![16384, 2304]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6924, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x6924, .f32⟩
  | .hbm, ⟨20, _⟩ => ⟨S16384x2304, .f32⟩
  | .hbm, ⟨21, _⟩ => ⟨S16384x2304, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== InMain.lean ====
abbrev S16384x2048 : Shape := ⟨2, ![16384, 2048]⟩
abbrev S2048 : Shape := ⟨1, ![2048]⟩
abbrev S2048x6924 : Shape := ⟨2, ![2048, 6924]⟩
abbrev S2048x4608 : Shape := ⟨2, ![2048, 4608]⟩
abbrev S1x2048 : Shape := ⟨2, ![1, 2048]⟩
abbrev S16384x4608 : Shape := ⟨2, ![16384, 4608]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6924, .f32⟩
  | .hbm, ⟨3, _⟩ => ⟨S2048x4608, .f32⟩
  | .hbm, ⟨4, _⟩ => ⟨S2048x4608, .bf16⟩
  | .hbm, ⟨5, _⟩ => ⟨S1x2048, .f32⟩
  | .hbm, ⟨6, _⟩ => ⟨S16384x4608, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InMainRefIdeal.lean ====
abbrev S16384x2048 : Shape := ⟨2, ![16384, 2048]⟩
abbrev S2048 : Shape := ⟨1, ![2048]⟩
abbrev S2048x6924 : Shape := ⟨2, ![2048, 6924]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6924 : Shape := ⟨2, ![16384, 6924]⟩
abbrev S16384x4608 : Shape := ⟨2, ![16384, 4608]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6924, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x6924, .f32⟩
  | .hbm, ⟨20, _⟩ => ⟨S16384x4608, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InGate.lean ====
abbrev S16384x2048 : Shape := ⟨2, ![16384, 2048]⟩
abbrev S2048 : Shape := ⟨1, ![2048]⟩
abbrev S2048x6924 : Shape := ⟨2, ![2048, 6924]⟩
abbrev S_ : Shape := ⟨0, ![]⟩
abbrev S2048x128 : Shape := ⟨2, ![2048, 128]⟩
abbrev S2048x12 : Shape := ⟨2, ![2048, 12]⟩
abbrev S1 : Shape := ⟨1, ![1]⟩
abbrev S1x2048 : Shape := ⟨2, ![1, 2048]⟩
abbrev S16384x128 : Shape := ⟨2, ![16384, 128]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 12
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6924, .f32⟩
  | .hbm, ⟨3, _⟩ => ⟨S_, .bf16⟩
  | .hbm, ⟨4, _⟩ => ⟨S2048x128, .bf16⟩
  | .hbm, ⟨5, _⟩ => ⟨S2048x12, .f32⟩
  | .hbm, ⟨6, _⟩ => ⟨S2048x12, .bf16⟩
  | .hbm, ⟨7, _⟩ => ⟨S_, .i32⟩
  | .hbm, ⟨8, _⟩ => ⟨S1, .i32⟩
  | .hbm, ⟨9, _⟩ => ⟨S2048x128, .bf16⟩
  | .hbm, ⟨10, _⟩ => ⟨S1x2048, .f32⟩
  | .hbm, ⟨11, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x128, .bf16⟩
  | .local _ .vmem, ⟨4, _⟩ => ⟨S1024x128, .f32⟩
  | .local _ .vmem, ⟨5, _⟩ => ⟨S1024x128, .f32⟩
  | .local _ .vmem, ⟨6, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InGateRefIdeal.lean ====
abbrev S16384x2048 : Shape := ⟨2, ![16384, 2048]⟩
abbrev S2048 : Shape := ⟨1, ![2048]⟩
abbrev S2048x6924 : Shape := ⟨2, ![2048, 6924]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6924 : Shape := ⟨2, ![16384, 6924]⟩
abbrev S16384x12 : Shape := ⟨2, ![16384, 12]⟩
abbrev S16384x128 : Shape := ⟨2, ![16384, 128]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6924, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x6924, .f32⟩
  | .hbm, ⟨20, _⟩ => ⟨S16384x12, .f32⟩
  | .hbm, ⟨21, _⟩ => ⟨S_, .i32⟩
  | .hbm, ⟨22, _⟩ => ⟨S_, .f32⟩
  | .hbm, ⟨23, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Conv.lean ====
abbrev S16384x4608 : Shape := ⟨2, ![16384, 4608]⟩
abbrev S3x512 : Shape := ⟨2, ![3, 512]⟩
abbrev S16384x512 : Shape := ⟨2, ![16384, 512]⟩
abbrev S512x512 : Shape := ⟨2, ![512, 512]⟩
abbrev S8x512 : Shape := ⟨2, ![8, 512]⟩
abbrev S520x512 : Shape := ⟨2, ![520, 512]⟩
abbrev S1x512 : Shape := ⟨2, ![1, 512]⟩

abbrev nBuf : Space → Nat
  | .hbm => 3
  | .vmem => 14
  | .smem => 0
  | _ => 0

abbrev bufTy : (tb : Table) → Fin (tcTables nBuf tb) → BufTy
  | .hbm, ⟨0, _⟩ => ⟨S16384x4608, .f32⟩
  | .hbm, ⟨1, _⟩ => ⟨S3x512, .f32⟩
  | .hbm, ⟨2, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S3x512, .f32⟩
  | .local _ .vmem, ⟨11, _⟩ => ⟨S512x512, .bf16⟩
  | .local _ .vmem, ⟨12, _⟩ => ⟨S512x512, .bf16⟩
  | .local _ .vmem, ⟨13, _⟩ => ⟨S520x512, .f32⟩
  | _, _ => ⟨S16384x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c1_i32_0 : BitVec 32 := 1#32
  let c0_i32_1 : BitVec 32 := 0#32
  ![v4.toNat, c1_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c2_i32 : BitVec 32 := 2#32
  let c0_i32_0 : BitVec 32 := 0#32
  ![v4.toNat, c2_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvRefIdeal.lean ====
abbrev S16384x4608 : Shape := ⟨2, ![16384, 4608]⟩
abbrev S3x512 : Shape := ⟨2, ![3, 512]⟩
abbrev S4x4096x4608 : Shape := ⟨3, ![4, 4096, 4608]⟩
abbrev S4x4096x512 : Shape := ⟨3, ![4, 4096, 512]⟩
abbrev S_ : Shape := ⟨0, ![]⟩
abbrev S4x4098x512 : Shape := ⟨3, ![4, 4098, 512]⟩
abbrev S1x512 : Shape := ⟨2, ![1, 512]⟩
abbrev S512 : Shape := ⟨1, ![512]⟩
abbrev S1x1x512 : Shape := ⟨3, ![1, 1, 512]⟩
abbrev S16384x512 : Shape := ⟨2, ![16384, 512]⟩

abbrev nBuf : Space → Nat
  | .hbm => 36
  | .vmem => 0
  | .smem => 0
  | _ => 0

abbrev bufTy : (tb : Table) → Fin (tcTables nBuf tb) → BufTy
  | .hbm, ⟨0, _⟩ => ⟨S16384x4608, .f32⟩
  | .hbm, ⟨1, _⟩ => ⟨S3x512, .f32⟩
  | .hbm, ⟨2, _⟩ => ⟨S4x4096x4608, .f32⟩
  | .hbm, ⟨3, _⟩ => ⟨S4x4096x512, .f32⟩
  | .hbm, ⟨4, _⟩ => ⟨S4x4096x512, .f32⟩
  | .hbm, ⟨5, _⟩ => ⟨S4x4096x512, .f32⟩
  | .hbm, ⟨6, _⟩ => ⟨S4x4096x512, .f32⟩
  | .hbm, ⟨7, _⟩ => ⟨S_, .i32⟩
  | .hbm, ⟨8, _⟩ => ⟨S_, .f32⟩
  | .hbm, ⟨9, _⟩ => ⟨S4x4098x512, .f32⟩
  | .hbm, ⟨10, _⟩ => ⟨S1x512, .f32⟩
  | .hbm, ⟨11, _⟩ => ⟨S512, .f32⟩
  | .hbm, ⟨12, _⟩ => ⟨S4x4096x512, .f32⟩
  | .hbm, ⟨13, _⟩ => ⟨S1x1x512, .f32⟩
  | .hbm, ⟨14, _⟩ => ⟨S4x4096x512, .f32⟩
  | .hbm, ⟨15, _⟩ => ⟨S4x4096x512, .f32⟩
  | .hbm, ⟨16, _⟩ => ⟨S_, .f32⟩
  | .hbm, ⟨17, _⟩ => ⟨S4x4096x512, .f32⟩
  | .hbm, ⟨18, _⟩ => ⟨S4x4096x512, .f32⟩
  | .hbm, ⟨19, _⟩ => ⟨S1x512, .f32⟩
  | .hbm, ⟨20, _⟩ => ⟨S512, .f32⟩
  | .hbm, ⟨21, _⟩ => ⟨S4x4096x512, .f32⟩
  | .hbm, ⟨22, _⟩ => ⟨S1x1x512, .f32⟩
  | .hbm, ⟨23, _⟩ => ⟨S4x4096x512, .f32⟩
  | .hbm, ⟨24, _⟩ => ⟨S4x4096x512, .f32⟩
  | .hbm, ⟨25, _⟩ => ⟨S4x4096x512, .f32⟩
  | .hbm, ⟨26, _⟩ => ⟨S1x512, .f32⟩
  | .hbm, ⟨27, _⟩ => ⟨S512, .f32⟩
  | .hbm, ⟨28, _⟩ => ⟨S4x4096x512, .f32⟩
  | .hbm, ⟨29, _⟩ => ⟨S1x1x512, .f32⟩
  | .hbm, ⟨30, _⟩ => ⟨S4x4096x512, .f32⟩
  | .hbm, ⟨31, _⟩ => ⟨S4x4096x512, .f32⟩
  | .hbm, ⟨32, _⟩ => ⟨S4x4096x512, .f32⟩
  | .hbm, ⟨33, _⟩ => ⟨S4x4096x512, .f32⟩
  | .hbm, ⟨34, _⟩ => ⟨S16384x512, .f32⟩
  | .hbm, ⟨35, _⟩ => ⟨S16384x512, .bf16⟩
  | _, _ => ⟨S16384x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== Gdn.lean ====
abbrev S16384x4608 : Shape := ⟨2, ![16384, 4608]⟩
abbrev S16384x128 : Shape := ⟨2, ![16384, 128]⟩
abbrev S4x2304 : Shape := ⟨2, ![4, 2304]⟩
abbrev S6 : Shape := ⟨1, ![6]⟩
abbrev S128 : Shape := ⟨1, ![128]⟩
abbrev S_ : Shape := ⟨0, ![]⟩
abbrev S1x128 : Shape := ⟨2, ![1, 128]⟩
abbrev S1 : Shape := ⟨1, ![1]⟩
abbrev S2 : Shape := ⟨1, ![2]⟩
abbrev S16384x768 : Shape := ⟨2, ![16384, 768]⟩
abbrev S64x768 : Shape := ⟨2, ![64, 768]⟩
abbrev S8x768 : Shape := ⟨2, ![8, 768]⟩
abbrev S64x128 : Shape := ⟨2, ![64, 128]⟩
abbrev S4x768 : Shape := ⟨2, ![4, 768]⟩
abbrev S6x128x128 : Shape := ⟨3, ![6, 128, 128]⟩
abbrev S72x768 : Shape := ⟨2, ![72, 768]⟩
abbrev S1x768 : Shape := ⟨2, ![1, 768]⟩
abbrev S64x64 : Shape := ⟨2, ![64, 64]⟩
abbrev S128x64 : Shape := ⟨2, ![128, 64]⟩
abbrev S64 : Shape := ⟨1, ![64]⟩
abbrev S64x1 : Shape := ⟨2, ![64, 1]⟩
abbrev S1x64 : Shape := ⟨2, ![1, 64]⟩
abbrev S1x1 : Shape := ⟨2, ![1, 1]⟩
abbrev S64x256 : Shape := ⟨2, ![64, 256]⟩
abbrev S1x128x128 : Shape := ⟨3, ![1, 128, 128]⟩
abbrev S128x128 : Shape := ⟨2, ![128, 128]⟩

abbrev nBuf : Space → Nat
  | .hbm => 24
  | .vmem => 26
  | .smem => 0
  | _ => 0

abbrev bufTy : (tb : Table) → Fin (tcTables nBuf tb) → BufTy
  | .hbm, ⟨0, _⟩ => ⟨S16384x4608, .f32⟩
  | .hbm, ⟨1, _⟩ => ⟨S16384x128, .f32⟩
  | .hbm, ⟨2, _⟩ => ⟨S4x2304, .f32⟩
  | .hbm, ⟨3, _⟩ => ⟨S6, .f32⟩
  | .hbm, ⟨4, _⟩ => ⟨S6, .f32⟩
  | .hbm, ⟨5, _⟩ => ⟨S128, .f32⟩
  | .hbm, ⟨6, _⟩ => ⟨S_, .f32⟩
  | .hbm, ⟨7, _⟩ => ⟨S1x128, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S1x128, .f32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S1x128, .f32⟩
  | .hbm, ⟨23, _⟩ => ⟨S16384x768, .bf16⟩
  | .local _ .vmem, ⟨0, _⟩ => ⟨S64x768, .f32⟩
  | .local _ .vmem, ⟨1, _⟩ => ⟨S64x768, .f32⟩
  | .local _ .vmem, ⟨2, _⟩ => ⟨S64x768, .f32⟩
  | .local _ .vmem, ⟨3, _⟩ => ⟨S64x768, .f32⟩
  | .local _ .vmem, ⟨4, _⟩ => ⟨S64x768, .f32⟩
  | .local _ .vmem, ⟨5, _⟩ => ⟨S64x768, .f32⟩
  | .local _ .vmem, ⟨6, _⟩ => ⟨S64x768, .f32⟩
  | .local _ .vmem, ⟨7, _⟩ => ⟨S64x768, .f32⟩
  | .local _ .vmem, ⟨8, _⟩ => ⟨S8x768, .f32⟩
  | .local _ .vmem, ⟨9, _⟩ => ⟨S8x768, .f32⟩
  | .local _ .vmem, ⟨10, _⟩ => ⟨S8x768, .f32⟩
  | .local _ .vmem, ⟨11, _⟩ => ⟨S8x768, .f32⟩
  | .local _ .vmem, ⟨12, _⟩ => ⟨S8x768, .f32⟩
  | .local _ .vmem, ⟨13, _⟩ => ⟨S8x768, .f32⟩
  | .local _ .vmem, ⟨14, _⟩ => ⟨S64x128, .f32⟩
  | .local _ .vmem, ⟨15, _⟩ => ⟨S64x128, .f32⟩
  | .local _ .vmem, ⟨16, _⟩ => ⟨S4x768, .f32⟩
  | .local _ .vmem, ⟨17, _⟩ => ⟨S4x768, .f32⟩
  | .local _ .vmem, ⟨18, _⟩ => ⟨S4x768, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S64x768, .bf16⟩
  | .local _ .vmem, ⟨23, _⟩ => ⟨S64x768, .bf16⟩
  | .local _ .vmem, ⟨24, _⟩ => ⟨S6x128x128, .f32⟩
  | .local _ .vmem, ⟨25, _⟩ => ⟨S72x768, .f32⟩
  | _, _ => ⟨S16384x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c5_i32 : BitVec 32 := 5#32
  let c0_i32 : BitVec 32 := 0#32
  ![v1.toNat, c5_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c8_i32 : BitVec 32 := 8#32
  let v2 : BitVec 32 := Scalar.muli v1 c8_i32
  let c1_i32 : BitVec 32 := 1#32
  let v3 : BitVec 32 := Scalar.subi v2 c1_i32
  let c0_i32 : BitVec 32 := 0#32
  let v4 : BitVec 32 := Scalar.maxsi v3 c0_i32
  let c2_i32 : BitVec 32 := 2#32
  let c0_i32_0 : BitVec 32 := 0#32
  ![v4.toNat, c2_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c8_i32 : BitVec 32 := 8#32
  let v2 : BitVec 32 := Scalar.muli v1 c8_i32
  let c1_i32 : BitVec 32 := 1#32
  let v3 : BitVec 32 := Scalar.subi v2 c1_i32
  let c0_i32 : BitVec 32 := 0#32
  let v4 : BitVec 32 := Scalar.maxsi v3 c0_i32
  let c3_i32 : BitVec 32 := 3#32
  let c0_i32_0 : BitVec 32 := 0#32
  ![v4.toNat, c3_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c8_i32 : BitVec 32 := 8#32
  let v2 : BitVec 32 := Scalar.muli v1 c8_i32
  let c1_i32 : BitVec 32 := 1#32
  let v3 : BitVec 32 := Scalar.subi v2 c1_i32
  let c0_i32 : BitVec 32 := 0#32
  let v4 : BitVec 32 := Scalar.maxsi v3 c0_i32
  let c4_i32 : BitVec 32 := 4#32
  let c0_i32_0 : BitVec 32 := 0#32
  ![v4.toNat, c4_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S64x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== GdnRefIdeal.lean ====
abbrev S16384x4608 : Shape := ⟨2, ![16384, 4608]⟩
abbrev S16384x128 : Shape := ⟨2, ![16384, 128]⟩
abbrev S4x2304 : Shape := ⟨2, ![4, 2304]⟩
abbrev S6 : Shape := ⟨1, ![6]⟩
abbrev S128 : Shape := ⟨1, ![128]⟩
abbrev S4x4096x4608 : Shape := ⟨3, ![4, 4096, 4608]⟩
abbrev S4x4096x2304 : Shape := ⟨3, ![4, 4096, 2304]⟩
abbrev S_ : Shape := ⟨0, ![]⟩
abbrev S4x4099x2304 : Shape := ⟨3, ![4, 4099, 2304]⟩
abbrev S1x2304 : Shape := ⟨2, ![1, 2304]⟩
abbrev S2304 : Shape := ⟨1, ![2304]⟩
abbrev S1x1x2304 : Shape := ⟨3, ![1, 1, 2304]⟩
abbrev S4x4096x768 : Shape := ⟨3, ![4, 4096, 768]⟩
abbrev S4x4096x6x128 : Shape := ⟨4, ![4, 4096, 6, 128]⟩
abbrev S4x4096x6 : Shape := ⟨3, ![4, 4096, 6]⟩
abbrev S4x4096x6x1 : Shape := ⟨4, ![4, 4096, 6, 1]⟩
abbrev S4x4096x128 : Shape := ⟨3, ![4, 4096, 128]⟩
abbrev S1x1x6 : Shape := ⟨3, ![1, 1, 6]⟩
abbrev S4x64x64x6x128 : Shape := ⟨5, ![4, 64, 64, 6, 128]⟩
abbrev S4x6x64x64x128 : Shape := ⟨5, ![4, 6, 64, 64, 128]⟩
abbrev S4x64x64x6 : Shape := ⟨4, ![4, 64, 64, 6]⟩
abbrev S4x6x64x64 : Shape := ⟨4, ![4, 6, 64, 64]⟩
abbrev S64x64 : Shape := ⟨2, ![64, 64]⟩
abbrev S4x6x64x64x1 : Shape := ⟨5, ![4, 6, 64, 64, 1]⟩
abbrev S4x6x64x1x64 : Shape := ⟨5, ![4, 6, 64, 1, 64]⟩
abbrev S4x6x64x64x64 : Shape := ⟨5, ![4, 6, 64, 64, 64]⟩
abbrev S1x1x1x64x64 : Shape := ⟨5, ![1, 1, 1, 64, 64]⟩
abbrev S4x6x64x1 : Shape := ⟨4, ![4, 6, 64, 1]⟩
abbrev S4x6x64 : Shape := ⟨3, ![4, 6, 64]⟩
abbrev S64x4x6x64x128 : Shape := ⟨5, ![64, 4, 6, 64, 128]⟩
abbrev S64x4x6x64x64 : Shape := ⟨5, ![64, 4, 6, 64, 64]⟩
abbrev S64x4x6 : Shape := ⟨3, ![64, 4, 6]⟩
abbrev S4x6x128x128 : Shape := ⟨4, ![4, 6, 128, 128]⟩
abbrev S1x4x6x64x128 : Shape := ⟨5, ![1, 4, 6, 64, 128]⟩
abbrev S4x6x64x128 : Shape := ⟨4, ![4, 6, 64, 128]⟩
abbrev S1x4x6x64x64 : Shape := ⟨5, ![1, 4, 6, 64, 64]⟩
abbrev S1x4x6 : Shape := ⟨3, ![1, 4, 6]⟩
abbrev S4x6 : Shape := ⟨2, ![4, 6]⟩
abbrev S4x6x1x1 : Shape := ⟨4, ![4, 6, 1, 1]⟩
abbrev S4x6x128x64 : Shape := ⟨4, ![4, 6, 128, 64]⟩
abbrev S1x1x1x128 : Shape := ⟨4, ![1, 1, 1, 128]⟩
abbrev S16384x768 : Shape := ⟨2, ![16384, 768]⟩

abbrev nBuf : Space → Nat
  | .hbm => 570
  | .vmem => 0
  | .smem => 0
  | _ => 0

abbrev hbmTy0_0 (i : Nat) : BufTy := match i % 128 with
  | 0 => ⟨S16384x4608, .f32⟩
  | 1 => ⟨S16384x128, .f32⟩
  | 2 => ⟨S4x2304, .f32⟩
  | 3 => ⟨S6, .f32⟩
  | 4 => ⟨S6, .f32⟩
  | 5 => ⟨S128, .f32⟩
  | 6 => ⟨S4x4096x4608, .f32⟩
  | 7 => ⟨S4x4096x2304, .f32⟩
  | 8 => ⟨S_, .i32⟩
  | 9 => ⟨S_, .f32⟩
  | 10 => ⟨S4x4099x2304, .f32⟩
  | 11 => ⟨S1x2304, .f32⟩
  | 12 => ⟨S2304, .f32⟩
  | 13 => ⟨S4x4096x2304, .f32⟩
  | 14 => ⟨S1x1x2304, .f32⟩
  | 15 => ⟨S4x4096x2304, .f32⟩
  | 16 => ⟨S4x4096x2304, .f32⟩
  | 17 => ⟨S_, .f32⟩
  | 18 => ⟨S4x4096x2304, .f32⟩
  | 19 => ⟨S4x4096x2304, .f32⟩
  | 20 => ⟨S1x2304, .f32⟩
  | 21 => ⟨S2304, .f32⟩
  | 22 => ⟨S4x4096x2304, .f32⟩
  | 23 => ⟨S1x1x2304, .f32⟩
  | 24 => ⟨S4x4096x2304, .f32⟩
  | 25 => ⟨S4x4096x2304, .f32⟩
  | 26 => ⟨S4x4096x2304, .f32⟩
  | 27 => ⟨S1x2304, .f32⟩
  | 28 => ⟨S2304, .f32⟩
  | 29 => ⟨S4x4096x2304, .f32⟩
  | 30 => ⟨S1x1x2304, .f32⟩
  | 31 => ⟨S4x4096x2304, .f32⟩
  | 32 => ⟨S4x4096x2304, .f32⟩
  | 33 => ⟨S4x4096x2304, .f32⟩
  | 34 => ⟨S1x2304, .f32⟩
  | 35 => ⟨S2304, .f32⟩
  | 36 => ⟨S4x4096x2304, .f32⟩
  | 37 => ⟨S1x1x2304, .f32⟩
  | 38 => ⟨S4x4096x2304, .f32⟩
  | 39 => ⟨S4x4096x2304, .f32⟩
  | 40 => ⟨S4x4096x2304, .f32⟩
  | 41 => ⟨S4x4096x2304, .f32⟩
  | 42 => ⟨S4x4096x2304, .f32⟩
  | 43 => ⟨S_, .f32⟩
  | 44 => ⟨S4x4096x2304, .f32⟩
  | 45 => ⟨S4x4096x2304, .f32⟩
  | 46 => ⟨S_, .f32⟩
  | 47 => ⟨S4x4096x2304, .f32⟩
  | 48 => ⟨S4x4096x2304, .f32⟩
  | 49 => ⟨S4x4096x2304, .f32⟩
  | 50 => ⟨S4x4096x768, .f32⟩
  | 51 => ⟨S4x4096x768, .f32⟩
  | 52 => ⟨S4x4096x768, .f32⟩
  | 53 => ⟨S4x4096x6x128, .f32⟩
  | 54 => ⟨S4x4096x6x128, .f32⟩
  | 55 => ⟨S_, .f32⟩
  | 56 => ⟨S4x4096x6, .f32⟩
  | 57 => ⟨S4x4096x6x1, .f32⟩
  | 58 => ⟨S_, .f32⟩
  | 59 => ⟨S4x4096x6x1, .f32⟩
  | 60 => ⟨S4x4096x6x1, .f32⟩
  | 61 => ⟨S4x4096x6x1, .f32⟩
  | 62 => ⟨S4x4096x6x128, .f32⟩
  | 63 => ⟨S4x4096x6x128, .f32⟩
  | 64 => ⟨S4x4096x6x128, .f32⟩
  | 65 => ⟨S4x4096x6x128, .f32⟩
  | 66 => ⟨S_, .f32⟩
  | 67 => ⟨S4x4096x6, .f32⟩
  | 68 => ⟨S4x4096x6x1, .f32⟩
  | 69 => ⟨S_, .f32⟩
  | 70 => ⟨S4x4096x6x1, .f32⟩
  | 71 => ⟨S4x4096x6x1, .f32⟩
  | 72 => ⟨S4x4096x6x1, .f32⟩
  | 73 => ⟨S4x4096x6x128, .f32⟩
  | 74 => ⟨S4x4096x6x128, .f32⟩
  | 75 => ⟨S4x4096x6x128, .f32⟩
  | 76 => ⟨S4x4096x128, .f32⟩
  | 77 => ⟨S6, .f32⟩
  | 78 => ⟨S6, .f32⟩
  | 79 => ⟨S4x4096x6, .f32⟩
  | 80 => ⟨S1x1x6, .f32⟩
  | 81 => ⟨S4x4096x6, .f32⟩
  | 82 => ⟨S4x4096x6, .f32⟩
  | 83 => ⟨S_, .f32⟩
  | 84 => ⟨S4x4096x6, .f32⟩
  | 85 => ⟨S4x4096x6, .f32⟩
  | 86 => ⟨S4x4096x6, .f32⟩
  | 87 => ⟨S4x4096x6, .f32⟩
  | 88 => ⟨S4x4096x6, .i1⟩
  | 89 => ⟨S4x4096x6, .f32⟩
  | 90 => ⟨S4x4096x6, .f32⟩
  | 91 => ⟨S4x4096x6, .f32⟩
  | 92 => ⟨S4x4096x6, .f32⟩
  | 93 => ⟨S4x4096x6, .f32⟩
  | 94 => ⟨S4x4096x6, .f32⟩
  | 95 => ⟨S4x4096x6, .f32⟩
  | 96 => ⟨S4x4096x6, .f32⟩
  | 97 => ⟨S1x1x6, .f32⟩
  | 98 => ⟨S4x4096x6, .f32⟩
  | 99 => ⟨S4x4096x6, .f32⟩
  | 100 => ⟨S4x4096x6, .f32⟩
  | 101 => ⟨S4x4096x6, .f32⟩
  | 102 => ⟨S4x4096x6, .f32⟩
  | 103 => ⟨S_, .f32⟩
  | 104 => ⟨S4x4096x6, .f32⟩
  | 105 => ⟨S4x4096x6, .f32⟩
  | 106 => ⟨S_, .f32⟩
  | 107 => ⟨S4x4096x6, .f32⟩
  | 108 => ⟨S4x4096x6, .f32⟩
  | 109 => ⟨S4x64x64x6x128, .f32⟩
  | 110 => ⟨S4x6x64x64x128, .f32⟩
  | 111 => ⟨S_, .f32⟩
  | 112 => ⟨S4x6x64x64x128, .f32⟩
  | 113 => ⟨S4x6x64x64x128, .f32⟩
  | 114 => ⟨S4x64x64x6x128, .f32⟩
  | 115 => ⟨S4x6x64x64x128, .f32⟩
  | 116 => ⟨S4x64x64x6x128, .f32⟩
  | 117 => ⟨S4x6x64x64x128, .f32⟩
  | 118 => ⟨S4x64x64x6, .f32⟩
  | 119 => ⟨S4x6x64x64, .f32⟩
  | 120 => ⟨S_, .f32⟩
  | 121 => ⟨S_, .f32⟩
  | 122 => ⟨S4x6x64x64, .f32⟩
  | 123 => ⟨S4x64x64x6, .f32⟩
  | 124 => ⟨S4x6x64x64, .f32⟩
  | 125 => ⟨S_, .i1⟩
  | 126 => ⟨S64x64, .i1⟩
  | 127 => ⟨S64x64, .i32⟩
  | _ => ⟨S16384x4608, .f32⟩

abbrev hbmTy0_1 (i : Nat) : BufTy := match i % 128 with
  | 0 => ⟨S_, .i32⟩
  | 1 => ⟨S64x64, .i32⟩
  | 2 => ⟨S64x64, .i32⟩
  | 3 => ⟨S64x64, .i32⟩
  | 4 => ⟨S64x64, .i1⟩
  | 5 => ⟨S_, .i1⟩
  | 6 => ⟨S64x64, .i1⟩
  | 7 => ⟨S64x64, .i1⟩
  | 8 => ⟨S_, .i1⟩
  | 9 => ⟨S64x64, .i1⟩
  | 10 => ⟨S64x64, .i32⟩
  | 11 => ⟨S_, .i32⟩
  | 12 => ⟨S64x64, .i32⟩
  | 13 => ⟨S64x64, .i32⟩
  | 14 => ⟨S64x64, .i32⟩
  | 15 => ⟨S64x64, .i1⟩
  | 16 => ⟨S_, .i1⟩
  | 17 => ⟨S64x64, .i1⟩
  | 18 => ⟨S64x64, .i1⟩
  | 19 => ⟨S4x6x64x64x1, .f32⟩
  | 20 => ⟨S4x6x64x1x64, .f32⟩
  | 21 => ⟨S4x6x64x64x64, .f32⟩
  | 22 => ⟨S4x6x64x64x64, .f32⟩
  | 23 => ⟨S4x6x64x64x64, .f32⟩
  | 24 => ⟨S_, .f32⟩
  | 25 => ⟨S_, .f32⟩
  | 26 => ⟨S4x6x64x64x64, .i1⟩
  | 27 => ⟨S4x6x64x64x64, .f32⟩
  | 28 => ⟨S4x6x64x64x64, .f32⟩
  | 29 => ⟨S4x6x64x64x64, .f32⟩
  | 30 => ⟨S_, .f32⟩
  | 31 => ⟨S_, .f32⟩
  | 32 => ⟨S4x6x64x64x64, .i1⟩
  | 33 => ⟨S4x6x64x64x64, .f32⟩
  | 34 => ⟨S4x6x64x64x64, .f32⟩
  | 35 => ⟨S4x6x64x64x1, .f32⟩
  | 36 => ⟨S4x6x64x64x128, .f32⟩
  | 37 => ⟨S4x6x64x64x128, .f32⟩
  | 38 => ⟨S4x6x64x64x1, .f32⟩
  | 39 => ⟨S4x6x64x64x128, .f32⟩
  | 40 => ⟨S4x6x64x64x128, .f32⟩
  | 41 => ⟨S4x6x64x64x64, .f32⟩
  | 42 => ⟨S4x6x64x64x64, .f32⟩
  | 43 => ⟨S_, .f32⟩
  | 44 => ⟨S_, .f32⟩
  | 45 => ⟨S4x6x64x64x64, .i1⟩
  | 46 => ⟨S4x6x64x64x64, .f32⟩
  | 47 => ⟨S4x6x64x64x64, .f32⟩
  | 48 => ⟨S64x64, .i32⟩
  | 49 => ⟨S64x64, .i32⟩
  | 50 => ⟨S_, .i32⟩
  | 51 => ⟨S64x64, .i32⟩
  | 52 => ⟨S64x64, .i32⟩
  | 53 => ⟨S64x64, .i1⟩
  | 54 => ⟨S64x64, .f32⟩
  | 55 => ⟨S4x6x64x64x64, .f32⟩
  | 56 => ⟨S4x6x64x64x64, .f32⟩
  | 57 => ⟨S1x1x1x64x64, .f32⟩
  | 58 => ⟨S4x6x64x64x64, .f32⟩
  | 59 => ⟨S4x6x64x64x64, .f32⟩
  | 60 => ⟨S4x6x64x64x64, .f32⟩
  | 61 => ⟨S1x1x1x64x64, .f32⟩
  | 62 => ⟨S4x6x64x64x64, .f32⟩
  | 63 => ⟨S4x6x64x64x64, .f32⟩
  | 64 => ⟨S4x6x64x64x64, .f32⟩
  | 65 => ⟨S1x1x1x64x64, .f32⟩
  | 66 => ⟨S4x6x64x64x64, .f32⟩
  | 67 => ⟨S4x6x64x64x64, .f32⟩
  | 68 => ⟨S4x6x64x64x64, .f32⟩
  | 69 => ⟨S1x1x1x64x64, .f32⟩
  | 70 => ⟨S4x6x64x64x64, .f32⟩
  | 71 => ⟨S4x6x64x64x64, .f32⟩
  | 72 => ⟨S4x6x64x64x64, .f32⟩
  | 73 => ⟨S1x1x1x64x64, .f32⟩
  | 74 => ⟨S4x6x64x64x64, .f32⟩
  | 75 => ⟨S4x6x64x64x64, .f32⟩
  | 76 => ⟨S4x6x64x64x64, .f32⟩
  | 77 => ⟨S1x1x1x64x64, .f32⟩
  | 78 => ⟨S4x6x64x64x64, .f32⟩
  | 79 => ⟨S4x6x64x64x64, .f32⟩
  | 80 => ⟨S4x6x64x64x64, .f32⟩
  | 81 => ⟨S1x1x1x64x64, .f32⟩
  | 82 => ⟨S4x6x64x64x64, .f32⟩
  | 83 => ⟨S4x6x64x64x64, .f32⟩
  | 84 => ⟨S4x6x64x64x64, .f32⟩
  | 85 => ⟨S1x1x1x64x64, .f32⟩
  | 86 => ⟨S4x6x64x64x64, .f32⟩
  | 87 => ⟨S4x6x64x64x64, .f32⟩
  | 88 => ⟨S4x6x64x64x64, .f32⟩
  | 89 => ⟨S1x1x1x64x64, .f32⟩
  | 90 => ⟨S4x6x64x64x64, .f32⟩
  | 91 => ⟨S4x6x64x64x64, .f32⟩
  | 92 => ⟨S4x6x64x64x64, .f32⟩
  | 93 => ⟨S1x1x1x64x64, .f32⟩
  | 94 => ⟨S4x6x64x64x64, .f32⟩
  | 95 => ⟨S4x6x64x64x64, .f32⟩
  | 96 => ⟨S4x6x64x64x64, .f32⟩
  | 97 => ⟨S1x1x1x64x64, .f32⟩
  | 98 => ⟨S4x6x64x64x64, .f32⟩
  | 99 => ⟨S4x6x64x64x64, .f32⟩
  | 100 => ⟨S4x6x64x64x64, .f32⟩
  | 101 => ⟨S1x1x1x64x64, .f32⟩
  | 102 => ⟨S4x6x64x64x64, .f32⟩
  | 103 => ⟨S4x6x64x64x64, .f32⟩
  | 104 => ⟨S4x6x64x64x64, .f32⟩
  | 105 => ⟨S1x1x1x64x64, .f32⟩
  | 106 => ⟨S4x6x64x64x64, .f32⟩
  | 107 => ⟨S4x6x64x64x64, .f32⟩
  | 108 => ⟨S4x6x64x64x64, .f32⟩
  | 109 => ⟨S1x1x1x64x64, .f32⟩
  | 110 => ⟨S4x6x64x64x64, .f32⟩
  | 111 => ⟨S4x6x64x64x64, .f32⟩
  | 112 => ⟨S4x6x64x64x64, .f32⟩
  | 113 => ⟨S1x1x1x64x64, .f32⟩
  | 114 => ⟨S4x6x64x64x64, .f32⟩
  | 115 => ⟨S4x6x64x64x64, .f32⟩
  | 116 => ⟨S4x6x64x64x64, .f32⟩
  | 117 => ⟨S1x1x1x64x64, .f32⟩
  | 118 => ⟨S4x6x64x64x64, .f32⟩
  | 119 => ⟨S4x6x64x64x64, .f32⟩
  | 120 => ⟨S4x6x64x64x64, .f32⟩
  | 121 => ⟨S1x1x1x64x64, .f32⟩
  | 122 => ⟨S4x6x64x64x64, .f32⟩
  | 123 => ⟨S4x6x64x64x64, .f32⟩
  | 124 => ⟨S4x6x64x64x64, .f32⟩
  | 125 => ⟨S1x1x1x64x64, .f32⟩
  | 126 => ⟨S4x6x64x64x64, .f32⟩
  | 127 => ⟨S4x6x64x64x64, .f32⟩
  | _ => ⟨S16384x4608, .f32⟩

abbrev hbmTy0_2 (i : Nat) : BufTy := match i % 128 with
  | 0 => ⟨S4x6x64x64x64, .f32⟩
  | 1 => ⟨S1x1x1x64x64, .f32⟩
  | 2 => ⟨S4x6x64x64x64, .f32⟩
  | 3 => ⟨S4x6x64x64x64, .f32⟩
  | 4 => ⟨S4x6x64x64x64, .f32⟩
  | 5 => ⟨S1x1x1x64x64, .f32⟩
  | 6 => ⟨S4x6x64x64x64, .f32⟩
  | 7 => ⟨S4x6x64x64x64, .f32⟩
  | 8 => ⟨S4x6x64x64x64, .f32⟩
  | 9 => ⟨S1x1x1x64x64, .f32⟩
  | 10 => ⟨S4x6x64x64x64, .f32⟩
  | 11 => ⟨S4x6x64x64x64, .f32⟩
  | 12 => ⟨S4x6x64x64x64, .f32⟩
  | 13 => ⟨S1x1x1x64x64, .f32⟩
  | 14 => ⟨S4x6x64x64x64, .f32⟩
  | 15 => ⟨S4x6x64x64x64, .f32⟩
  | 16 => ⟨S4x6x64x64x64, .f32⟩
  | 17 => ⟨S1x1x1x64x64, .f32⟩
  | 18 => ⟨S4x6x64x64x64, .f32⟩
  | 19 => ⟨S4x6x64x64x64, .f32⟩
  | 20 => ⟨S4x6x64x64x64, .f32⟩
  | 21 => ⟨S1x1x1x64x64, .f32⟩
  | 22 => ⟨S4x6x64x64x64, .f32⟩
  | 23 => ⟨S4x6x64x64x64, .f32⟩
  | 24 => ⟨S4x6x64x64x64, .f32⟩
  | 25 => ⟨S1x1x1x64x64, .f32⟩
  | 26 => ⟨S4x6x64x64x64, .f32⟩
  | 27 => ⟨S4x6x64x64x64, .f32⟩
  | 28 => ⟨S4x6x64x64x64, .f32⟩
  | 29 => ⟨S1x1x1x64x64, .f32⟩
  | 30 => ⟨S4x6x64x64x64, .f32⟩
  | 31 => ⟨S4x6x64x64x64, .f32⟩
  | 32 => ⟨S4x6x64x64x64, .f32⟩
  | 33 => ⟨S1x1x1x64x64, .f32⟩
  | 34 => ⟨S4x6x64x64x64, .f32⟩
  | 35 => ⟨S4x6x64x64x64, .f32⟩
  | 36 => ⟨S4x6x64x64x64, .f32⟩
  | 37 => ⟨S1x1x1x64x64, .f32⟩
  | 38 => ⟨S4x6x64x64x64, .f32⟩
  | 39 => ⟨S4x6x64x64x64, .f32⟩
  | 40 => ⟨S4x6x64x64x64, .f32⟩
  | 41 => ⟨S1x1x1x64x64, .f32⟩
  | 42 => ⟨S4x6x64x64x64, .f32⟩
  | 43 => ⟨S4x6x64x64x64, .f32⟩
  | 44 => ⟨S4x6x64x64x64, .f32⟩
  | 45 => ⟨S1x1x1x64x64, .f32⟩
  | 46 => ⟨S4x6x64x64x64, .f32⟩
  | 47 => ⟨S4x6x64x64x64, .f32⟩
  | 48 => ⟨S4x6x64x64x64, .f32⟩
  | 49 => ⟨S1x1x1x64x64, .f32⟩
  | 50 => ⟨S4x6x64x64x64, .f32⟩
  | 51 => ⟨S4x6x64x64x64, .f32⟩
  | 52 => ⟨S4x6x64x64x64, .f32⟩
  | 53 => ⟨S1x1x1x64x64, .f32⟩
  | 54 => ⟨S4x6x64x64x64, .f32⟩
  | 55 => ⟨S4x6x64x64x64, .f32⟩
  | 56 => ⟨S4x6x64x64x64, .f32⟩
  | 57 => ⟨S1x1x1x64x64, .f32⟩
  | 58 => ⟨S4x6x64x64x64, .f32⟩
  | 59 => ⟨S4x6x64x64x64, .f32⟩
  | 60 => ⟨S4x6x64x64x64, .f32⟩
  | 61 => ⟨S1x1x1x64x64, .f32⟩
  | 62 => ⟨S4x6x64x64x64, .f32⟩
  | 63 => ⟨S4x6x64x64x64, .f32⟩
  | 64 => ⟨S4x6x64x64x64, .f32⟩
  | 65 => ⟨S1x1x1x64x64, .f32⟩
  | 66 => ⟨S4x6x64x64x64, .f32⟩
  | 67 => ⟨S4x6x64x64x64, .f32⟩
  | 68 => ⟨S4x6x64x64x64, .f32⟩
  | 69 => ⟨S1x1x1x64x64, .f32⟩
  | 70 => ⟨S4x6x64x64x64, .f32⟩
  | 71 => ⟨S4x6x64x64x64, .f32⟩
  | 72 => ⟨S4x6x64x64x64, .f32⟩
  | 73 => ⟨S1x1x1x64x64, .f32⟩
  | 74 => ⟨S4x6x64x64x64, .f32⟩
  | 75 => ⟨S4x6x64x64x64, .f32⟩
  | 76 => ⟨S4x6x64x64x64, .f32⟩
  | 77 => ⟨S1x1x1x64x64, .f32⟩
  | 78 => ⟨S4x6x64x64x64, .f32⟩
  | 79 => ⟨S4x6x64x64x64, .f32⟩
  | 80 => ⟨S4x6x64x64x64, .f32⟩
  | 81 => ⟨S1x1x1x64x64, .f32⟩
  | 82 => ⟨S4x6x64x64x64, .f32⟩
  | 83 => ⟨S4x6x64x64x64, .f32⟩
  | 84 => ⟨S4x6x64x64x64, .f32⟩
  | 85 => ⟨S1x1x1x64x64, .f32⟩
  | 86 => ⟨S4x6x64x64x64, .f32⟩
  | 87 => ⟨S4x6x64x64x64, .f32⟩
  | 88 => ⟨S4x6x64x64x64, .f32⟩
  | 89 => ⟨S1x1x1x64x64, .f32⟩
  | 90 => ⟨S4x6x64x64x64, .f32⟩
  | 91 => ⟨S4x6x64x64x64, .f32⟩
  | 92 => ⟨S4x6x64x64x64, .f32⟩
  | 93 => ⟨S1x1x1x64x64, .f32⟩
  | 94 => ⟨S4x6x64x64x64, .f32⟩
  | 95 => ⟨S4x6x64x64x64, .f32⟩
  | 96 => ⟨S4x6x64x64x64, .f32⟩
  | 97 => ⟨S1x1x1x64x64, .f32⟩
  | 98 => ⟨S4x6x64x64x64, .f32⟩
  | 99 => ⟨S4x6x64x64x64, .f32⟩
  | 100 => ⟨S4x6x64x64x64, .f32⟩
  | 101 => ⟨S1x1x1x64x64, .f32⟩
  | 102 => ⟨S4x6x64x64x64, .f32⟩
  | 103 => ⟨S4x6x64x64x64, .f32⟩
  | 104 => ⟨S4x6x64x64x64, .f32⟩
  | 105 => ⟨S1x1x1x64x64, .f32⟩
  | 106 => ⟨S4x6x64x64x64, .f32⟩
  | 107 => ⟨S4x6x64x64x64, .f32⟩
  | 108 => ⟨S4x6x64x64x64, .f32⟩
  | 109 => ⟨S1x1x1x64x64, .f32⟩
  | 110 => ⟨S4x6x64x64x64, .f32⟩
  | 111 => ⟨S4x6x64x64x64, .f32⟩
  | 112 => ⟨S4x6x64x64x64, .f32⟩
  | 113 => ⟨S1x1x1x64x64, .f32⟩
  | 114 => ⟨S4x6x64x64x64, .f32⟩
  | 115 => ⟨S4x6x64x64x64, .f32⟩
  | 116 => ⟨S4x6x64x64x64, .f32⟩
  | 117 => ⟨S1x1x1x64x64, .f32⟩
  | 118 => ⟨S4x6x64x64x64, .f32⟩
  | 119 => ⟨S4x6x64x64x64, .f32⟩
  | 120 => ⟨S4x6x64x64x64, .f32⟩
  | 121 => ⟨S1x1x1x64x64, .f32⟩
  | 122 => ⟨S4x6x64x64x64, .f32⟩
  | 123 => ⟨S4x6x64x64x64, .f32⟩
  | 124 => ⟨S4x6x64x64x64, .f32⟩
  | 125 => ⟨S1x1x1x64x64, .f32⟩
  | 126 => ⟨S4x6x64x64x64, .f32⟩
  | 127 => ⟨S4x6x64x64x64, .f32⟩
  | _ => ⟨S16384x4608, .f32⟩

abbrev hbmTy0_3 (i : Nat) : BufTy := match i % 128 with
  | 0 => ⟨S4x6x64x64x64, .f32⟩
  | 1 => ⟨S1x1x1x64x64, .f32⟩
  | 2 => ⟨S4x6x64x64x64, .f32⟩
  | 3 => ⟨S4x6x64x64x64, .f32⟩
  | 4 => ⟨S4x6x64x64x64, .f32⟩
  | 5 => ⟨S1x1x1x64x64, .f32⟩
  | 6 => ⟨S4x6x64x64x64, .f32⟩
  | 7 => ⟨S4x6x64x64x64, .f32⟩
  | 8 => ⟨S4x6x64x64x64, .f32⟩
  | 9 => ⟨S1x1x1x64x64, .f32⟩
  | 10 => ⟨S4x6x64x64x64, .f32⟩
  | 11 => ⟨S4x6x64x64x64, .f32⟩
  | 12 => ⟨S4x6x64x64x64, .f32⟩
  | 13 => ⟨S1x1x1x64x64, .f32⟩
  | 14 => ⟨S4x6x64x64x64, .f32⟩
  | 15 => ⟨S4x6x64x64x64, .f32⟩
  | 16 => ⟨S4x6x64x64x64, .f32⟩
  | 17 => ⟨S1x1x1x64x64, .f32⟩
  | 18 => ⟨S4x6x64x64x64, .f32⟩
  | 19 => ⟨S4x6x64x64x64, .f32⟩
  | 20 => ⟨S4x6x64x64x64, .f32⟩
  | 21 => ⟨S1x1x1x64x64, .f32⟩
  | 22 => ⟨S4x6x64x64x64, .f32⟩
  | 23 => ⟨S4x6x64x64x64, .f32⟩
  | 24 => ⟨S4x6x64x64x64, .f32⟩
  | 25 => ⟨S1x1x1x64x64, .f32⟩
  | 26 => ⟨S4x6x64x64x64, .f32⟩
  | 27 => ⟨S4x6x64x64x64, .f32⟩
  | 28 => ⟨S4x6x64x64x64, .f32⟩
  | 29 => ⟨S1x1x1x64x64, .f32⟩
  | 30 => ⟨S4x6x64x64x64, .f32⟩
  | 31 => ⟨S4x6x64x64x64, .f32⟩
  | 32 => ⟨S4x6x64x64x64, .f32⟩
  | 33 => ⟨S1x1x1x64x64, .f32⟩
  | 34 => ⟨S4x6x64x64x64, .f32⟩
  | 35 => ⟨S4x6x64x64x64, .f32⟩
  | 36 => ⟨S4x6x64x64x64, .f32⟩
  | 37 => ⟨S1x1x1x64x64, .f32⟩
  | 38 => ⟨S4x6x64x64x64, .f32⟩
  | 39 => ⟨S4x6x64x64x64, .f32⟩
  | 40 => ⟨S4x6x64x64x64, .f32⟩
  | 41 => ⟨S1x1x1x64x64, .f32⟩
  | 42 => ⟨S4x6x64x64x64, .f32⟩
  | 43 => ⟨S4x6x64x64x64, .f32⟩
  | 44 => ⟨S4x6x64x64x64, .f32⟩
  | 45 => ⟨S1x1x1x64x64, .f32⟩
  | 46 => ⟨S4x6x64x64x64, .f32⟩
  | 47 => ⟨S4x6x64x64x64, .f32⟩
  | 48 => ⟨S4x6x64x64x64, .f32⟩
  | 49 => ⟨S1x1x1x64x64, .f32⟩
  | 50 => ⟨S4x6x64x64x64, .f32⟩
  | 51 => ⟨S4x6x64x64x64, .f32⟩
  | 52 => ⟨S4x6x64x64x128, .f32⟩
  | 53 => ⟨S4x6x64x64, .f32⟩
  | 54 => ⟨S4x6x64x64x1, .f32⟩
  | 55 => ⟨S4x6x64x64x128, .f32⟩
  | 56 => ⟨S4x6x64x64x128, .f32⟩
  | 57 => ⟨S4x6x64x64x128, .f32⟩
  | 58 => ⟨S4x6x64x64x64, .f32⟩
  | 59 => ⟨S4x6x64x64x64, .f32⟩
  | 60 => ⟨S_, .f32⟩
  | 61 => ⟨S_, .f32⟩
  | 62 => ⟨S4x6x64x64x64, .i1⟩
  | 63 => ⟨S4x6x64x64x64, .f32⟩
  | 64 => ⟨S4x6x64x64x64, .f32⟩
  | 65 => ⟨S4x6x64x1, .f32⟩
  | 66 => ⟨S4x6x64, .f32⟩
  | 67 => ⟨S4x6x64x64, .f32⟩
  | 68 => ⟨S4x6x64x64x1, .f32⟩
  | 69 => ⟨S4x6x64x64x128, .f32⟩
  | 70 => ⟨S4x6x64x64x128, .f32⟩
  | 71 => ⟨S4x6x64x1, .f32⟩
  | 72 => ⟨S4x6x64x64, .f32⟩
  | 73 => ⟨S4x6x64x64, .f32⟩
  | 74 => ⟨S4x6x64x64, .f32⟩
  | 75 => ⟨S4x6x64x64x1, .f32⟩
  | 76 => ⟨S4x6x64x64x128, .f32⟩
  | 77 => ⟨S4x6x64x64x128, .f32⟩
  | 78 => ⟨S64x4x6x64x128, .f32⟩
  | 79 => ⟨S64x4x6x64x128, .f32⟩
  | 80 => ⟨S64x4x6x64x128, .f32⟩
  | 81 => ⟨S64x4x6x64x128, .f32⟩
  | 82 => ⟨S64x4x6x64x64, .f32⟩
  | 83 => ⟨S64x4x6, .f32⟩
  | 84 => ⟨S_, .f32⟩
  | 85 => ⟨S4x6x128x128, .f32⟩
  | 86 => ⟨S_, .f32⟩
  | 87 => ⟨S64x4x6x64x128, .f32⟩
  | 88 => ⟨S_, .i32⟩
  | 89 => ⟨S64x4x6x64x128, .f32⟩
  | 90 => ⟨S64x4x6x64x128, .f32⟩
  | 91 => ⟨S64x4x6x64x128, .f32⟩
  | 92 => ⟨S64x4x6x64x128, .f32⟩
  | 93 => ⟨S64x4x6x64x64, .f32⟩
  | 94 => ⟨S64x4x6, .f32⟩
  | 95 => ⟨S_, .i32⟩
  | 96 => ⟨S4x6x128x128, .f32⟩
  | 97 => ⟨S64x4x6x64x128, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S1x4x6x64x128, .f32⟩
  | 105 => ⟨S4x6x64x128, .f32⟩
  | 106 => ⟨S_, .i32⟩
  | 107 => ⟨S_, .i32⟩
  | 108 => ⟨S_, .i32⟩
  | 109 => ⟨S_, .i32⟩
  | 110 => ⟨S1x4x6x64x128, .f32⟩
  | 111 => ⟨S4x6x64x128, .f32⟩
  | 112 => ⟨S_, .i32⟩
  | 113 => ⟨S_, .i32⟩
  | 114 => ⟨S_, .i32⟩
  | 115 => ⟨S_, .i32⟩
  | 116 => ⟨S1x4x6x64x128, .f32⟩
  | 117 => ⟨S4x6x64x128, .f32⟩
  | 118 => ⟨S_, .i32⟩
  | 119 => ⟨S_, .i32⟩
  | 120 => ⟨S_, .i32⟩
  | 121 => ⟨S_, .i32⟩
  | 122 => ⟨S1x4x6x64x128, .f32⟩
  | 123 => ⟨S4x6x64x128, .f32⟩
  | 124 => ⟨S_, .i32⟩
  | 125 => ⟨S_, .i32⟩
  | 126 => ⟨S_, .i32⟩
  | 127 => ⟨S_, .i32⟩
  | _ => ⟨S16384x4608, .f32⟩

abbrev hbmTy0_4 (i : Nat) : BufTy := match i % 128 with
  | 0 => ⟨S1x4x6x64x64, .f32⟩
  | 1 => ⟨S4x6x64x64, .f32⟩
  | 2 => ⟨S_, .i32⟩
  | 3 => ⟨S_, .i32⟩
  | 4 => ⟨S1x4x6, .f32⟩
  | 5 => ⟨S4x6, .f32⟩
  | 6 => ⟨S4x6x64x128, .f32⟩
  | 7 => ⟨S4x6x64x128, .f32⟩
  | 8 => ⟨S4x6x64x128, .f32⟩
  | 9 => ⟨S4x6x64x128, .f32⟩
  | 10 => ⟨S4x6x64x128, .f32⟩
  | 11 => ⟨S4x6, .f32⟩
  | 12 => ⟨S4x6x1x1, .f32⟩
  | 13 => ⟨S4x6x128x128, .f32⟩
  | 14 => ⟨S4x6x128x128, .f32⟩
  | 15 => ⟨S4x6x128x64, .f32⟩
  | 16 => ⟨S4x6x128x128, .f32⟩
  | 17 => ⟨S4x6x128x128, .f32⟩
  | 18 => ⟨S1x4x6x64x128, .f32⟩
  | 19 => ⟨S_, .i32⟩
  | 20 => ⟨S_, .i32⟩
  | 21 => ⟨S_, .i32⟩
  | 22 => ⟨S_, .i32⟩
  | 23 => ⟨S64x4x6x64x128, .f32⟩
  | 24 => ⟨S_, .i32⟩
  | 25 => ⟨S_, .i32⟩
  | 26 => ⟨S4x64x64x6x128, .f32⟩
  | 27 => ⟨S4x4096x6x128, .f32⟩
  | 28 => ⟨S4x4096x6x128, .f32⟩
  | 29 => ⟨S_, .f32⟩
  | 30 => ⟨S4x4096x6, .f32⟩
  | 31 => ⟨S4x4096x6x1, .f32⟩
  | 32 => ⟨S_, .f32⟩
  | 33 => ⟨S4x4096x6x1, .f32⟩
  | 34 => ⟨S4x4096x6x1, .f32⟩
  | 35 => ⟨S_, .f32⟩
  | 36 => ⟨S4x4096x6x1, .f32⟩
  | 37 => ⟨S4x4096x6x1, .f32⟩
  | 38 => ⟨S4x4096x6x1, .f32⟩
  | 39 => ⟨S4x4096x6x128, .f32⟩
  | 40 => ⟨S4x4096x6x128, .f32⟩
  | 41 => ⟨S1x1x1x128, .f32⟩
  | 42 => ⟨S4x4096x6x128, .f32⟩
  | 43 => ⟨S4x4096x6x128, .f32⟩
  | 44 => ⟨S16384x768, .f32⟩
  | 45 => ⟨S4x4096x6x128, .f32⟩
  | 46 => ⟨S4x4096x6x128, .f32⟩
  | 47 => ⟨S4x4096x6x128, .f32⟩
  | 48 => ⟨S_, .f32⟩
  | 49 => ⟨S4x4096x6x128, .f32⟩
  | 50 => ⟨S4x4096x6x128, .f32⟩
  | 51 => ⟨S_, .f32⟩
  | 52 => ⟨S4x4096x6x128, .f32⟩
  | 53 => ⟨S4x4096x6x128, .f32⟩
  | 54 => ⟨S4x4096x6x128, .f32⟩
  | 55 => ⟨S4x4096x6x128, .f32⟩
  | 56 => ⟨S16384x768, .f32⟩
  | 57 => ⟨S16384x768, .bf16⟩
  | _ => ⟨S16384x4608, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x4608, .f32⟩

abbrev bufTy : (tb : Table) → Fin (tcTables nBuf tb) → BufTy
  | .hbm, ⟨i, _⟩ => hbmTy i
  | _, _ => ⟨S16384x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_0 : Ref sig .tc := ⟨.hbm, 55, rfl⟩
abbrev main_v38 : Ref sig .tc := ⟨.hbm, 56, rfl⟩
abbrev main_v39 : Ref sig .tc := ⟨.hbm, 57, rfl⟩
abbrev main_cst_1 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_2 : Ref sig .tc := ⟨.hbm, 66, rfl⟩
abbrev main_v47 : Ref sig .tc := ⟨.hbm, 67, rfl⟩
abbrev main_v48 : Ref sig .tc := ⟨.hbm, 68, rfl⟩
abbrev main_cst_3 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_4 : Ref sig .tc := ⟨.hbm, 103, rfl⟩
abbrev main_v69 : Ref sig .tc := ⟨.hbm, 104, rfl⟩
abbrev main_v70 : Ref sig .tc := ⟨.hbm, 105, rfl⟩
abbrev main_cst_5 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_6 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_call3_call0_cst : Ref sig .tc := ⟨.hbm, 120, rfl⟩
abbrev main_call3_call0_v0 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_c_7 : Ref sig .tc := ⟨.hbm, 125, rfl⟩
abbrev main_v86 : Ref sig .tc := ⟨.hbm, 126, rfl⟩
abbrev main_call4_v0 : Ref sig .tc := ⟨.hbm, 127, rfl⟩
abbrev main_call4_c : Ref sig .tc := ⟨.hbm, 128, rfl⟩
abbrev main_call4_v1 : Ref sig .tc := ⟨.hbm, 129, rfl⟩
abbrev main_call4_v2 : Ref sig .tc := ⟨.hbm, 130, rfl⟩
abbrev main_call4_v3 : Ref sig .tc := ⟨.hbm, 131, rfl⟩
abbrev main_call4_v4 : Ref sig .tc := ⟨.hbm, 132, rfl⟩
abbrev main_call4_c_0 : Ref sig .tc := ⟨.hbm, 133, rfl⟩
abbrev main_call4_v5 : Ref sig .tc := ⟨.hbm, 134, rfl⟩
abbrev main_v87 : Ref sig .tc := ⟨.hbm, 135, rfl⟩
abbrev main_c_8 : Ref sig .tc := ⟨.hbm, 136, rfl⟩
abbrev main_v88 : Ref sig .tc := ⟨.hbm, 137, rfl⟩
abbrev main_call5_v0 : Ref sig .tc := ⟨.hbm, 138, rfl⟩
abbrev main_call5_c : Ref sig .tc := ⟨.hbm, 139, rfl⟩
abbrev main_call5_v1 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_call5_c_0 : Ref sig .tc := ⟨.hbm, 144, rfl⟩
abbrev main_call5_v5 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_9 : Ref sig .tc := ⟨.hbm, 152, rfl⟩
abbrev main_call6_v0 : Ref sig .tc := ⟨.hbm, 153, rfl⟩
abbrev main_call6_v1 : Ref sig .tc := ⟨.hbm, 154, rfl⟩
abbrev main_call6_v2 : Ref sig .tc := ⟨.hbm, 155, rfl⟩
abbrev main_v95 : Ref sig .tc := ⟨.hbm, 156, rfl⟩
abbrev main_v96 : Ref sig .tc := ⟨.hbm, 157, rfl⟩
abbrev main_cst_10 : Ref sig .tc := ⟨.hbm, 158, rfl⟩
abbrev main_call7_v0 : Ref sig .tc := ⟨.hbm, 159, rfl⟩
abbrev main_call7_v1 : Ref sig .tc := ⟨.hbm, 160, rfl⟩
abbrev main_call7_v2 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_cst_11 : Ref sig .tc := ⟨.hbm, 171, rfl⟩
abbrev main_call8_v0 : Ref sig .tc := ⟨.hbm, 172, rfl⟩
abbrev main_call8_v1 : Ref sig .tc := ⟨.hbm, 173, rfl⟩
abbrev main_call8_v2 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_c_12 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_v278 : Ref sig .tc := ⟨.hbm, 348, rfl⟩
abbrev main_v279 : Ref sig .tc := ⟨.hbm, 349, rfl⟩
abbrev main_v280 : Ref sig .tc := ⟨.hbm, 350, rfl⟩
abbrev main_v281 : Ref sig .tc := ⟨.hbm, 351, rfl⟩
abbrev main_v282 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_v289 : Ref sig .tc := ⟨.hbm, 359, rfl⟩
abbrev main_v290 : Ref sig .tc := ⟨.hbm, 360, rfl⟩
abbrev main_v291 : Ref sig .tc := ⟨.hbm, 361, rfl⟩
abbrev main_v292 : Ref sig .tc := ⟨.hbm, 362, rfl⟩
abbrev main_v293 : Ref sig .tc := ⟨.hbm, 363, rfl⟩
abbrev main_v294 : Ref sig .tc := ⟨.hbm, 364, rfl⟩
abbrev main_v295 : Ref sig .tc := ⟨.hbm, 365, rfl⟩
abbrev main_v296 : Ref sig .tc := ⟨.hbm, 366, rfl⟩
abbrev main_v297 : Ref sig .tc := ⟨.hbm, 367, rfl⟩
abbrev main_v298 : Ref sig .tc := ⟨.hbm, 368, rfl⟩
abbrev main_v299 : Ref sig .tc := ⟨.hbm, 369, rfl⟩
abbrev main_v300 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_v312 : Ref sig .tc := ⟨.hbm, 382, rfl⟩
abbrev main_v313 : Ref sig .tc := ⟨.hbm, 383, rfl⟩
abbrev main_v314 : Ref sig .tc := ⟨.hbm, 384, rfl⟩
abbrev main_v315 : Ref sig .tc := ⟨.hbm, 385, rfl⟩
abbrev main_v316 : Ref sig .tc := ⟨.hbm, 386, rfl⟩
abbrev main_v317 : Ref sig .tc := ⟨.hbm, 387, rfl⟩
abbrev main_v318 : Ref sig .tc := ⟨.hbm, 388, rfl⟩
abbrev main_v319 : Ref sig .tc := ⟨.hbm, 389, rfl⟩
abbrev main_v320 : Ref sig .tc := ⟨.hbm, 390, rfl⟩
abbrev main_v321 : Ref sig .tc := ⟨.hbm, 391, rfl⟩
abbrev main_v322 : Ref sig .tc := ⟨.hbm, 392, rfl⟩
abbrev main_v323 : Ref sig .tc := ⟨.hbm, 393, rfl⟩
abbrev main_v324 : Ref sig .tc := ⟨.hbm, 394, rfl⟩
abbrev main_v325 : Ref sig .tc := ⟨.hbm, 395, rfl⟩
abbrev main_v326 : Ref sig .tc := ⟨.hbm, 396, rfl⟩
abbrev main_v327 : Ref sig .tc := ⟨.hbm, 397, rfl⟩
abbrev main_v328 : Ref sig .tc := ⟨.hbm, 398, rfl⟩
abbrev main_v329 : Ref sig .tc := ⟨.hbm, 399, rfl⟩
abbrev main_v330 : Ref sig .tc := ⟨.hbm, 400, rfl⟩
abbrev main_v331 : Ref sig .tc := ⟨.hbm, 401, rfl⟩
abbrev main_v332 : Ref sig .tc := ⟨.hbm, 402, rfl⟩
abbrev main_v333 : Ref sig .tc := ⟨.hbm, 403, rfl⟩
abbrev main_v334 : Ref sig .tc := ⟨.hbm, 404, rfl⟩
abbrev main_v335 : Ref sig .tc := ⟨.hbm, 405, rfl⟩
abbrev main_v336 : Ref sig .tc := ⟨.hbm, 406, rfl⟩
abbrev main_v337 : Ref sig .tc := ⟨.hbm, 407, rfl⟩
abbrev main_v338 : Ref sig .tc := ⟨.hbm, 408, rfl⟩
abbrev main_v339 : Ref sig .tc := ⟨.hbm, 409, rfl⟩
abbrev main_v340 : Ref sig .tc := ⟨.hbm, 410, rfl⟩
abbrev main_v341 : Ref sig .tc := ⟨.hbm, 411, rfl⟩
abbrev main_v342 : Ref sig .tc := ⟨.hbm, 412, rfl⟩
abbrev main_v343 : Ref sig .tc := ⟨.hbm, 413, rfl⟩
abbrev main_v344 : Ref sig .tc := ⟨.hbm, 414, rfl⟩
abbrev main_v345 : Ref sig .tc := ⟨.hbm, 415, rfl⟩
abbrev main_v346 : Ref sig .tc := ⟨.hbm, 416, rfl⟩
abbrev main_v347 : Ref sig .tc := ⟨.hbm, 417, rfl⟩
abbrev main_v348 : Ref sig .tc := ⟨.hbm, 418, rfl⟩
abbrev main_v349 : Ref sig .tc := ⟨.hbm, 419, rfl⟩
abbrev main_v350 : Ref sig .tc := ⟨.hbm, 420, rfl⟩
abbrev main_v351 : Ref sig .tc := ⟨.hbm, 421, rfl⟩
abbrev main_v352 : Ref sig .tc := ⟨.hbm, 422, rfl⟩
abbrev main_v353 : Ref sig .tc := ⟨.hbm, 423, rfl⟩
abbrev main_v354 : Ref sig .tc := ⟨.hbm, 424, rfl⟩
abbrev main_v355 : Ref sig .tc := ⟨.hbm, 425, rfl⟩
abbrev main_v356 : Ref sig .tc := ⟨.hbm, 426, rfl⟩
abbrev main_v357 : Ref sig .tc := ⟨.hbm, 427, rfl⟩
abbrev main_v358 : Ref sig .tc := ⟨.hbm, 428, rfl⟩
abbrev main_v359 : Ref sig .tc := ⟨.hbm, 429, rfl⟩
abbrev main_v360 : Ref sig .tc := ⟨.hbm, 430, rfl⟩
abbrev main_v361 : Ref sig .tc := ⟨.hbm, 431, rfl⟩
abbrev main_v362 : Ref sig .tc := ⟨.hbm, 432, rfl⟩
abbrev main_v363 : Ref sig .tc := ⟨.hbm, 433, rfl⟩
abbrev main_v364 : Ref sig .tc := ⟨.hbm, 434, rfl⟩
abbrev main_v365 : Ref sig .tc := ⟨.hbm, 435, rfl⟩
abbrev main_v366 : Ref sig .tc := ⟨.hbm, 436, rfl⟩
abbrev main_v367 : Ref sig .tc := ⟨.hbm, 437, rfl⟩
abbrev main_v368 : Ref sig .tc := ⟨.hbm, 438, rfl⟩
abbrev main_v369 : Ref sig .tc := ⟨.hbm, 439, rfl⟩
abbrev main_v370 : Ref sig .tc := ⟨.hbm, 440, rfl⟩
abbrev main_v371 : Ref sig .tc := ⟨.hbm, 441, rfl⟩
abbrev main_v372 : Ref sig .tc := ⟨.hbm, 442, rfl⟩
abbrev main_v373 : Ref sig .tc := ⟨.hbm, 443, rfl⟩
abbrev main_cst_13 : Ref sig .tc := ⟨.hbm, 444, rfl⟩
abbrev main_call9_v0 : Ref sig .tc := ⟨.hbm, 445, rfl⟩
abbrev main_call9_v1 : Ref sig .tc := ⟨.hbm, 446, rfl⟩
abbrev main_call9_v2 : Ref sig .tc := ⟨.hbm, 447, rfl⟩
abbrev main_v374 : Ref sig .tc := ⟨.hbm, 448, rfl⟩
abbrev main_v375 : Ref sig .tc := ⟨.hbm, 449, rfl⟩
abbrev main_v376 : Ref sig .tc := ⟨.hbm, 450, rfl⟩
abbrev main_v377 : Ref sig .tc := ⟨.hbm, 451, rfl⟩
abbrev main_v378 : Ref sig .tc := ⟨.hbm, 452, rfl⟩
abbrev main_v379 : Ref sig .tc := ⟨.hbm, 453, rfl⟩
abbrev main_v380 : Ref sig .tc := ⟨.hbm, 454, rfl⟩
abbrev main_v381 : Ref sig .tc := ⟨.hbm, 455, rfl⟩
abbrev main_v382 : Ref sig .tc := ⟨.hbm, 456, rfl⟩
abbrev main_v383 : Ref sig .tc := ⟨.hbm, 457, rfl⟩
abbrev main_v384 : Ref sig .tc := ⟨.hbm, 458, rfl⟩
abbrev main_v385 : Ref sig .tc := ⟨.hbm, 459, rfl⟩
abbrev main_v386 : Ref sig .tc := ⟨.hbm, 460, rfl⟩
abbrev main_v387 : Ref sig .tc := ⟨.hbm, 461, rfl⟩
abbrev main_v388 : Ref sig .tc := ⟨.hbm, 462, rfl⟩
abbrev main_v389 : Ref sig .tc := ⟨.hbm, 463, rfl⟩
abbrev main_v390 : Ref sig .tc := ⟨.hbm, 464, rfl⟩
abbrev main_v391 : Ref sig .tc := ⟨.hbm, 465, rfl⟩
abbrev main_v392 : Ref sig .tc := ⟨.hbm, 466, rfl⟩
abbrev main_v393 : Ref sig .tc := ⟨.hbm, 467, rfl⟩
abbrev main_cst_14 : Ref sig .tc := ⟨.hbm, 468, rfl⟩
abbrev main_v394 : Ref sig .tc := ⟨.hbm, 469, rfl⟩
abbrev main_cst_15 : Ref sig .tc := ⟨.hbm, 470, rfl⟩
abbrev main_v395 : Ref sig .tc := ⟨.hbm, 471, rfl⟩
abbrev main_c_16 : Ref sig .tc := ⟨.hbm, 472, rfl⟩
abbrev main_v396_0 : Ref sig .tc := ⟨.hbm, 473, rfl⟩
abbrev main_v396_1 : Ref sig .tc := ⟨.hbm, 474, rfl⟩
abbrev main_v396_2 : Ref sig .tc := ⟨.hbm, 475, rfl⟩
abbrev main_v396_3 : Ref sig .tc := ⟨.hbm, 476, rfl⟩
abbrev main_v396_4 : Ref sig .tc := ⟨.hbm, 477, rfl⟩
abbrev main_v396_5 : Ref sig .tc := ⟨.hbm, 478, rfl⟩
abbrev main_v396_6 : Ref sig .tc := ⟨.hbm, 479, rfl⟩
abbrev main_v396_7 : Ref sig .tc := ⟨.hbm, 480, rfl⟩
abbrev main_v396_8 : Ref sig .tc := ⟨.hbm, 481, rfl⟩
abbrev main_while0c_c_28 : Ref sig .tc := ⟨.hbm, 482, rfl⟩
abbrev main_while0c_v418 : Ref sig .tc := ⟨.hbm, 483, rfl⟩
abbrev main_while0b_call10_c : Ref sig .tc := ⟨.hbm, 484, rfl⟩
abbrev main_while0b_call10_c_0 : Ref sig .tc := ⟨.hbm, 485, rfl⟩
abbrev main_while0b_call10_c_1 : Ref sig .tc := ⟨.hbm, 486, rfl⟩
abbrev main_while0b_call10_c_2 : Ref sig .tc := ⟨.hbm, 487, rfl⟩
abbrev main_while0b_call10_v0 : Ref sig .tc := ⟨.hbm, 488, rfl⟩
abbrev main_while0b_v418 : Ref sig .tc := ⟨.hbm, 489, rfl⟩
abbrev main_while0b_call11_c : Ref sig .tc := ⟨.hbm, 490, rfl⟩
abbrev main_while0b_call11_c_0 : Ref sig .tc := ⟨.hbm, 491, rfl⟩
abbrev main_while0b_call11_c_1 : Ref sig .tc := ⟨.hbm, 492, rfl⟩
abbrev main_while0b_call11_c_2 : Ref sig .tc := ⟨.hbm, 493, rfl⟩
abbrev main_while0b_call11_v0 : Ref sig .tc := ⟨.hbm, 494, rfl⟩
abbrev main_while0b_v419 : Ref sig .tc := ⟨.hbm, 495, rfl⟩
abbrev main_while0b_call12_c : Ref sig .tc := ⟨.hbm, 496, rfl⟩
abbrev main_while0b_call12_c_0 : Ref sig .tc := ⟨.hbm, 497, rfl⟩
abbrev main_while0b_call12_c_1 : Ref sig .tc := ⟨.hbm, 498, rfl⟩
abbrev main_while0b_call12_c_2 : Ref sig .tc := ⟨.hbm, 499, rfl⟩
abbrev main_while0b_call12_v0 : Ref sig .tc := ⟨.hbm, 500, rfl⟩
abbrev main_while0b_v420 : Ref sig .tc := ⟨.hbm, 501, rfl⟩
abbrev main_while0b_call13_c : Ref sig .tc := ⟨.hbm, 502, rfl⟩
abbrev main_while0b_call13_c_0 : Ref sig .tc := ⟨.hbm, 503, rfl⟩
abbrev main_while0b_call13_c_1 : Ref sig .tc := ⟨.hbm, 504, rfl⟩
abbrev main_while0b_call13_c_2 : Ref sig .tc := ⟨.hbm, 505, rfl⟩
abbrev main_while0b_call13_v0 : Ref sig .tc := ⟨.hbm, 506, rfl⟩
abbrev main_while0b_v421 : Ref sig .tc := ⟨.hbm, 507, rfl⟩
abbrev main_while0b_call14_c : Ref sig .tc := ⟨.hbm, 508, rfl⟩
abbrev main_while0b_call14_c_0 : Ref sig .tc := ⟨.hbm, 509, rfl⟩
abbrev main_while0b_call14_c_1 : Ref sig .tc := ⟨.hbm, 510, rfl⟩
abbrev main_while0b_call14_c_2 : Ref sig .tc := ⟨.hbm, 511, rfl⟩
abbrev main_while0b_call14_v0 : Ref sig .tc := ⟨.hbm, 512, rfl⟩
abbrev main_while0b_v422 : Ref sig .tc := ⟨.hbm, 513, rfl⟩
abbrev main_while0b_call15_c : Ref sig .tc := ⟨.hbm, 514, rfl⟩
abbrev main_while0b_call15_c_0 : Ref sig .tc := ⟨.hbm, 515, rfl⟩
abbrev main_while0b_call15_v0 : Ref sig .tc := ⟨.hbm, 516, rfl⟩
abbrev main_while0b_v423 : Ref sig .tc := ⟨.hbm, 517, rfl⟩
abbrev main_while0b_v424 : Ref sig .tc := ⟨.hbm, 518, rfl⟩
abbrev main_while0b_v425 : Ref sig .tc := ⟨.hbm, 519, rfl⟩
abbrev main_while0b_v426 : Ref sig .tc := ⟨.hbm, 520, rfl⟩
abbrev main_while0b_v427 : Ref sig .tc := ⟨.hbm, 521, rfl⟩
abbrev main_while0b_v428 : Ref sig .tc := ⟨.hbm, 522, rfl⟩
abbrev main_while0b_v429 : Ref sig .tc := ⟨.hbm, 523, rfl⟩
abbrev main_while0b_v430 : Ref sig .tc := ⟨.hbm, 524, rfl⟩
abbrev main_while0b_v431 : Ref sig .tc := ⟨.hbm, 525, rfl⟩
abbrev main_while0b_v432 : Ref sig .tc := ⟨.hbm, 526, rfl⟩
abbrev main_while0b_v433 : Ref sig .tc := ⟨.hbm, 527, rfl⟩
abbrev main_while0b_v434 : Ref sig .tc := ⟨.hbm, 528, rfl⟩
abbrev main_while0b_v435 : Ref sig .tc := ⟨.hbm, 529, rfl⟩
abbrev main_while0b_call16_v0 : Ref sig .tc := ⟨.hbm, 530, rfl⟩
abbrev main_while0b_call16_c : Ref sig .tc := ⟨.hbm, 531, rfl⟩
abbrev main_while0b_call16_c_0 : Ref sig .tc := ⟨.hbm, 532, rfl⟩
abbrev main_while0b_call16_c_1 : Ref sig .tc := ⟨.hbm, 533, rfl⟩
abbrev main_while0b_call16_c_2 : Ref sig .tc := ⟨.hbm, 534, rfl⟩
abbrev main_while0b_v436 : Ref sig .tc := ⟨.hbm, 535, rfl⟩
abbrev main_while0b_c_28 : Ref sig .tc := ⟨.hbm, 536, rfl⟩
abbrev main_while0b_v437 : Ref sig .tc := ⟨.hbm, 537, rfl⟩
abbrev main_v397 : Ref sig .tc := ⟨.hbm, 538, rfl⟩
abbrev main_v398 : Ref sig .tc := ⟨.hbm, 539, rfl⟩
abbrev main_v399 : Ref sig .tc := ⟨.hbm, 540, rfl⟩
abbrev main_cst_17 : Ref sig .tc := ⟨.hbm, 541, rfl⟩
abbrev main_v400 : Ref sig .tc := ⟨.hbm, 542, rfl⟩
abbrev main_v401 : Ref sig .tc := ⟨.hbm, 543, rfl⟩
abbrev main_cst_18 : Ref sig .tc := ⟨.hbm, 544, rfl⟩
abbrev main_v402 : Ref sig .tc := ⟨.hbm, 545, rfl⟩
abbrev main_v403 : Ref sig .tc := ⟨.hbm, 546, rfl⟩
abbrev main_cst_19 : Ref sig .tc := ⟨.hbm, 547, rfl⟩
abbrev main_v404 : Ref sig .tc := ⟨.hbm, 548, rfl⟩
abbrev main_v405 : Ref sig .tc := ⟨.hbm, 549, rfl⟩
abbrev main_v406 : Ref sig .tc := ⟨.hbm, 550, rfl⟩
abbrev main_v407 : Ref sig .tc := ⟨.hbm, 551, rfl⟩
abbrev main_v408 : Ref sig .tc := ⟨.hbm, 552, rfl⟩
abbrev main_v409 : Ref sig .tc := ⟨.hbm, 553, rfl⟩
abbrev main_v410 : Ref sig .tc := ⟨.hbm, 554, rfl⟩
abbrev main_v411 : Ref sig .tc := ⟨.hbm, 555, rfl⟩
abbrev main_v412 : Ref sig .tc := ⟨.hbm, 556, rfl⟩
abbrev main_v413 : Ref sig .tc := ⟨.hbm, 557, rfl⟩
abbrev main_call17_v0 : Ref sig .tc := ⟨.hbm, 558, rfl⟩
abbrev main_call17_v1 : Ref sig .tc := ⟨.hbm, 559, rfl⟩
abbrev main_call17_cst : Ref sig .tc := ⟨.hbm, 560, rfl⟩
abbrev main_call17_v2 : Ref sig .tc := ⟨.hbm, 561, rfl⟩
abbrev main_call17_v3 : Ref sig .tc := ⟨.hbm, 562, rfl⟩
abbrev main_call17_cst_0 : Ref sig .tc := ⟨.hbm, 563, rfl⟩
abbrev main_call17_v4 : Ref sig .tc := ⟨.hbm, 564, rfl⟩
abbrev main_call17_v5 : Ref sig .tc := ⟨.hbm, 565, rfl⟩
abbrev main_v414 : Ref sig .tc := ⟨.hbm, 566, rfl⟩
abbrev main_v415 : Ref sig .tc := ⟨.hbm, 567, rfl⟩
abbrev main_v416 : Ref sig .tc := ⟨.hbm, 568, rfl⟩
abbrev main_v417 : Ref sig .tc := ⟨.hbm, 569, rfl⟩

abbrev nD : Nat := 1
abbrev τ : Topo := Topo.v7x

variable {F : FTy → Type} [FloatOps F]

abbrev main_while0_count : Scf.Loop 32 := ⟨0#32, 64#32, 1#32⟩
-- ==== Final.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.SbMath.lean ====
/-
  Stick-breaking attention's arithmetic for one query row, over the reals.

  `Z s` is the score of key `s`, `sp` the softplus. The weight of key `s` for the query at position `p` is
  `exp (Z s - Σ_{s ≤ j < p} sp (Z j))`: the stick's piece `sigmoid (Z s)` times what the later keys leave over.
  A kernel that walks the key blocks from the query's own block down to block zero adds, block by block, to the sum
  and to the weighted values what this module's `S` and `A` add on an interval of keys.
-/
module

public import Idealize.ShloMosaic.Lib.Claim
public import Idealize.ShloMosaic.Lib.Pipeline.ValueKit

@[expose] public section

noncomputable section

open Idealize.ShloMosaic

namespace Cert.Sb

/-- The softplus, in the form that does not overflow. -/
def sp (x : ℝ) : ℝ := max x 0 + Real.log (1 + Real.exp (-|x|))

/-- `log (sigmoid x) = x - softplus x = -softplus (-x)`. -/
theorem sp_neg (x : ℝ) : sp (-x) = sp x - x := by
  unfold sp
  rw [abs_neg]
  rcases le_total x 0 with h | h
  · rw [max_eq_left (by linarith : (0 : ℝ) ≤ -x), max_eq_right h]; ring
  · rw [max_eq_right (by linarith : -x ≤ 0), max_eq_left h]; ring

theorem coe_max (x y : ℝ) : ((max x y : ℝ) : EReal) = max (x : EReal) (y : EReal) :=
  EReal.coe_strictMono.monotone.map_max

/-- The softplus of a finite score over the extended reals, from the score's absolute value. -/
theorem softplus_of_abs (x : ℝ) :
    max (x : EReal) 0 + Ideal.log1p (Ideal.exp (-((|x| : ℝ) : EReal))) = ((sp x : ℝ) : EReal) := by
  have hpos : 0 < 1 + Real.exp (-|x|) := by positivity
  rw [← EReal.coe_neg, Ideal.exp_coe, Ideal.log1p, ← EReal.coe_one, ← EReal.coe_add, Ideal.log_coe, if_neg (not_le.2 hpos),
    ← EReal.coe_zero, ← coe_max, ← EReal.coe_add]
  rfl

theorem abs_coe (x : ℝ) : max (x : EReal) (-(x : EReal)) = ((|x| : ℝ) : EReal) := by
  rw [← EReal.coe_neg, ← coe_max]; rfl

/-- The softplus of a finite score as the kernel computes it. -/
theorem softplus_coe (x : ℝ) :
    max (x : EReal) 0 + Ideal.log1p (Ideal.exp (0 - FloatOps.absf (F := Ideal) (φ := .f32) (x : EReal))) = ((sp x : ℝ) : EReal) := by
  have h : FloatOps.absf (F := Ideal) (φ := .f32) (x : EReal) = ((|x| : ℝ) : EReal) := abs_coe x
  rw [h, zero_sub, softplus_of_abs]

/-- The softpluses of the keys from `lo` to before `p`, summed. -/
def S (Z : ℕ → ℝ) (lo p : ℕ) : ℝ := ∑ j ∈ Finset.Ico lo p, sp (Z j)

/-- The weight of key `s` for the query at position `p`. -/
def W (Z : ℕ → ℝ) (p s : ℕ) : ℝ := Real.exp (Z s - S Z s p)

/-- The weighted values of the keys from `lo` to before `p`, summed. -/
def A (Z : ℕ → ℝ) (V : ℕ → EReal) (lo p hi : ℕ) : EReal := ∑ s ∈ Finset.Ico lo hi, ((W Z p s : ℝ) : EReal) * V s

theorem S_add (Z : ℕ → ℝ) {a b p : ℕ} (h : a ≤ b) (h' : b ≤ p) : S Z a b + S Z b p = S Z a p :=
  Finset.sum_Ico_consecutive _ h h'

theorem A_add (Z : ℕ → ℝ) (V : ℕ → EReal) (p : ℕ) {a b c : ℕ} (h : a ≤ b) (h' : b ≤ c) :
    A Z V a p b + A Z V b p c = A Z V a p c :=
  Finset.sum_Ico_consecutive _ h h'

/-- A sum of finite numbers is the finite sum. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over the columns of a block that starts at key `b` is a sum over an interval of keys. -/
theorem sum_block {M : Type*} [AddCommMonoid M] (b n : ℕ) (f : ℕ → M) : ∑ x : Fin n, f (b + x.val) = ∑ j ∈ Finset.Ico b (b + n), f j := by
  rw [Finset.sum_Ico_eq_sum_range, Nat.add_sub_cancel_left, Finset.sum_range]

/-- The sum over a block's columns from `s` on that lie before `p`. -/
theorem sum_cols (b n s p : ℕ) (hp : p ≤ n) (f : ℕ → ℝ) :
    ∑ x : Fin n, (if s ≤ x.val ∧ x.val < p then ((f (b + x.val) : ℝ) : EReal) else 0) = ((∑ j ∈ Finset.Ico (b + s) (b + p), f j : ℝ) : EReal) := by
  have h := sum_block (M := EReal) b n (fun j => if b + s ≤ j ∧ j < b + p then ((f j : ℝ) : EReal) else 0)
  simp only [add_le_add_iff_left, add_lt_add_iff_left] at h
  rw [h, coe_sum, ← Finset.sum_filter]
  refine Finset.sum_congr ?_ fun _ _ => rfl
  ext j
  simp only [Finset.mem_filter, Finset.mem_Ico]
  omega

/-- A finite number minus itself is zero. -/
theorem coe_sub_self (x : ℝ) : (x : EReal) - (x : EReal) = 0 := by
  rw [← EReal.coe_sub, sub_self, EReal.coe_zero]

end Cert.Sb

end
-- ==== Proof.AttnBlock.lean ====
/-
  The attention kernel's output block, at a row and a column: the weighted values of all keys before the query's own.

  The kernel takes the query's own block of keys first, then walks down to block zero, carrying each row's sum of
  softpluses and its weighted values. `Row` says what scores and values a row meets; `carried` is the loop's invariant.
-/
module
public import proofs.«01_k».proof.Proof.Gen.AttnIdeal.Frame
public import proofs.«01_k».proof.Proof.SbMath
public import Idealize.ShloMosaic.Lib.WholeRead
public import Idealize.ShloMosaic.Lib.WordCmp
public import Idealize.ShloMosaic.Lib.Claim
public import Idealize.ShloMosaic.Lib.Pipeline.ValueKit
public import Idealize.ShloMosaic.Lib.Pipeline.ValueKit.Held
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.AttnIdeal.Tie
open Cert.AttnIdeal Cert.AttnIdeal.Gen
open Cert.Sb

variable (Q K V : Vec Ideal S256x128 .bf16) (C : FVec Ideal S256x1 .f32) (A₀ : FVec Ideal S256x128 .f32)
  (Z : ℕ → ℝ) (b : ℕ) (r : Fin 256)

theorem ge_bit (x s : Fin 256) : IntOp.cmpi .sge (BitVec.ofNat 32 x.val) (BitVec.ofNat 32 s.val) = if s.val ≤ x.val then 1#1 else 0#1 := by
  rw [WordCmp.cmpi_sge_ofNat (by have := x.isLt; omega) (by have := s.isLt; omega)]
  by_cases h : s.val ≤ x.val <;> simp [h]

theorem lt_bit (s r : Fin 256) : IntOp.cmpi .slt (BitVec.ofNat 32 s.val) (BitVec.ofNat 32 r.val) = if s.val < r.val then 1#1 else 0#1 := by
  rw [WordCmp.cmpi_slt_ofNat (by have := s.isLt; omega) (by have := r.isLt; omega)]
  by_cases h : s.val < r.val <;> simp [h]

/-- The matrix of ones below and on the diagonal. -/
theorem ones_at (x s : Fin 256) : (k0_pay12 : FVec Ideal S256x256 .bf16) (ix2 x s) = if s.val ≤ x.val then 1 else 0 := by
  pointwise [k0_pay12]
  rw [ge_bit]
  split <;> rfl

/-- The strictly lower triangle. -/
theorem below_at (s : Fin 256) : k0_pay13 (ix2 r s) = if s.val < r.val then 1#1 else 0#1 := by
  pointwise [k0_pay13]
  exact lt_bit s r

/-- The product with the matrix of ones sums a row's softpluses from column `s` on. -/
theorem suffix_sum (n : ℕ) (hn : n ≤ 256) (s : Fin 256) (f : Fin 256 → EReal)
    (hf : ∀ x : Fin 256, f x = if x.val < n then ((sp (Z (b + x.val)) : ℝ) : EReal) else 0) :
    ∑ x : Fin 256, f x * (k0_pay12 : FVec Ideal S256x256 .bf16) (ix2 x s) = ((S Z (b + s.val) (b + n) : ℝ) : EReal) := by
  refine Eq.trans (Finset.sum_congr rfl fun x _ => ?_) (sum_cols b 256 s.val n hn fun j => sp (Z j))
  rw [ones_at, hf]
  by_cases h1 : x.val < n <;> by_cases h2 : s.val ≤ x.val <;> simp [h1, h2]

/-- Off the diagonal block: the sums of softpluses from each of the block's keys on. -/
theorem sums_at (p : ℕ) (hp : b + 256 ≤ p)
    (hz : ∀ s : Fin 256, k0_pay3 Q K (ix2 r s) = ((Z (b + s.val) : ℝ) : EReal))
    (hc : C (ix2 r 0) = ((S Z (b + 256) p : ℝ) : EReal)) (s : Fin 256) :
    k0_pay4 Q k0_pay12 C K (ix2 r s) = ((S Z (b + s.val) p : ℝ) : EReal) := by
  pointwise [k0_pay4]
  simp only [hz, softplus_coe, coe_sub_self, zero_mul, Finset.sum_const_zero, add_zero]
  rw [suffix_sum Z b 256 le_rfl s _ (fun x => by rw [if_pos x.isLt]), hc, ← EReal.coe_add, S_add Z (by omega) hp]

/-- Off the diagonal block: the sum carried to the next block down. -/
theorem carry_at (p : ℕ) (hp : b + 256 ≤ p)
    (hz : ∀ s : Fin 256, k0_pay3 Q K (ix2 r s) = ((Z (b + s.val) : ℝ) : EReal))
    (hc : C (ix2 r 0) = ((S Z (b + 256) p : ℝ) : EReal)) :
    k0_pay6 Q k0_pay12 C K (ix2 r 0) = ((S Z b p : ℝ) : EReal) := by
  pointwise [k0_pay6]
  exact sums_at Q K C Z b r p hp hz hc 0

/-- Off the diagonal block: the weighted values with the block's added. -/
theorem acc_at (Y : ℕ → EReal) (d : Fin 128) (p : ℕ) (hp : b + 256 ≤ p)
    (hz : ∀ s : Fin 256, k0_pay3 Q K (ix2 r s) = ((Z (b + s.val) : ℝ) : EReal))
    (hv : ∀ s : Fin 256, V (ix2 s d) = Y (b + s.val))
    (hc : C (ix2 r 0) = ((S Z (b + 256) p : ℝ) : EReal))
    (ha : A₀ (ix2 r d) = A Z Y (b + 256) p p) :
    k0_pay5 Q k0_pay12 C A₀ K V (ix2 r d) = A Z Y b p p := by
  pointwise [k0_pay5]
  simp only [hz, hv, sums_at Q K C Z b r p hp hz hc, ← EReal.coe_sub, Ideal.exp_coe]
  rw [ha, sum_block b 256 fun j => ((Real.exp (Z j - S Z j p) : ℝ) : EReal) * Y j, add_comm]
  exact A_add Z Y p (by omega) hp

/-- On the diagonal block: the sums of softpluses from each key on to before the query. -/
theorem diag_sums_at (hz : ∀ s : Fin 256, k0_pay15 Q K (ix2 r s) = ((Z (b + s.val) : ℝ) : EReal)) (s : Fin 256) :
    k0_pay16 Q K (ix2 r s) = ((S Z (b + s.val) (b + r.val) : ℝ) : EReal) := by
  have key := suffix_sum Z b r.val r.isLt.le s (fun x => if x.val < r.val then ((sp (Z (b + x.val)) : ℝ) : EReal) else 0) fun _ => rfl
  have sel : ∀ (x : Fin 256) (u v : EReal), Scalar.select (k0_pay13 (ix2 r x)) u v = if x.val < r.val then u else v := fun x u v => by
    rw [below_at]; split <;> rfl
  pointwise [k0_pay16]
  simp only [hz, softplus_coe, sel]
  have zero : ∀ x : Fin 256, ((if x.val < r.val then ((sp (Z (b + x.val)) : ℝ) : EReal) else 0)
      - (if x.val < r.val then ((sp (Z (b + x.val)) : ℝ) : EReal) else 0)) = 0 := fun x => by
    split
    · exact coe_sub_self _
    · exact sub_zero _
  simp only [zero, zero_mul, Finset.sum_const_zero, add_zero]
  rw [← key]
  exact Finset.sum_congr rfl fun x _ => by split <;> simp

/-- On the diagonal block: the sum carried to the next block down. -/
theorem diag_carry_at (hz : ∀ s : Fin 256, k0_pay15 Q K (ix2 r s) = ((Z (b + s.val) : ℝ) : EReal)) :
    k0_pay2 (k0_pay16 Q K) (ix2 r 0) = ((S Z b (b + r.val) : ℝ) : EReal) := by
  pointwise [k0_pay2]
  exact diag_sums_at Q K Z b r hz 0

/-- On the diagonal block: the weighted values of the block's keys before the query. -/
theorem diag_acc_at (Y : ℕ → EReal) (d : Fin 128)
    (hz : ∀ s : Fin 256, k0_pay15 Q K (ix2 r s) = ((Z (b + s.val) : ℝ) : EReal))
    (hv : ∀ s : Fin 256, V (ix2 s d) = Y (b + s.val)) :
    k0_pay1 k0_pay13 k0_pay14 V (k0_pay17 Q K) (ix2 r d) = A Z Y b (b + r.val) (b + r.val) := by
  have sel : ∀ (x : Fin 256) (u v : EReal), Scalar.select (k0_pay13 (ix2 r x)) u v = if x.val < r.val then u else v := fun x u v => by
    rw [below_at]; split <;> rfl
  pointwise [k0_pay1, k0_pay14, k0_pay17]
  simp only [hz, hv, diag_sums_at Q K Z b r hz, sel, ← EReal.coe_sub, Ideal.exp_coe]
  have h := sum_block (M := EReal) b 256 fun j => if j < b + r.val then ((W Z (b + r.val) j : ℝ) : EReal) * Y j else 0
  simp only [add_lt_add_iff_left] at h
  refine h.trans ?_
  rw [← Finset.sum_filter]
  refine Finset.sum_congr ?_ fun _ _ => rfl
  ext j
  have := r.isLt
  simp only [Finset.mem_filter, Finset.mem_Ico]
  omega

variable (Q : Vec Ideal S256x128 .bf16) (K V : Vec Ideal S4096x128 .bf16) (Z : ℕ → ℝ) (Y : ℕ → EReal) (r : Fin 256) (d : Fin 128)

/-- The loop has a trip for each block before the query's own. -/
theorem trips_lit (n : Fin 16) : Scf.trips 0#32
    (Scalar.addi 0#32 (Scalar.muli (Scalar.divsi (Scalar.subi (BitVec.ofNat 32 n.val) 0#32) 1#32) 1#32)) 1#32 = n.val := by
  revert n; decide +kernel

theorem trips_eq (i : grid0.Coords) : (k0_t1_loop i).trips = (i 2).val := trips_lit (i 2)

/-- Trip `k` reads the block `k + 1` before the query's own. -/
theorem off2_eq (i : grid0.Coords) (k : Fin (k0_t1_loop i).trips) : k0_off2 i k = ![256 * ((i 2).val - 1 - k.val), 0] := by
  have h : ∀ (n k : Fin 16), k.val < n.val → (Scalar.indexCast (Scalar.muli (Scalar.subi (Scalar.subi (BitVec.ofNat 32 n.val) 1#32) (Scf.iv 0#32 1#32 k.val)) 256#32) : Index).toNat = 256 * (n.val - 1 - k.val) := by
    decide +kernel
  have hk : k.val < (i 2).val := lt_of_lt_of_eq k.isLt (trips_eq i)
  have h2 : (i 2).val < 16 := (i 2).isLt
  exact congrArg (fun n => ![n, 0]) (h (i 2) ⟨k.val, by omega⟩ hk)

/-- A block of 256 rows read at a row and a column. -/
theorem ld_rows (X : Vec Ideal S4096x128 .bf16) (off : Fin 2 → ℕ) (b : ℕ) (ho : off = ![b, 0]) (hb : b + 256 ≤ 4096)
    (inb : ∀ a, off a + S256x128.size a ≤ S4096x128.size a) (s : Fin 256) (x : Fin 128) :
    View.ld X (Rect.unit off S256x128.size inb) (ix2 s x) = X (ix2 ⟨b + s.val, by have := s.isLt; omega⟩ x) := by
  subst ho
  refine View.ld_unit_apply_of _ _ _ _ _ _ fun a => ?_
  fin_cases a
  · rfl
  · exact (Nat.zero_add _).symm

/-- The scaled product of a query row and a key row. -/
theorem score_at (B : Vec Ideal S256x128 .bf16) (s : Fin 256) :
    k0_pay3 Q B (ix2 r s) = (∑ x : Fin 128, Q (ix2 r x) * B (ix2 s x)) * Ideal.ofBits .f32 1035273459#32 := by
  pointwise [k0_pay3]

theorem score_diag_at (B : Vec Ideal S256x128 .bf16) (s : Fin 256) :
    k0_pay15 Q B (ix2 r s) = (∑ x : Fin 128, Q (ix2 r x) * B (ix2 s x)) * Ideal.ofBits .f32 1035273459#32 := by
  pointwise [k0_pay15]

/-- The scores of a query row against all keys are the reals `Z`, and the values' column is `Y`. -/
structure Row (Q : Vec Ideal S256x128 .bf16) (K V : Vec Ideal S4096x128 .bf16) (Z : ℕ → ℝ) (Y : ℕ → EReal) (r : Fin 256) (d : Fin 128) : Prop where
  score : ∀ s : Fin 4096, (∑ x : Fin 128, Q (ix2 r x) * K (ix2 s x)) * Ideal.ofBits .f32 1035273459#32 = ((Z s.val : ℝ) : EReal)
  value : ∀ s : Fin 4096, V (ix2 s d) = Y s.val

variable {Q K V Z Y r d}

theorem Row.score_block (h : Row Q K V Z Y r d) (off : Fin 2 → ℕ) (b : ℕ) (ho : off = ![b, 0]) (hb : b + 256 ≤ 4096)
    (inb : ∀ a, off a + S256x128.size a ≤ S4096x128.size a) (s : Fin 256) :
    k0_pay3 Q (View.ld K (Rect.unit off S256x128.size inb)) (ix2 r s) = ((Z (b + s.val) : ℝ) : EReal) := by
  simp only [score_at, ld_rows K off b ho hb]
  exact h.score _

theorem Row.score_diag (h : Row Q K V Z Y r d) (off : Fin 2 → ℕ) (b : ℕ) (ho : off = ![b, 0]) (hb : b + 256 ≤ 4096)
    (inb : ∀ a, off a + S256x128.size a ≤ S4096x128.size a) (s : Fin 256) :
    k0_pay15 Q (View.ld K (Rect.unit off S256x128.size inb)) (ix2 r s) = ((Z (b + s.val) : ℝ) : EReal) := by
  simp only [score_diag_at, ld_rows K off b ho hb]
  exact h.score _

theorem Row.value_block (h : Row Q K V Z Y r d) (off : Fin 2 → ℕ) (b : ℕ) (ho : off = ![b, 0]) (hb : b + 256 ≤ 4096)
    (inb : ∀ a, off a + S256x128.size a ≤ S4096x128.size a) (s : Fin 256) :
    View.ld V (Rect.unit off S256x128.size inb) (ix2 s d) = Y (b + s.val) := by
  rw [ld_rows V off b ho hb]
  exact h.value _

/-- One trip over a whole buffer: the block's payloads. -/
theorem trip_eq (𝒱 : Variants) (c : Dev nD) (bd : Option 𝒱.V) (i : grid0.Coords)
    (arg3 : Memref sig .tc .vmem S256x128 .bf16) (harg3 : arg3.IsWhole) (arg4 : Memref sig .tc .vmem S4096x128 .bf16) (harg4 : arg4.IsWhole)
    (arg5 : Memref sig .tc .vmem S4096x128 .bf16) (harg5 : arg5.IsWhole) (arg6 : Memref sig .tc .vmem S256x128 .bf16) (harg6 : arg6.IsWhole)
    (v0 : Vec Ideal S256x128 .bf16) (v7 : FVec Ideal S256x256 .bf16) (k) (acc) :
    (trip_k0_t1 (F := Ideal) 𝒱 c bd i arg3 harg3 arg4 harg4 arg5 harg5 arg6 harg6 v0 v7 (harg4.unread K) (harg5.unread V) k).1 acc
    = (k0_pay6 v0 v7 acc.1 (View.ld K (Rect.unit (k0_off2 i k) S256x128.size (k0_off2_inb i k))),
       k0_pay5 v0 v7 acc.1 acc.2 (View.ld K (Rect.unit (k0_off2 i k) S256x128.size (k0_off2_inb i k)))
         (View.ld V (Rect.unit (k0_off2 i k) S256x128.size (k0_off2_inb i k)))) := by
  have e4 : ∀ B : Rect S4096x128, View.readAt (Elt Ideal) arg4.view B.toLoadRect (harg4.unread K) = View.ld K B := fun B =>
    funext fun x => harg4.readAt_unread K B.toLoadRect x
  have e5 : ∀ B : Rect S4096x128, View.readAt (Elt Ideal) arg5.view B.toLoadRect (harg5.unread V) = View.ld V B := fun B =>
    funext fun x => harg5.readAt_unread V B.toLoadRect x
  unfold trip_k0_t1
  dsimp only
  rw [← e4, ← e5]

/-- Before trip `k` the loop carries, in the query's row, the sums over the keys from block `i - k` on to before the query. -/
theorem carried (h : Row Q K V Z Y r d) (𝒱 : Variants) (c : Dev nD) (bd : Option 𝒱.V) (i : grid0.Coords)
    (arg3 : Memref sig .tc .vmem S256x128 .bf16) (harg3 : arg3.IsWhole) (arg4 : Memref sig .tc .vmem S4096x128 .bf16) (harg4 : arg4.IsWhole)
    (arg5 : Memref sig .tc .vmem S4096x128 .bf16) (harg5 : arg5.IsWhole) (arg6 : Memref sig .tc .vmem S256x128 .bf16) (harg6 : arg6.IsWhole)
    (i1 : FVec Ideal S256x1 .f32) (i2 : FVec Ideal S256x128 .f32) (h1 : i1 (ix2 r 0) = ((S Z (256 * (i 2).val) (256 * (i 2).val + r.val) : ℝ) : EReal))
    (h2 : i2 (ix2 r d) = A Z Y (256 * (i 2).val) (256 * (i 2).val + r.val) (256 * (i 2).val + r.val)) :
    ∀ (k : ℕ) (hk : k ≤ (i 2).val),
      (st_k0_t1 (F := Ideal) 𝒱 c bd i arg3 harg3 arg4 harg4 arg5 harg5 arg6 harg6 Q k0_pay12 (harg4.unread K) (harg5.unread V) (i1, i2) k).1 (ix2 r 0)
        = ((S Z (256 * ((i 2).val - k)) (256 * (i 2).val + r.val) : ℝ) : EReal)
      ∧ (st_k0_t1 (F := Ideal) 𝒱 c bd i arg3 harg3 arg4 harg4 arg5 harg5 arg6 harg6 Q k0_pay12 (harg4.unread K) (harg5.unread V) (i1, i2) k).2 (ix2 r d)
        = A Z Y (256 * ((i 2).val - k)) (256 * (i 2).val + r.val) (256 * (i 2).val + r.val)
  | 0, _ => ⟨h1, h2⟩
  | k + 1, hk => by
    obtain ⟨c1, c2⟩ := carried h 𝒱 c bd i arg3 harg3 arg4 harg4 arg5 harg5 arg6 harg6 i1 i2 h1 h2 k (by omega)
    have hi : (i 2).val < 16 := (i 2).isLt
    have hkt : k < (k0_t1_loop i).trips := by rw [trips_eq]; omega
    have eo := off2_eq i ⟨k, hkt⟩
    have eb : 256 * ((i 2).val - k) = 256 * ((i 2).val - 1 - k) + 256 := by omega
    have eb' : (i 2).val - (k + 1) = (i 2).val - 1 - k := by omega
    rw [show k + 1 = (⟨k, hkt⟩ : Fin (k0_t1_loop i).trips).val + 1 from rfl, st_k0_t1_succ, tripR_k0_t1, trip_eq]
    rw [eb] at c1 c2
    have hz := h.score_block _ _ eo (by omega) (k0_off2_inb i ⟨k, hkt⟩)
    have hv := h.value_block _ _ eo (by omega) (k0_off2_inb i ⟨k, hkt⟩)
    rw [show (⟨k, hkt⟩ : Fin (k0_t1_loop i).trips).val + 1 = k + 1 from rfl, eb']
    exact ⟨carry_at _ _ _ _ _ _ _ (by omega) hz c1, acc_at _ _ _ _ _ _ _ _ _ _ _ (by omega) hz hv c1 c2⟩

/-- The second loop has no trips. -/
theorem no_trips (n : Fin 16) : Scf.trips
            (Scalar.addi (0#32)
              (Scalar.muli (Scalar.divsi (Scalar.subi (BitVec.ofNat 32 n.val) 0#32) 1#32) 1#32))
            (Scalar.addi (0#32) (Scalar.subi (BitVec.ofNat 32 n.val) 0#32)) 1#32 = 0 := by
  revert n; decide +kernel

/-- The output block at a row and a column: the weighted values of all keys before the query. -/
theorem out_at (m : (ℓ : Loc nD τ sig) → Buf (Elt Ideal) ℓ) (c : Dev nD) (t : Fin cfg0.N)
    (h : Row (iblk m c 0 t) (iblk m c 1 t) (iblk m c 2 t) Z Y r d) :
    outsAt0 m c t (ix2 r d) = A Z Y 0 (256 * (grid0.coords t 2).val + r.val) (256 * (grid0.coords t 2).val + r.val) := by
  unfold outsAt0
  frame_open
  frame_out
  have hi : (grid0.coords t 2).val < 16 := (grid0.coords t 2).isLt
  have hz := h.score_diag _ _ (k0_off1_eq (grid0.coords t)) (by omega) (k0_off1_inb (grid0.coords t))
  have hv := h.value_block _ _ (k0_off1_eq (grid0.coords t)) (by omega) (k0_off1_inb (grid0.coords t))
  pointwise [k0_pay11]
  rw [no_trips (grid0.coords t 2), st_k0_t2_zero]
  rw [trips_lit (grid0.coords t 2)]
  have key := (carried h Variants.none c none (grid0.coords t) (ms0_0 t) (hstage0_0 _) (ms0_1 t) (hstage0_1 _) (ms0_2 t) (hstage0_2 _) (ms0_3 t) (hstage0_3 _) _ _
    (diag_carry_at _ _ Z _ r hz) (diag_acc_at _ _ _ Z _ r Y d hz hv) (grid0.coords t 2).val le_rfl).2
  rw [Nat.sub_self, Nat.mul_zero] at key
  exact key
end Cert.AttnIdeal.Tie
end
-- ==== Proof.AttnRef.lean ====
module
public import proofs.«01_k».proof.Proof.Gen.AttnRefIdeal.Run
public import proofs.«01_k».proof.Proof.SbMath
public import Idealize.ShloMosaic.Lib.Claim
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.AttnRefIdeal.Tie

open Cert.AttnRefIdeal Cert.AttnRefIdeal.Gen Cert.Sb

/-- The fused rows by batch and position. -/
def rows (X : FVec Ideal S16384x2304 .bf16) : FVec Ideal S4x4096x2304 .f32 :=
  shapeCast _ (extf .f32 X bitsLt_bf16_f32) shapeCasts_S16384x2304_S4x4096x2304

/-- The queries, keys and values by batch, position, head and channel. -/
def queries (X : FVec Ideal S16384x2304 .bf16) : FVec Ideal S4x4096x6x128 .f32 :=
  shapeCast _ (extractStridedSlice S4x4096x768 ![0, 0, 0] (rows X) slices_S4x4096x2304_S4x4096x768_0_0_0) shapeCasts_S4x4096x768_S4x4096x6x128
def keys (X : FVec Ideal S16384x2304 .bf16) : FVec Ideal S4x4096x6x128 .f32 :=
  shapeCast _ (extractStridedSlice S4x4096x768 ![0, 0, 768] (rows X) slices_S4x4096x2304_S4x4096x768_0_0_768) shapeCasts_S4x4096x768_S4x4096x6x128
def values (X : FVec Ideal S16384x2304 .bf16) : FVec Ideal S4x4096x6x128 .f32 :=
  shapeCast _ (extractStridedSlice S4x4096x768 ![0, 0, 1536] (rows X) slices_S4x4096x2304_S4x4096x768_0_0_1536) shapeCasts_S4x4096x768_S4x4096x6x128

/-- The scaled scores. -/
def scores (X : FVec Ideal S16384x2304 .bf16) : FVec Ideal S4x6x4096x4096 .f32 :=
  mulf (Host.dotGeneral (φ₁ := .f32) (φ₂ := .f32) dot_S4x4096x6x128_S4x4096x6x128_S4x6x4096x4096_3_3_1_1_02_02 none (queries X) (keys X))
    (broadcastInDim S4x6x4096x4096 ![] bcast_S_S4x6x4096x4096 (constant S_ .f32 0x3DB504F3#32))

/-- Zeros. -/
def zeros : FVec Ideal S4x6x4096x4096 .f32 :=
  broadcastInDim S4x6x4096x4096 ![] bcast_S_S4x6x4096x4096 (constant S_ .f32 0x00000000#32)

/-- The softplus, element by element. -/
def softplus (z : FVec Ideal S4x6x4096x4096 .f32) : FVec Ideal S4x6x4096x4096 .f32 :=
  select (cmpf .une (subf z zeros) (subf z zeros)) (addf z zeros)
    (addf (maximumf z zeros) (Host.log1p (Host.exp (Host.negf (Host.absf (subf z zeros))))))

/-- The mask: the key comes before the query. -/
def causal : IVec S4x6x4096x4096 1 :=
  broadcastInDim S4x6x4096x4096 ![2, 3] bcast_S4096x4096_S4x6x4096x4096_2_3
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The logarithm of what key `s` leaves of the stick. -/
def logFail (z : FVec Ideal S4x6x4096x4096 .f32) : FVec Ideal S4x6x4096x4096 .f32 :=
  select causal (Host.negf (softplus z)) zeros

/-- The sums from each key on to the last. -/
def fromEach (l : FVec Ideal S4x6x4096x4096 .f32) : FVec Ideal S4x6x4096x4096 .f32 :=
  Host.reduceWindowAdd ![1, 1, 1, 4096] ![1, 1, 1, 1] ![0, 0, 0, 0] ![0, 0, 0, 4095] l
    (broadcastInDim S_ ![] bcast_S_S_ (constant (F := Ideal) S_ .f32 0x00000000#32))
    reduceWindows_S4x6x4096x4096_S4x6x4096x4096_w1s1p0_0_w1s1p0_0_w1s1p0_0_w4096s1p0_4095 h_S_

/-- The attention weights. -/
def weights (z : FVec Ideal S4x6x4096x4096 .f32) : FVec Ideal S4x6x4096x4096 .f32 :=
  select causal
    (Host.exp (addf (Host.negf (softplus (Host.negf z))) (subf (fromEach (logFail z)) (logFail z)))) zeros

/-- The reference's result over its argument. -/
def ref (X : FVec Ideal S16384x2304 .bf16) : FVec Ideal S16384x768 .bf16 :=
  truncf .bf16 (shapeCast _ (transpose S4x4096x6x128 [0, 3, 1, 2]
    (Host.dotGeneral (φ₁ := .f32) (φ₂ := .f32) dot_S4x4096x6x128_S4x6x4096x4096_S4x6x128x4096_1_3_3_2_02_01 none (values X) (weights (scores X)))
    transposes_S4x6x128x4096_S4x4096x6x128_0_3_1_2) shapeCasts_S4x4096x6x128_S16384x768) bitsLt_bf16_f32

theorem res_eq (m : (ℓ : Loc nD τ sig) → Buf (Elt Ideal) ℓ) (c : Dev nD) :
    Value.res_main_v29 m c = ref (m ((c.tc : Thread nD τ).loc main_arg0)) := rfl

/-- The mask at an index. -/
theorem causal_at (b : Fin 4) (h : Fin 6) (q s : Fin 4096) : causal (ix4 b h q s) = if s.val < q.val then 1#1 else 0#1 := by
  pointwise [causal]
  rw [WordCmp.cmpi_slt_ofNat (by have := s.isLt; omega) (by have := q.isLt; omega)]
  by_cases h : s.val < q.val <;> simp [h]

/-- The softplus of a finite score. -/
theorem softplus_at (z : FVec Ideal S4x6x4096x4096 .f32) (i : S4x6x4096x4096.Idx) (x : ℝ) (hx : z i = (x : EReal)) :
    softplus z i = ((sp x : ℝ) : EReal) := by
  pointwise [softplus, zeros]
  have e : FloatOps.absf (F := Ideal) (φ := .f32) (x : EReal) = ((|x| : ℝ) : EReal) := abs_coe x
  rw [hx, if_neg (fun h => h rfl), e, softplus_of_abs]

/-- A fold that adds is the start plus the sum. -/
theorem foldl_sum {ι : Type*} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- An index of the window is its last coordinate. -/
def windowEquiv : Shape.Idx ⟨S4x6x4096x4096.rank, ![1, 1, 1, 4096]⟩ ≃ Fin 4096 where
  toFun y := y 3
  invFun n := ix4 (0 : Fin 1) (0 : Fin 1) (0 : Fin 1) n
  left_inv y := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv n := rfl

/-- A sum over the window's positions in order is the sum over its last coordinate. -/
theorem sum_window (g : Shape.Idx ⟨S4x6x4096x4096.rank, ![1, 1, 1, 4096]⟩ → EReal) :
    ∑ n, g ((Shape.rowMajor ⟨S4x6x4096x4096.rank, ![1, 1, 1, 4096]⟩).symm n) = ∑ n : Fin 4096, g (windowEquiv.symm n) :=
  (Equiv.sum_comp (Shape.rowMajor ⟨S4x6x4096x4096.rank, ![1, 1, 1, 4096]⟩).symm g).trans (Equiv.sum_comp windowEquiv.symm g).symm

/-- What a window sum adds for one position of the window: the entry it reaches, or the start where it leaves the array. -/
def windowTerm {s t : Shape} (window strides lo hi : Fin s.rank → Nat) (x : s.Idx → EReal) (v : EReal)
    (h : s.ReduceWindows window strides lo hi t) (j : t.Idx) (y : Shape.Idx ⟨s.rank, window⟩) : EReal :=
  if hin : ∀ a, lo a ≤ (j (a.cast h.1.symm)).val * strides a + (y a).val
      ∧ (j (a.cast h.1.symm)).val * strides a + (y a).val - lo a < s.size a
  then x fun a => ⟨(j (a.cast h.1.symm)).val * strides a + (y a).val - lo a, (hin a).2⟩
  else v

/-- A window sum at an index: the start plus one term per position of the window. -/
theorem windowAdd_at {s t u : Shape} (window strides lo hi : Fin s.rank → Nat) (x : FVec Ideal s .f32) (init : FVec Ideal u .f32)
    (h : s.ReduceWindows window strides lo hi t) (hu : 0 < u.numel) (j : t.Idx) :
    Host.reduceWindowAdd window strides lo hi x init h hu j = init (Shape.Idx.first hu)
      + ∑ n, windowTerm window strides lo hi x (init (Shape.Idx.first hu)) h j ((Shape.rowMajor ⟨s.rank, window⟩).symm n) := by
  rw [Fin.sum_univ_def]
  refine Eq.trans ?_ (foldl_sum _ _ _)
  change Host.reduceWindow (u := ⟨0, ![]⟩) (· + ·) window strides lo hi x (fun _ => init (Shape.Idx.first hu)) h (by decide) j = _
  unfold Host.reduceWindow windowTerm
  dsimp only
  congr 1
  funext r n
  congr 1
  split <;> rfl

/-- The window sum at an index: the entries from `s` on in its row. -/
theorem fromEach_at (l : FVec Ideal S4x6x4096x4096 .f32) (b : Fin 4) (h : Fin 6) (q s : Fin 4096) :
    fromEach l (ix4 b h q s) = ∑ n : Fin 4096, if hn : s.val + n.val < 4096 then l (ix4 b h q ⟨s.val + n.val, hn⟩) else 0 := by
  have hv : Ideal.ofBits FTy.f32 0x00000000#32 = 0 := by
    pointwise
  have hi : (broadcastInDim S_ ![] bcast_S_S_ (constant (F := Ideal) S_ .f32 0x00000000#32)) (Shape.Idx.first h_S_) = (0 : EReal) := hv
  unfold fromEach
  rw [windowAdd_at, hi, zero_add]
  refine (sum_window (windowTerm _ _ _ _ l 0 _ _)).trans ?_
  refine Finset.sum_congr rfl fun n _ => ?_
  have hb := b.isLt
  have hh := h.isLt
  have hq := q.isLt
  unfold windowTerm
  by_cases hn : s.val + n.val < 4096
  · rw [dif_pos hn, dif_pos ?_]
    · congr 1
      funext a
      refine Fin.ext ?_
      match a with
      | ⟨0, _⟩ => show b.val * 1 + 0 - 0 = b.val; omega
      | ⟨1, _⟩ => show h.val * 1 + 0 - 0 = h.val; omega
      | ⟨2, _⟩ => show q.val * 1 + 0 - 0 = q.val; omega
      | ⟨3, _⟩ => show s.val * 1 + n.val - 0 = s.val + n.val; omega
    · intro a
      match a with
      | ⟨0, _⟩ => show 0 ≤ b.val * 1 + 0 ∧ b.val * 1 + 0 - 0 < 4; omega
      | ⟨1, _⟩ => show 0 ≤ h.val * 1 + 0 ∧ h.val * 1 + 0 - 0 < 6; omega
      | ⟨2, _⟩ => show 0 ≤ q.val * 1 + 0 ∧ q.val * 1 + 0 - 0 < 4096; omega
      | ⟨3, _⟩ => show 0 ≤ s.val * 1 + n.val ∧ s.val * 1 + n.val - 0 < 4096; omega
  · rw [dif_neg hn, dif_neg ?_]
    intro hin
    have h3 : 0 ≤ s.val * 1 + n.val ∧ s.val * 1 + n.val - 0 < 4096 := hin 3
    omega

/-- A finite row of logarithms, zero from the query on, sums from `s` on to minus the softpluses' sum. -/
theorem fromEach_coe (l : FVec Ideal S4x6x4096x4096 .f32) (b : Fin 4) (h : Fin 6) (q s : Fin 4096) (Z : ℕ → ℝ)
    (hl : ∀ j : Fin 4096, l (ix4 b h q j) = if j.val < q.val then -((sp (Z j.val) : ℝ) : EReal) else 0) :
    fromEach l (ix4 b h q s) = -((S Z s.val q.val : ℝ) : EReal) := by
  have hq := q.isLt
  let f : ℕ → EReal := fun j => if j < q.val then ((-sp (Z j) : ℝ) : EReal) else 0
  have e : ∀ n : Fin 4096, (if hn : s.val + n.val < 4096 then l (ix4 b h q ⟨s.val + n.val, hn⟩) else 0) = f (s.val + n.val) := by
    intro n
    dsimp only [f]
    split
    · rw [hl, EReal.coe_neg]
    · rw [if_neg (by omega)]
  rw [fromEach_at, Finset.sum_congr rfl fun n _ => e n, sum_block]
  dsimp only [f]
  rw [← Finset.sum_filter]
  have hs : (Finset.Ico s.val (s.val + 4096)).filter (· < q.val) = Finset.Ico s.val q.val := by
    ext j
    simp only [Finset.mem_filter, Finset.mem_Ico]
    omega
  rw [hs, ← coe_sum, Finset.sum_neg_distrib, EReal.coe_neg]
  rfl

/-- The weight of a finite row at key `s`. -/
theorem weights_at (z : FVec Ideal S4x6x4096x4096 .f32) (b : Fin 4) (h : Fin 6) (q s : Fin 4096) (Z : ℕ → ℝ)
    (hz : ∀ j : Fin 4096, z (ix4 b h q j) = ((Z j.val : ℝ) : EReal)) :
    weights z (ix4 b h q s) = if s.val < q.val then ((W Z q.val s.val : ℝ) : EReal) else 0 := by
  have hl : ∀ j : Fin 4096, logFail z (ix4 b h q j) = if j.val < q.val then -((sp (Z j.val) : ℝ) : EReal) else 0 := by
    intro j
    pointwise [logFail, zeros]
    rw [causal_at, softplus_at z _ _ (hz j)]
    split <;> rfl
  have hn : Host.negf z (ix4 b h q s) = ((-Z s.val : ℝ) : EReal) := by
    pointwise
    rw [hz, EReal.coe_neg]
  pointwise [weights, zeros]
  rw [causal_at, softplus_at _ _ _ hn, fromEach_coe _ b h q s Z hl, hl, sp_neg]
  by_cases hs : s.val < q.val
  · rw [if_pos hs, if_pos hs, if_pos hs]
    simp only [ValueIdx.select_one]
    rw [← EReal.coe_neg, ← EReal.coe_neg, ← EReal.coe_neg, ← EReal.coe_sub, ← EReal.coe_add, Ideal.exp_coe]
    unfold W
    congr 2
    ring
  · rw [if_neg hs, if_neg hs, if_neg hs]
    rfl

/-- The reference's result where the scores are finite. -/
theorem ref_at (X : FVec Ideal S16384x2304 .bf16) (i : S16384x768.Idx) (b : Fin 4) (h : Fin 6) (q : Fin 4096) (d : Fin 128)
    (h0 : (i 0).val = b.val * 4096 + q.val) (h1 : (i 1).val = h.val * 128 + d.val) (Z : ℕ → ℝ) (Y : ℕ → EReal)
    (hz : ∀ j : Fin 4096, scores X (ix4 b h q j) = ((Z j.val : ℝ) : EReal)) (hy : ∀ j : Fin 4096, values X (ix4 b j h d) = Y j.val) :
    ref X i = A Z Y 0 q.val q.val := by
  pointwise [ref]
  have hq := q.isLt
  have hd := d.isLt
  have e1 : (⟨(i 0).val / 4096, by omega⟩ : Fin 4) = b := Fin.ext (by show (i 0).val / 4096 = b.val; omega)
  have e2 : (⟨(i 0).val % 4096, by omega⟩ : Fin 4096) = q := Fin.ext (by show (i 0).val % 4096 = q.val; omega)
  have e3 : (⟨(i 1).val / 128, by omega⟩ : Fin 6) = h := Fin.ext (by show (i 1).val / 128 = h.val; omega)
  have e4 : (⟨(i 1).val % 128, by omega⟩ : Fin 128) = d := Fin.ext (by show (i 1).val % 128 = d.val; omega)
  rw [e1, e2, e3, e4]
  let f : ℕ → EReal := fun j => if j < q.val then ((W Z q.val j : ℝ) : EReal) * Y j else 0
  have e : ∀ x : Fin 4096, values X (ix4 b x h d) * weights (scores X) (ix4 b h q x) = f (0 + x.val) := by
    intro x
    dsimp only [f]
    rw [hy, weights_at _ b h q x Z hz, Nat.zero_add, mul_comm]
    split
    · rfl
    · rw [zero_mul]
  rw [Finset.sum_congr rfl fun x _ => e x, sum_block]
  dsimp only [f]
  rw [← Finset.sum_filter]
  have hs : (Finset.Ico 0 (0 + 4096)).filter (· < q.val) = Finset.Ico 0 q.val := by
    ext j
    simp only [Finset.mem_filter, Finset.mem_Ico]
    omega
  rw [hs]
  rfl

end Cert.AttnRefIdeal.Tie
end
-- ==== Proof.AttnValue.lean ====
/-
  The stick-breaking attention's value: the kernel's blocks against the reference's rows.
-/
module

public import proofs.«01_k».proof.Proof.AttnBlock
public import proofs.«01_k».proof.Proof.AttnRef
public import proofs.«01_k».proof.Proof.Gen.Pre_qk_finite
public import proofs.«01_k».proof.Defs
public import Idealize.ShloMosaic.Lib.Claim
public import Idealize.ShloMosaic.Lib.ReduceAll
public import Idealize.ShloMosaic.Lib.IdealHost
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnIdeal.Tie

open Cert.AttnIdeal Cert.AttnIdeal.Gen Cert.Sb
open Cert.AttnRefIdeal.Tie (ref scores values queries keys rows ref_at)

/-- The pattern of infinity is the largest extended real. -/
theorem inf_top : Ideal.ofBits .f32 0x7F800000#32 = ⊤ := by
  simp [Ideal.ofBits, Ideal.ieee]

/-- The scale is a real number. -/
theorem scale_real : ∃ r : ℝ, Ideal.ofBits .f32 1035273459#32 = (r : EReal) := by
  simp only [Ideal.ofBits, Ideal.ieee]
  simp
  exact ⟨_, rfl⟩

/-- An extended real with an absolute value below infinity is real. -/
theorem real_of_abs (x : EReal) (h : max x (-x) < ⊤) : ∃ r : ℝ, x = (r : EReal) := by
  induction x with
  | bot => simp at h
  | top => simp at h
  | coe r => exact ⟨r, rfl⟩

/-- The precondition: every query and every key is a real number. -/
theorem qk_real (X : FVec Ideal S16384x2304 .bf16) (h : Cert.Pre_qk_finite.fn (F := Ideal) X = fun _ => 1#1)
    (i : Fin 16384) (j : Fin 2304) (hj : j.val < 1536) : ∃ r : ℝ, X (ix2 i j) = (r : EReal) := by
  have h0 := congrFun h ix0
  unfold Cert.Pre_qk_finite.fn at h0
  have h1 := @Host.reduce_andi_all _ _ _ _ ⟨fun a b => by rw [ValueIdx.eq_ix0 a, ValueIdx.eq_ix0 b]⟩ _ _ _ _ _ h0 (ix2 i (⟨j.val, hj⟩ : Fin 1536))
  refine real_of_abs _ ?_
  revert h1
  pointwise
  rw [inf_top]
  intro h1
  exact of_decide_eq_true ((WordCmp.ofBool_eq_one_iff _).1 h1)

/-- A sum of products of reals, scaled, is a real. -/
theorem dot_real {n : ℕ} (f g : Fin n → EReal) (hf : ∀ x, ∃ r : ℝ, f x = (r : EReal)) (hg : ∀ x, ∃ r : ℝ, g x = (r : EReal)) :
    ∃ r : ℝ, (∑ x, f x * g x) * Ideal.ofBits .f32 1035273459#32 = (r : EReal) := by
  choose a ha using hf
  choose b hb using hg
  obtain ⟨k, hk⟩ := scale_real
  refine ⟨(∑ x, a x * b x) * k, ?_⟩
  rw [hk, EReal.coe_mul, coe_sum]
  simp only [ha, hb, EReal.coe_mul]

/-- A score over the argument: the scaled product of a query row and a key row. -/
theorem scores_eq (X : FVec Ideal S16384x2304 .bf16) (b : Fin 4) (h : Fin 6) (q s : Fin 4096) :
    scores X (ix4 b h q s) = (∑ x : Fin 128, X (ix2 (⟨b.val * 4096 + q.val, by omega⟩ : Fin 16384) (⟨h.val * 128 + x.val, by omega⟩ : Fin 2304))
      * X (ix2 (⟨b.val * 4096 + s.val, by omega⟩ : Fin 16384) (⟨768 + (h.val * 128 + x.val), by omega⟩ : Fin 2304))) * Ideal.ofBits .f32 1035273459#32 := by
  pointwise [scores, queries, keys, rows]

/-- A value over the argument. -/
theorem values_eq (X : FVec Ideal S16384x2304 .bf16) (b : Fin 4) (h : Fin 6) (s : Fin 4096) (d : Fin 128) :
    values X (ix4 b s h d) = X (ix2 (⟨b.val * 4096 + s.val, by omega⟩ : Fin 16384) (⟨1536 + (h.val * 128 + d.val), by omega⟩ : Fin 2304)) := by
  pointwise [values, rows]

variable (m : (ℓ : Loc nD τ sig) → Buf (Elt Ideal) ℓ)

/-- The blocks that a grid point takes: its batch, head and query block. -/
theorem idx : ∀ t : Fin cfg0.N, win0_0.index t = ![t.val / 96 * 16 + t.val % 16, t.val / 16 % 6]
    ∧ win0_1.index t = ![t.val / 96, 6 + t.val / 16 % 6]
    ∧ win0_2.index t = ![t.val / 96, 12 + t.val / 16 % 6] ∧ win0_3.index t = ![t.val / 96 * 16 + t.val % 16, t.val / 16 % 6]
    ∧ (grid0.coords t 2).val = t.val % 16 :=
  (by decide +kernel : ∀ t : Fin grid0.N, _)

/-- The query block's elements in the argument. -/
theorem q_at (c : Dev nD) (t : Fin cfg0.N) (r : Fin 256) (x : Fin 128) (i : Fin 16384) (j : Fin 2304)
    (hi : i.val = (t.val / 96 * 16 + t.val % 16) * 256 + r.val) (hj : j.val = t.val / 16 % 6 * 128 + x.val) :
    (iblk m c 0 t : Vec Ideal S256x128 .bf16) (ix2 r x) = m ((c : Thread nD τ).loc main_arg0) (ix2 i j) := by
  blk_point [iblk, V, idx t]

/-- The key block's elements in the argument. -/
theorem k_at (c : Dev nD) (t : Fin cfg0.N) (s : Fin 4096) (x : Fin 128) (i : Fin 16384) (j : Fin 2304)
    (hi : i.val = t.val / 96 * 4096 + s.val) (hj : j.val = (6 + t.val / 16 % 6) * 128 + x.val) :
    (iblk m c 1 t : Vec Ideal S4096x128 .bf16) (ix2 s x) = m ((c : Thread nD τ).loc main_arg0) (ix2 i j) := by
  blk_point [iblk, V, idx t]

/-- The value block's elements in the argument. -/
theorem v_at (c : Dev nD) (t : Fin cfg0.N) (s : Fin 4096) (x : Fin 128) (i : Fin 16384) (j : Fin 2304)
    (hi : i.val = t.val / 96 * 4096 + s.val) (hj : j.val = (12 + t.val / 16 % 6) * 128 + x.val) :
    (iblk m c 2 t : Vec Ideal S4096x128 .bf16) (ix2 s x) = m ((c : Thread nD τ).loc main_arg0) (ix2 i j) := by
  blk_point [iblk, V, idx t]

/-- The place of a block's row and column in the result. -/
theorem place (t : Fin cfg0.N) (r : Fin 256) (d : Fin 128) :
    (((((cfg0.win 3).blk t).view.emb (ix2 r d) : S16384x768.Idx) 0).val = (t.val / 96 * 16 + t.val % 16) * 256 + r.val)
    ∧ (((((cfg0.win 3).blk t).view.emb (ix2 r d) : S16384x768.Idx) 1).val = t.val / 16 % 6 * 128 + d.val) := by
  constructor
  · blk_simp [idx t]
  · blk_simp [idx t]

/-- The block written at a grid point is the reference's rows there. -/
theorem point (c : Dev nD) (hp : Cert.Pre_qk_finite.fn (F := Ideal) (m ((c : Thread nD τ).loc main_arg0)) = fun _ => 1#1)
    (t : Fin cfg0.N) (r : Fin 256) (d : Fin 128) :
    outsAt0 m c t (ix2 r d) = ref (m ((c : Thread nD τ).loc main_arg0)) (((cfg0.win 3).blk t).view.emb (ix2 r d)) := by
  have ht : t.val < 384 := t.isLt
  have hr : r.val < 256 := r.isLt
  have hd : d.val < 128 := d.isLt
  let b : Fin 4 := ⟨t.val / 96, by omega⟩
  let h : Fin 6 := ⟨t.val / 16 % 6, by omega⟩
  let q : Fin 4096 := ⟨256 * (t.val % 16) + r.val, by omega⟩
  have hb : b.val = t.val / 96 := rfl
  have hh : h.val = t.val / 16 % 6 := rfl
  have hq : q.val = 256 * (t.val % 16) + r.val := rfl
  clear_value b h q
  have hreal : ∀ s : Fin 4096, ∃ z : ℝ, scores (m ((c : Thread nD τ).loc main_arg0)) (ix4 b h q s) = (z : EReal) := by
    intro s
    rw [scores_eq]
    exact dot_real _ _ (fun x => qk_real _ hp _ _ (by show h.val * 128 + x.val < 1536; omega))
      (fun x => qk_real _ hp _ _ (by show 768 + (h.val * 128 + x.val) < 1536; omega))
  choose z hz using hreal
  let Z : ℕ → ℝ := fun j => if hj : j < 4096 then z ⟨j, hj⟩ else 0
  let Y : ℕ → EReal := fun j => if hj : j < 4096 then values (m ((c : Thread nD τ).loc main_arg0)) (ix4 b ⟨j, hj⟩ h d) else 0
  have hZ : ∀ j : Fin 4096, scores (m ((c : Thread nD τ).loc main_arg0)) (ix4 b h q j) = ((Z j.val : ℝ) : EReal) := by
    intro j
    rw [hz]
    dsimp only [Z]
    rw [dif_pos j.isLt]
  have hY : ∀ j : Fin 4096, values (m ((c : Thread nD τ).loc main_arg0)) (ix4 b j h d) = Y j.val := by
    intro j
    dsimp only [Y]
    rw [dif_pos j.isLt]
  have row : Row (iblk m c 0 t) (iblk m c 1 t) (iblk m c 2 t) Z Y r d := by
    constructor
    · intro s
      rw [← hZ, scores_eq]
      congr 1
      refine Finset.sum_congr rfl fun x _ => ?_
      rw [q_at m c t r x ⟨b.val * 4096 + q.val, by omega⟩ ⟨h.val * 128 + x.val, by omega⟩ (by show b.val * 4096 + q.val = _; omega) (by show h.val * 128 + x.val = _; omega),
        k_at m c t s x ⟨b.val * 4096 + s.val, by omega⟩ ⟨768 + (h.val * 128 + x.val), by omega⟩ (by show b.val * 4096 + s.val = _; omega) (by show 768 + (h.val * 128 + x.val) = _; omega)]
    · intro s
      rw [← hY, values_eq]
      exact v_at m c t s d _ _ (by show b.val * 4096 + s.val = _; omega) (by show 1536 + (h.val * 128 + d.val) = _; omega)
  have ho := out_at m c t row
  have ic : (grid0.coords t 2).val = t.val % 16 := (idx t).2.2.2.2
  rw [ic, ← hq] at ho
  rw [ho]
  refine (ref_at _ _ b h q d ?_ ?_ Z Y hZ hY).symm
  · rw [(place t r d).1]; omega
  · rw [(place t r d).2]; omega

/-- The result array after the run is the reference's term over the argument. -/
theorem final (c : Dev nD) (hp : Cert.Pre_qk_finite.fn (F := Ideal) (m ((c : Thread nD τ).loc main_arg0)) = fun _ => 1#1) :
    (dats m 0 c).arrAt 3 (cfgs 0).N = ref (m ((c : Thread nD τ).loc main_arg0)) := by
  refine (dats m 0 c).arrAt_eq_of_covers 3 _ (by decide +kernel) fun t hf y => ?_
  rw [after0_3]
  have e : y = (ix2 (y 0) (y 1) : S256x128.Idx) := ValueIdx.eq_ix2 (n0 := 256) (n1 := 128) y
  rw [e]
  exact point m c hp t _ _

end Cert.AttnIdeal.Tie

namespace Cert.Tie

/-- The attention and its reference compute the same result from the same finite queries and keys. -/
theorem attn_algebraic : Cert.algebraic_AttnIdeal_AttnRefIdeal_pre_qk_finite := by
  pair_intro
  · run_from Cert.AttnIdeal.Gen.run_main m g
  · run_from Cert.AttnRefIdeal.Value.run m' g'
    rw [Cert.AttnRefIdeal.Tie.res_eq, hagree c]
    exact (Cert.AttnIdeal.Tie.final m c (hpre c)).symm

end Cert.Tie

end
-- ==== Proof.Norm.lean ====
/-
  The RMSNorm of the references, as one definition over its arguments, shared by the calls that normalise their input.
-/
module

public import proofs.«01_k».proof.Proof.Gen.UpRefIdeal
public import Idealize.ShloMosaic.Lib.Pointwise

@[expose] public section

set_option maxRecDepth 16384

noncomputable section

open Idealize.ShloMosaic Idealize.ShloMosaic.TcCoe Idealize.SL.Sem

namespace Cert.Tie

/-- The reference's RMSNorm over its arguments. -/
abbrev norm (x : FVec Ideal Cert.UpRefIdeal.S16384x2048 .f32) (w : FVec Ideal Cert.UpRefIdeal.S2048 .f32) : FVec Ideal Cert.UpRefIdeal.S16384x2048 .f32 :=
  mulf (mulf x (broadcastInDim Cert.UpRefIdeal.S16384x2048 ![0, 1] Cert.UpRefIdeal.Gen.bcast_S16384x1_S16384x2048_0_1
    (Host.rsqrt (addf (Host.divf (broadcastInDim Cert.UpRefIdeal.S16384x1 ![0] Cert.UpRefIdeal.Gen.bcast_S16384_S16384x1_0
      (Host.reduceAdd (mulf x x) (constant Cert.UpRefIdeal.S_ .f32 0x00000000#32) Cert.UpRefIdeal.Gen.reducesTo_S16384x2048_S16384_d1
        Cert.UpRefIdeal.Gen.h_S_))
      (broadcastInDim Cert.UpRefIdeal.S16384x1 ![] Cert.UpRefIdeal.Gen.bcast_S_S16384x1 (constant Cert.UpRefIdeal.S_ .f32 0x45000000#32)))
      (broadcastInDim Cert.UpRefIdeal.S16384x1 ![] Cert.UpRefIdeal.Gen.bcast_S_S16384x1 (constant Cert.UpRefIdeal.S_ .f32 0x358637BD#32))))))
    (broadcastInDim Cert.UpRefIdeal.S16384x2048 ![0, 1] Cert.UpRefIdeal.Gen.bcast_S1x2048_S16384x2048_0_1
      (broadcastInDim Cert.UpRefIdeal.S1x2048 ![1] Cert.UpRefIdeal.Gen.bcast_S2048_S1x2048_1 w))

end Cert.Tie

end
-- ==== Proof.UpValue.lean ====
/-
  The first MLP product's value: RMSNorm, product, squared ReLU.
-/
module

public import proofs.«01_k».proof.Proof.Gen.UpIdeal.Frame
public import proofs.«01_k».proof.Proof.Gen.UpRefIdeal.Run
public import proofs.«01_k».proof.Proof.Norm
public import proofs.«01_k».proof.Defs
public import Idealize.ShloMosaic.Lib.Claim
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpIdeal.Tie

open Cert.UpIdeal Cert.UpIdeal.Gen

variable (m : (ℓ : Loc nD τ sig) → Buf (Elt Ideal) ℓ)

/-- The reference's result over the arguments: the squared ReLU of the normalised rows times the weights. -/
abbrev ref (x : FVec Ideal S16384x2048 .f32) (w : FVec Ideal S2048 .f32) (u : FVec Ideal S2048x8192 .f32) :
    FVec Ideal S16384x8192 .bf16 :=
  truncf .bf16 (mulf
    (maximumf (Host.dotGeneral (φ₁ := .f32) (φ₂ := .f32) Cert.UpRefIdeal.dot_S16384x2048_S2048x8192_S16384x8192_1_0_0_1_n_n none (Cert.Tie.norm x w) u)
      (broadcastInDim Cert.UpRefIdeal.S16384x8192 ![] Cert.UpRefIdeal.Gen.bcast_S_S16384x8192 (constant Cert.UpRefIdeal.S_ .f32 0x00000000#32)))
    (maximumf (Host.dotGeneral (φ₁ := .f32) (φ₂ := .f32) Cert.UpRefIdeal.dot_S16384x2048_S2048x8192_S16384x8192_1_0_0_1_n_n none (Cert.Tie.norm x w) u)
      (broadcastInDim Cert.UpRefIdeal.S16384x8192 ![] Cert.UpRefIdeal.Gen.bcast_S_S16384x8192 (constant Cert.UpRefIdeal.S_ .f32 0x00000000#32))))
    Cert.UpRefIdeal.Gen.bitsLt_bf16_f32

/-- The blocks that a grid point takes: row block `t / 8`, column block `t % 8`. -/
theorem idx : ∀ t : Fin cfg0.N, win0_0.index t = ![t.val / 8, 0] ∧ win0_1.index t = ![0, 0]
    ∧ win0_2.index t = ![0, t.val % 8] ∧ win0_3.index t = ![t.val / 8, t.val % 8] :=
  (by decide +kernel : ∀ t : Fin grid0.N, _)

/-- The scratch holds the normalised row block that the first point of the run of eight wrote. -/
theorem scratch_eq (c : Dev nD) (t : Fin cfg0.N) :
    (outsAt0 m c t.val t.isLt).2
    = k0_pay1 (iblk m c 0 ⟨8 * (t.val / 8), Pipeline.run_start_lt t⟩) (iblk m c 1 ⟨8 * (t.val / 8), Pipeline.run_start_lt t⟩) := by
  funext y
  exact Pipeline.eq_of_write_hold_apply (fun n h => (outsAt0 m c n h).2) 8 (fun t => k0_pay1 (iblk m c 0 t) (iblk m c 1 t))
    (fun t h j => by rw [outsAt0_A m c t h]; frame_out) (fun t h j => by rw [outsAt0_B m c t h]; rfl) t y

/-- The output block is the product payload of the scratch and the weights' block. -/
theorem out_eq (c : Dev nD) (t : Fin cfg0.N) :
    (outsAt0 m c t.val t.isLt).1 = k0_pay2 (outsAt0 m c t.val t.isLt).2 (iblk m c 2 t) := by
  by_cases h : t.val % 8 = 0
  · rw [outsAt0_A m c t h]; frame_out
  · rw [outsAt0_B m c t h]; frame_out; rw [read_unread_whole]; rfl

/-- The body's payload at a place of its block is the reference's element at that place of the array. -/
theorem point (c : Dev nD) (t : Fin cfg0.N) (y) :
    k0_pay2 (k0_pay1 (iblk m c 0 ⟨8 * (t.val / 8), Pipeline.run_start_lt t⟩) (iblk m c 1 ⟨8 * (t.val / 8), Pipeline.run_start_lt t⟩)) (iblk m c 2 t) y
    = ref (m ((c : Thread nD τ).loc main_arg0)) (m ((c : Thread nD τ).loc main_arg1)) (m ((c : Thread nD τ).loc main_arg2))
        (((cfg0.win 3).blk t).view.emb y) := by
  pointwise [k0_pay1, k0_pay2, ref]
  blk_point [iblk, V, idx t, idx ⟨8 * (t.val / 8), Pipeline.run_start_lt t⟩]

/-- The result array after the run is the reference's term over the arguments. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_eq, scratch_eq]
  exact point m c t y

end Cert.UpIdeal.Tie

namespace Cert.Tie

/-- The first MLP product and its reference compute the same result from the same arguments. -/
theorem up_algebraic : Cert.algebraic_UpIdeal_UpRefIdeal := by
  pair_intro
  · run_from Cert.UpIdeal.Gen.run_main m g
  · run_from Cert.UpRefIdeal.Value.run m' g'
    exact (Cert.UpIdeal.Tie.final m c).symm

end Cert.Tie

end
-- ==== Proof.DownValue.lean ====
/-
  The second MLP product's value: the accumulated result array of `matmul_res` is the residual plus the whole product.
-/
module

public import proofs.«01_k».proof.Proof.Gen.DownIdeal.Frame
public import proofs.«01_k».proof.Proof.Gen.DownRefIdeal.Run
public import proofs.«01_k».proof.Defs
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownIdeal.Tie

open Cert.DownIdeal Cert.DownIdeal.Gen

variable (m : (ℓ : Loc nD τ sig) → Buf (Elt Ideal) ℓ)

/-- The reference's result over the arguments: `x + hidden · w`. -/
abbrev ref (h : FVec Ideal S16384x8192 .bf16) (w : FVec Ideal S8192x2048 .f32) (x : FVec Ideal S16384x2048 .f32) :
    FVec Ideal S16384x2048 .f32 :=
  addf x (Host.dotGeneral (φ₁ := .f32) (φ₂ := .f32) Cert.DownRefIdeal.dot_S16384x8192_S8192x2048_S16384x2048_1_0_0_1_n_n none
    (extf .f32 h Cert.DownRefIdeal.Gen.bitsLt_bf16_f32) w)

/-- The blocks that a grid point takes: row block `t / 8`, column block `t / 4 % 2`, step `t % 4` of the contraction. -/
theorem idx : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] :=
  (by decide +kernel : ∀ t : Fin grid0.N, _)

/-- One step's part of the product, at a place of the block. -/
def part (x0 : FVec Ideal S1024x2048 .bf16) (x1 : FVec Ideal S2048x1024 .bf16) (y : S1024x1024.Idx) : EReal :=
  ∑ k : Fin 2048, x0 (ix2 (y 0) k) * x1 (ix2 k (y 1))

/-- The body's payload is what it finds plus the step's part. -/
theorem pay (acc : FVec Ideal S1024x1024 .f32) (x0 : FVec Ideal S1024x2048 .bf16) (x1 : FVec Ideal S2048x1024 .bf16) (y : S1024x1024.Idx) :
    k0_pay1 acc x0 x1 y = acc y + part x0 x1 y := by
  pointwise [k0_pay1, part]

/-- What a grid point adds at a place: its part, and at the first step of a run the residual as well. -/
def term (c : Dev nD) (t : Fin cfg0.N) (y : S1024x1024.Idx) : EReal :=
  (if t.val % 4 = 0 then (show FVec Ideal S1024x1024 .f32 from iblk m c 2 t) y else 0) + part (iblk m c 0 t) (iblk m c 1 t) y

/-- The accumulated block at the last step of a run: the residual's block plus the four parts. -/
theorem acc_eq (c : Dev nD) (t : Fin cfg0.N) (hf : t.val % 4 = 3) (y : S1024x1024.Idx) :
    outsAt0 m c t.val t.isLt y
    = ∑ s : Fin 4, term m c ⟨4 * (t.val / 4) + s.val, Pipeline.run_point_lt_of_flush t hf s⟩ y := by
  have h := Pipeline.eq_sum_fin_of_reset_step_apply_of_flush (M := EReal) (fun n h => outsAt0 m c n h) 4 (fun _ => (0 : EReal)) (term m c)
    (fun t h j => by rw [outsAt0_A m c t h]; frame_out; rw [pay, term, if_pos h, zero_add])
    (fun t h j => by rw [outsAt0_B m c t h]; frame_out; rw [pay, term, if_neg h, zero_add])
    t hf y
  rw [h, zero_add]

/-- The four terms together are the reference's element. -/
theorem terms_eq (c : Dev nD) (t : Fin cfg0.N) (hf : t.val % 4 = 3) (y) :
    ∑ s : Fin 4, term m c ⟨4 * (t.val / 4) + s.val, Pipeline.run_point_lt_of_flush t hf s⟩ y
    = ref (m ((c : Thread nD τ).loc main_arg0)) (m ((c : Thread nD τ).loc main_arg1)) (m ((c : Thread nD τ).loc main_arg2))
        (((cfg0.win 3).blk t).view.emb y) := by
  have h1 : ∀ s : Fin 4, (4 * (t.val / 4) + s.val) % 4 = s.val := fun s => by omega
  simp only [term, Finset.sum_add_distrib, h1]
  rw [Fin.sum_univ_four]
  simp only [Fin.val_zero, Fin.val_one, Fin.val_two, show ((3 : Fin 4) : ℕ) = 3 from rfl, if_true, one_ne_zero, if_false,
    OfNat.ofNat_ne_zero, add_zero]
  pointwise [ref]
  congr 1
  · have ht : 4 * (t.val / 4) < cfg0.N := by have := t.isLt; omega
    blk_point [iblk, V, idx t, idx ⟨4 * (t.val / 4), ht⟩]
  · simp only [part]
    refine Fin.sum_mul_add_congr fun s k hl => ?_
    blk_point [iblk, V, idx t, idx ⟨_, Pipeline.run_point_lt_of_flush t hf s⟩]

/-- The result array after the run is the reference's term over the arguments. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have hf' : t.val % 4 = 3 := (flush0_3 t).mp hf
  rw [after0_3, acc_eq m c t hf']
  exact terms_eq m c t hf' y

end Cert.DownIdeal.Tie

namespace Cert.Tie

/-- The second MLP product and its reference compute the same result from the same arguments. -/
theorem down_algebraic : Cert.algebraic_DownIdeal_DownRefIdeal := by
  pair_intro
  · run_from Cert.DownIdeal.Gen.run_main m g
  · run_from Cert.DownRefIdeal.Value.run m' g'
    exact (Cert.DownIdeal.Tie.final m c).symm

end Cert.Tie

end
-- ==== Proof.OutValue.lean ====
/-
  The output projection's value: after the run the result array of `out_proj` is the residual plus the
  concatenation of the three branches times the weight matrix.
-/
module

public import proofs.«01_k».proof.Proof.Gen.OutIdeal.Frame
public import proofs.«01_k».proof.Proof.Gen.OutRefIdeal.Run
public import proofs.«01_k».proof.Defs
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutIdeal.Tie

open Cert.OutIdeal Cert.OutIdeal.Gen

variable (m : (ℓ : Loc nD τ sig) → Buf (Elt Ideal) ℓ)

/-- The reference's result over the arguments: `x + concat(y_sb, y_sc, y_gdn) · w`. -/
abbrev ref (a : FVec Ideal S16384x768 .bf16) (b : FVec Ideal S16384x512 .bf16) (c : FVec Ideal S16384x768 .bf16)
    (w : FVec Ideal S2048x2048 .f32) (x : FVec Ideal S16384x2048 .f32) : FVec Ideal S16384x2048 .f32 :=
  addf x (Host.dotGeneral (φ₁ := .f32) (φ₂ := .f32) Cert.OutRefIdeal.dot_S16384x2048_S2048x2048_S16384x2048_1_0_0_1_n_n none
    (concatenate Cert.OutRefIdeal.S16384x2048 1
      [⟨Cert.OutRefIdeal.S16384x768, extf .f32 a Cert.OutRefIdeal.Gen.bitsLt_bf16_f32⟩,
       ⟨Cert.OutRefIdeal.S16384x512, extf .f32 b Cert.OutRefIdeal.Gen.bitsLt_bf16_f32⟩,
       ⟨Cert.OutRefIdeal.S16384x768, extf .f32 c Cert.OutRefIdeal.Gen.bitsLt_bf16_f32⟩]
      Cert.OutRefIdeal.Gen.concatenates_S16384x768_S16384x512_S16384x768_S16384x2048_d1) w)

/-- The blocks that a grid point takes: row block `t / 2`, column block `t % 2`. -/
theorem idx : ∀ t : Fin cfg0.N, win0_0.index t = ![t.val / 2, 0] ∧ win0_1.index t = ![t.val / 2, 0]
    ∧ win0_2.index t = ![t.val / 2, 0] ∧ win0_3.index t = ![0, t.val % 2]
    ∧ win0_4.index t = ![t.val / 2, t.val % 2] ∧ win0_5.index t = ![t.val / 2, t.val % 2] :=
  (by decide +kernel : ∀ t : Fin grid0.N, _)

/-- What the body stores at a place of its block is the reference's element at that place of the array. -/
theorem point (c : Dev nD) (t : Fin cfg0.N) (y) :
    out0_5 (iblk m c 0 t) (iblk m c 1 t) (iblk m c 2 t) (iblk m c 3 t) (iblk m c 4 t) y
    = ref (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  frame_out
  pointwise [k0_pay1, ref, sumSplitAll]
  rw [← add_assoc, ← add_assoc]
  blk_point [iblk, V, idx t]

/-- The result array after the run is the reference's term over the arguments. -/
theorem final (c : Dev nD) : (dats m 0 c).arrAt 5 (cfgs 0).N
    = ref (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.OutIdeal.Tie

namespace Cert.Tie

/-- The output projection and its reference compute the same result from the same arguments. -/
theorem out_algebraic : Cert.algebraic_OutIdeal_OutRefIdeal := by
  pair_intro
  · run_from Cert.OutIdeal.Gen.run_main m g
  · run_from Cert.OutRefIdeal.Value.run m' g'
    exact (Cert.OutIdeal.Tie.final m c).symm

end Cert.Tie

end
-- ==== Proof.InSbValue.lean ====
/-
  The input projection to the attention columns: RMSNorm, product.
-/
module

public import proofs.«01_k».proof.Proof.Gen.InSbIdeal.Frame
public import proofs.«01_k».proof.Proof.Gen.InSbRefIdeal.Run
public import proofs.«01_k».proof.Proof.Norm
public import proofs.«01_k».proof.Defs
public import Idealize.ShloMosaic.Lib.Claim
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InSbIdeal.Tie

open Cert.InSbIdeal Cert.InSbIdeal.Gen

variable (m : (ℓ : Loc nD τ sig) → Buf (Elt Ideal) ℓ)

/-- The reference's result over the arguments: the first 2304 columns of the normalised rows times the weights. -/
abbrev ref (x : FVec Ideal S16384x2048 .f32) (w : FVec Ideal S2048 .f32) (u : FVec Ideal S2048x6924 .f32) :
    FVec Ideal S16384x2304 .bf16 :=
  truncf .bf16 (extractStridedSlice Cert.InSbRefIdeal.S16384x2304 ![0, 0]
    (Host.dotGeneral (φ₁ := .f32) (φ₂ := .f32) Cert.InSbRefIdeal.dot_S16384x2048_S2048x6924_S16384x6924_1_0_0_1_n_n none (Cert.Tie.norm x w) u)
    Cert.InSbRefIdeal.Gen.slices_S16384x6924_S16384x2304_0_0) Cert.InSbRefIdeal.Gen.bitsLt_bf16_f32

/-- The blocks that a grid point takes: row block `t / 2`, column block `t % 2`. -/
theorem idx : ∀ t : Fin cfg0.N, win0_0.index t = ![t.val / 2, 0] ∧ win0_1.index t = ![0, 0]
    ∧ win0_2.index t = ![0, t.val % 2] ∧ win0_3.index t = ![t.val / 2, t.val % 2] :=
  (by decide +kernel : ∀ t : Fin grid0.N, _)

/-- The scratch holds the normalised row block that the first point of the run of two wrote. -/
theorem scratch_eq (c : Dev nD) (t : Fin cfg0.N) :
    (outsAt0 m c t.val t.isLt).2
    = k0_pay1 (iblk m c 0 ⟨2 * (t.val / 2), Pipeline.run_start_lt t⟩) (iblk m c 1 ⟨2 * (t.val / 2), Pipeline.run_start_lt t⟩) := by
  funext y
  exact Pipeline.eq_of_write_hold_apply (fun n h => (outsAt0 m c n h).2) 2 (fun t => k0_pay1 (iblk m c 0 t) (iblk m c 1 t))
    (fun t h j => by rw [outsAt0_A m c t h]; frame_out) (fun t h j => by rw [outsAt0_B m c t h]; rfl) t y

/-- The output block is the product payload of the scratch and the weights' block. -/
theorem out_eq (c : Dev nD) (t : Fin cfg0.N) :
    (outsAt0 m c t.val t.isLt).1 = k0_pay2 (outsAt0 m c t.val t.isLt).2 (iblk m c 2 t) := by
  by_cases h : t.val % 2 = 0
  · rw [outsAt0_A m c t h]; frame_out
  · rw [outsAt0_B m c t h]; frame_out; rw [read_unread_whole]; rfl

/-- The body's payload at a place of its block is the reference's element at that place of the array. -/
theorem point (c : Dev nD) (t : Fin cfg0.N) (y) :
    k0_pay2 (k0_pay1 (iblk m c 0 ⟨2 * (t.val / 2), Pipeline.run_start_lt t⟩) (iblk m c 1 ⟨2 * (t.val / 2), Pipeline.run_start_lt t⟩)) (iblk m c 2 t) y
    = ref (m ((c : Thread nD τ).loc main_arg0)) (m ((c : Thread nD τ).loc main_arg1)) (m ((c : Thread nD τ).loc main_arg2))
        (((cfg0.win 3).blk t).view.emb y) := by
  pointwise [k0_pay1, k0_pay2, ref]
  blk_point [iblk, V, idx t, idx ⟨2 * (t.val / 2), Pipeline.run_start_lt t⟩]

/-- The result array after the run is the reference's term over the arguments. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_eq, scratch_eq]
  exact point m c t y

end Cert.InSbIdeal.Tie

namespace Cert.Tie

/-- The projection to the attention columns and its reference compute the same result from the same arguments. -/
theorem in_sb_algebraic : Cert.algebraic_InSbIdeal_InSbRefIdeal := by
  pair_intro
  · run_from Cert.InSbIdeal.Gen.run_main m g
  · run_from Cert.InSbRefIdeal.Value.run m' g'
    exact (Cert.InSbIdeal.Tie.final m c).symm

end Cert.Tie

end
-- ==== Proof.InMainValue.lean ====
/-
  The input projection to the convolution and recurrence columns: RMSNorm, product.
-/
module

public import proofs.«01_k».proof.Proof.Gen.InMainIdeal.Frame
public import proofs.«01_k».proof.Proof.Gen.InMainRefIdeal.Run
public import proofs.«01_k».proof.Proof.Norm
public import proofs.«01_k».proof.Defs
public import Idealize.ShloMosaic.Lib.Claim
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InMainIdeal.Tie

open Cert.InMainIdeal Cert.InMainIdeal.Gen

variable (m : (ℓ : Loc nD τ sig) → Buf (Elt Ideal) ℓ)

/-- The reference's result over the arguments: columns 2304 to 6911 of the normalised rows times the weights. -/
abbrev ref (x : FVec Ideal S16384x2048 .f32) (w : FVec Ideal S2048 .f32) (u : FVec Ideal S2048x6924 .f32) :
    FVec Ideal S16384x4608 .f32 :=
  extractStridedSlice Cert.InMainRefIdeal.S16384x4608 ![0, 2304]
    (Host.dotGeneral (φ₁ := .f32) (φ₂ := .f32) Cert.InMainRefIdeal.dot_S16384x2048_S2048x6924_S16384x6924_1_0_0_1_n_n none (Cert.Tie.norm x w) u)
    Cert.InMainRefIdeal.Gen.slices_S16384x6924_S16384x4608_0_2304

/-- The blocks that a grid point takes: row block `t / 6`, column block `t % 6`. -/
theorem idx : ∀ t : Fin cfg0.N, win0_0.index t = ![t.val / 6, 0] ∧ win0_1.index t = ![0, 0]
    ∧ win0_2.index t = ![0, t.val % 6] ∧ win0_3.index t = ![t.val / 6, t.val % 6] :=
  (by decide +kernel : ∀ t : Fin grid0.N, _)

/-- The scratch holds the normalised row block that the first point of the run of six wrote. -/
theorem scratch_eq (c : Dev nD) (t : Fin cfg0.N) :
    (outsAt0 m c t.val t.isLt).2
    = k0_pay1 (iblk m c 0 ⟨6 * (t.val / 6), Pipeline.run_start_lt t⟩) (iblk m c 1 ⟨6 * (t.val / 6), Pipeline.run_start_lt t⟩) := by
  funext y
  exact Pipeline.eq_of_write_hold_apply (fun n h => (outsAt0 m c n h).2) 6 (fun t => k0_pay1 (iblk m c 0 t) (iblk m c 1 t))
    (fun t h j => by rw [outsAt0_A m c t h]; frame_out) (fun t h j => by rw [outsAt0_B m c t h]; rfl) t y

/-- The output block is the product payload of the scratch and the weights' block. -/
theorem out_eq (c : Dev nD) (t : Fin cfg0.N) :
    (outsAt0 m c t.val t.isLt).1 = k0_pay2 (outsAt0 m c t.val t.isLt).2 (iblk m c 2 t) := by
  by_cases h : t.val % 6 = 0
  · rw [outsAt0_A m c t h]; frame_out
  · rw [outsAt0_B m c t h]; frame_out; rw [read_unread_whole]; rfl

/-- The body's payload at a place of its block is the reference's element at that place of the array. -/
theorem point (c : Dev nD) (t : Fin cfg0.N) (y) :
    k0_pay2 (k0_pay1 (iblk m c 0 ⟨6 * (t.val / 6), Pipeline.run_start_lt t⟩) (iblk m c 1 ⟨6 * (t.val / 6), Pipeline.run_start_lt t⟩)) (iblk m c 2 t) y
    = ref (m ((c : Thread nD τ).loc main_arg0)) (m ((c : Thread nD τ).loc main_arg1)) (m ((c : Thread nD τ).loc main_arg2))
        (((cfg0.win 3).blk t).view.emb y) := by
  pointwise [k0_pay1, k0_pay2, ref]
  blk_point [iblk, V, idx t, idx ⟨6 * (t.val / 6), Pipeline.run_start_lt t⟩]

/-- The result array after the run is the reference's term over the arguments. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_eq, scratch_eq]
  exact point m c t y

end Cert.InMainIdeal.Tie

namespace Cert.Tie

/-- The projection to the convolution and recurrence columns and its reference compute the same result from the same arguments. -/
theorem in_main_algebraic : Cert.algebraic_InMainIdeal_InMainRefIdeal := by
  pair_intro
  · run_from Cert.InMainIdeal.Gen.run_main m g
  · run_from Cert.InMainRefIdeal.Value.run m' g'
    exact (Cert.InMainIdeal.Tie.final m c).symm

end Cert.Tie

end
-- ==== Proof.InGateValue.lean ====
/-
  The input projection to the gate columns: RMSNorm, product.
-/
module

public import proofs.«01_k».proof.Proof.Gen.InGateIdeal.Frame
public import proofs.«01_k».proof.Proof.Gen.InGateRefIdeal.Run
public import proofs.«01_k».proof.Proof.Norm
public import proofs.«01_k».proof.Defs
public import Idealize.ShloMosaic.Lib.Claim
public import Idealize.ShloMosaic.Lib.Pipeline.ValueKit
public import Idealize.ShloMosaic.Lib.Pipeline.ValueKit.Held
public import Idealize.ShloMosaic.Lib.Pipeline.ReadBack
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

namespace Cert.InGateIdeal.Tie

open Cert.InGateIdeal Cert.InGateIdeal.Gen

variable (m : (ℓ : Loc nD τ sig) → Buf (Elt Ideal) ℓ)

/-- The reference's result over the arguments: the last 12 columns of the normalised rows times the weights, and zeros after them. -/
abbrev ref (x : FVec Ideal S16384x2048 .f32) (w : FVec Ideal S2048 .f32) (u : FVec Ideal S2048x6924 .f32) :
    FVec Ideal S16384x128 .f32 :=
  pad Cert.InGateRefIdeal.S16384x128 ![0, 0] ![0, 116] ![0, 0] (extractStridedSlice Cert.InGateRefIdeal.S16384x12 ![0, 6912]
    (Host.dotGeneral (φ₁ := .f32) (φ₂ := .f32) Cert.InGateRefIdeal.dot_S16384x2048_S2048x6924_S16384x6924_1_0_0_1_n_n none (Cert.Tie.norm x w) u)
    Cert.InGateRefIdeal.Gen.slices_S16384x6924_S16384x12_0_6912) (sitofp .f32 (constantI Cert.InGateRefIdeal.S_ 32 0#32))
    Cert.InGateRefIdeal.Gen.pads_S16384x12_S16384x128_000_01160 Cert.InGateRefIdeal.Gen.h_S_

/-- The blocks that a grid point takes: row block `t`. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- The output block is the product payload of the normalised row block and the weights' block. -/
theorem out_eq (c : Dev nD) (t : Fin cfg0.N) :
    (dats m 0 c).after 3 t = k0_pay2 (k0_pay1 (iblk m c 0 t) (iblk m c 1 t)) (iblk m c 2 t) := by
  rw [after0_3]; unfold outsAt0; frame_out

/-- The index words of the padded weights' write: one zero. -/
abbrev at0 : IVec S1 32 := broadcastInDim S1 ![] bcast_S_S1 (constantI S_ 32 0#32)

/-- Where an update of the padded weights' write lands: at its own row and column. -/
theorem lands (k : S2048x12.Idx) (r : Fin 2048) (j : Fin 128) :
    scatter_S2048x128_S1_S2048x12_01_n_1_0.resultIdx? k at0 = some (ix2 r j) ↔ (k 0).val = r.val ∧ (k 1).val = j.val := by
  have s0 : scatter_S2048x128_S1_S2048x12_01_n_1_0.start k at0 0 = 0 := rfl
  have s1 : scatter_S2048x128_S1_S2048x12_01_n_1_0.start k at0 1 = 0 := rfl
  have w0 : scatter_S2048x128_S1_S2048x12_01_n_1_0.window k 0 = (k 0).val := rfl
  have w1 : scatter_S2048x128_S1_S2048x12_01_n_1_0.window k 1 = (k 1).val := rfl
  refine (Routing.resultIdx?_ix2 _ k at0 r j).trans ?_
  rw [s0, s1, w0, w1]
  omega

/-- The padded weights. -/
def padded (u : FVec Ideal S2048x6924 .f32) : FVec Ideal S2048x128 .bf16 :=
  Host.scatter scatter_S2048x128_S1_S2048x12_01_n_1_0 (fun _ b => b)
    (broadcastInDim S2048x128 ![] bcast_S_S2048x128 (constant (F := Ideal) S_ .bf16 0x0000#16)) at0
    (truncf .bf16 (extractStridedSlice S2048x12 ![0, 6912] u slices_S2048x6924_S2048x12_0_6912) bitsLt_bf16_f32)

/-- The padded weights: the last 12 columns, then zeros. -/
theorem padded_at (u : FVec Ideal S2048x6924 .f32) (x : Fin 2048) (j : Fin 128) :
    padded u (ix2 x j)
      = if h : j.val < 12 then u (ix2 x ⟨6912 + j.val, by omega⟩) else 0 := by
  unfold padded
  by_cases h : j.val < 12
  · rw [dif_pos h]
    have l := (lands (ix2 x (⟨j.val, h⟩ : Fin 12)) x j).2 ⟨rfl, rfl⟩
    refine Routing.scatter_set_hit _ _ _ _ _ _ (fun k hk => ?_) _ l
    have e := (lands k x j).1 hk
    have ek : k = ix2 x (⟨j.val, h⟩ : Fin 12) := by
      funext a
      match a with
      | ⟨0, _⟩ => exact Fin.ext e.1
      | ⟨1, _⟩ => exact Fin.ext e.2
    rw [ek]
    pointwise
  · rw [dif_neg h, Routing.scatter_set_miss _ _ _ _ _ (fun k hk => h ?_)]
    · pointwise
    · have e := (lands k x j).1 hk
      have := (k 1).isLt
      exact e.2 ▸ this

/-- The third window's array at the launch. -/
theorem v4_eq (c : Dev nD) : V m c main_v4 = padded (m ((c : Thread nD τ).loc main_arg2)) := by
  entry_read
  rw [padded]

/-- The row block's elements in the argument. -/
theorem x_at (c : Dev nD) (t : Fin cfg0.N) (r : Fin 1024) (d : Fin 2048) (i : Fin 16384) (hi : i.val = t.val * 1024 + r.val) :
    (iblk m c 0 t : Vec Ideal S1024x2048 .f32) (ix2 r d) = m ((c : Thread nD τ).loc main_arg0) (ix2 i d) := by
  blk_point [iblk, V, idx t]

/-- The norm weights' block elements in the argument. -/
theorem w_at (c : Dev nD) (t : Fin cfg0.N) (z : Fin 1) (d : Fin 2048) :
    (iblk m c 1 t : Vec Ideal S1x2048 .f32) (ix2 z d) = m ((c : Thread nD τ).loc main_arg1) (ix1 d) := by
  blk_point [iblk, V, idx t]

/-- The place of the weights' block in its array: the whole of it. -/
theorem u_place (t : Fin cfg0.N) (x : Fin 2048) (j : Fin 128) :
    ((win0_2.blk t).view.emb (ix2 x j) : S2048x128.Idx) = ix2 x j := by
  funext a
  match a with
  | ⟨0, _⟩ => refine Fin.ext ?_; blk_simp [idx t]
  | ⟨1, _⟩ => refine Fin.ext ?_; blk_simp [idx t]

/-- Reading the weights' window of an array is reading the array. -/
theorem u_read (A : FVec Ideal S2048x128 .bf16) (t : Fin cfg0.N) (x : Fin 2048) (j : Fin 128) :
    (win0_2.blk t).view.read (Elt Ideal) A (ix2 x j) = A (ix2 x j) := congrArg A (u_place t x j)

/-- The weights' block is the padded weights. -/
theorem u_at (c : Dev nD) (t : Fin cfg0.N) (x : Fin 2048) (j : Fin 128) :
    (iblk m c 2 t : Vec Ideal S2048x128 .bf16) (ix2 x j) = padded (m ((c : Thread nD τ).loc main_arg2)) (ix2 x j) := by
  unfold iblk
  have e : V m c (Pipeline.arrRef spec0 2) = padded (m ((c : Thread nD τ).loc main_arg2)) := v4_eq m c
  rw [e]
  exact u_read _ t x j

/-- The place of a block's row and column in the result. -/
theorem place (t : Fin cfg0.N) (r : Fin 1024) (j : Fin 128) :
    (((((cfg0.win 3).blk t).view.emb (ix2 r j) : S16384x128.Idx) 0).val = t.val * 1024 + r.val)
    ∧ (((((cfg0.win 3).blk t).view.emb (ix2 r j) : S16384x128.Idx) 1).val = j.val) := by
  constructor
  · blk_simp [idx t]
  · blk_simp [idx t]

/-- The body's payload on a row of a block is the reference's element on the row it was taken from. -/
theorem pay_at (X : Vec Ideal S1024x2048 .f32) (W : Vec Ideal S1x2048 .f32) (B : Vec Ideal S2048x128 .bf16)
    (x : FVec Ideal S16384x2048 .f32) (w : FVec Ideal S2048 .f32) (u : FVec Ideal S2048x6924 .f32) (r : Fin 1024) (j : Fin 128) (i : Fin 16384)
    (hX : ∀ d : Fin 2048, X (ix2 r d) = x (ix2 i d)) (hW : ∀ (z : Fin 1) (d : Fin 2048), W (ix2 z d) = w (ix1 d))
    (hB : ∀ d : Fin 2048, B (ix2 d j) = padded u (ix2 d j)) :
    k0_pay2 (k0_pay1 X W) B (ix2 r j) = ref x w u (ix2 i j) := by
  pointwise [k0_pay1, k0_pay2, ref]
  simp only [hX, hW, hB, padded_at]
  by_cases h : j.val < 12
  · simp only [dif_pos h]
  · simp only [dif_neg h, mul_zero, Finset.sum_const_zero]
    show (0 : EReal) = (((0#32 : BitVec 32).toInt : ℝ) : EReal)
    simp

/-- The result array after the run is the reference's term over the arguments. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [out_eq]
  have e : y = (ix2 (y 0) (y 1) : S1024x128.Idx) := ValueIdx.eq_ix2 (n0 := 1024) (n1 := 128) y
  rw [e]
  have ht : t.val < 16 := t.isLt
  have hr : (y 0).val < 1024 := (y 0).isLt
  have p := place t (y 0) (y 1)
  have ei : (((cfg0.win 3).blk t).view.emb (ix2 (y 0) (y 1)) : S16384x128.Idx) = ix2 (⟨t.val * 1024 + (y 0).val, by omega⟩ : Fin 16384) (y 1) := by
    funext a
    match a with
    | ⟨0, _⟩ => exact Fin.ext p.1
    | ⟨1, _⟩ => exact Fin.ext p.2
  refine Eq.trans ?_ (congrArg _ ei.symm)
  exact pay_at _ _ _ _ _ _ _ _ _ (fun d => x_at m c t _ d _ rfl) (fun z d => w_at m c t z d) (fun d => u_at m c t d _)

end Cert.InGateIdeal.Tie

namespace Cert.Tie

/-- The projection to the gate columns and its reference compute the same result from the same arguments. -/
theorem in_gate_algebraic : Cert.algebraic_InGateIdeal_InGateRefIdeal := by
  pair_intro
  · run_from Cert.InGateIdeal.Gen.run_main m g
  · run_from Cert.InGateRefIdeal.Value.run m' g'
    exact (Cert.InGateIdeal.Tie.final m c).symm

end Cert.Tie

end
-- ==== Proof.ConvValue.lean ====
/-
  The short convolution: three taps over the gated rows, and the output gate.
-/
module

public import proofs.«01_k».proof.Proof.Gen.ConvIdeal.Frame
public import proofs.«01_k».proof.Proof.Gen.ConvRefIdeal.Run
public import proofs.«01_k».proof.Defs
public import Idealize.ShloMosaic.Lib.Claim
public import Idealize.ShloMosaic.Lib.Pipeline.ValueKit
public import Idealize.ShloMosaic.Lib.Pipeline.ReadBack
public import Idealize.ShloMosaic.Lib.WordCmp
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvRefIdeal.Tie

open Cert.ConvRefIdeal Cert.ConvRefIdeal.Gen

/-- The rows of the argument, by sequence. -/
def rows (p : FVec Ideal S16384x4608 .f32) : FVec Ideal S4x4096x4608 .f32 := shapeCast _ p shapeCasts_S16384x4608_S4x4096x4608

/-- The products of the second and third thirds, with two zero rows before each sequence. -/
def gated (p : FVec Ideal S16384x4608 .f32) : FVec Ideal S4x4098x512 .f32 :=
  pad S4x4098x512 ![0, 2, 0] ![0, 0, 0] ![0, 0, 0] (mulf (extractStridedSlice S4x4096x512 ![0, 0, 512] (rows p) slices_S4x4096x4608_S4x4096x512_0_0_512) (extractStridedSlice S4x4096x512 ![0, 0, 1024] (rows p) slices_S4x4096x4608_S4x4096x512_0_0_1024)) (sitofp .f32 (constantI S_ 32 0#32)) pads_S4x4096x512_S4x4098x512_000_200_000 h_S_

/-- One tap's weights on every row. -/
def taps (w : FVec Ideal S3x512 .f32) (k : Fin 3) : FVec Ideal S4x4096x512 .f32 :=
  broadcastInDim S4x4096x512 ![0, 1, 2] bcast_S1x1x512_S4x4096x512_0_1_2 (broadcastInDim S1x1x512 ![2] bcast_S512_S1x1x512_2
    (match k with
    | 0 => shapeCast _ (extractStridedSlice S1x512 ![0, 0] w slices_S3x512_S1x512_0_0) shapeCasts_S1x512_S512
    | 1 => shapeCast _ (extractStridedSlice S1x512 ![1, 0] w slices_S3x512_S1x512_1_0) shapeCasts_S1x512_S512
    | 2 => shapeCast _ (extractStridedSlice S1x512 ![2, 0] w slices_S3x512_S1x512_2_0) shapeCasts_S1x512_S512))

/-- The reference's result over the arguments. -/
def ref (p : FVec Ideal S16384x4608 .f32) (w : FVec Ideal S3x512 .f32) : FVec Ideal S16384x512 .bf16 :=
  truncf .bf16 (shapeCast _ (mulf (extractStridedSlice S4x4096x512 ![0, 0, 0] (rows p) slices_S4x4096x4608_S4x4096x512_0_0_0)
    (addf (addf (addf (broadcastInDim S4x4096x512 ![] bcast_S_S4x4096x512 (constant S_ .f32 0x00000000#32))
      (mulf (taps w 0) (extractStridedSlice S4x4096x512 ![0, 0, 0] (gated p) slices_S4x4098x512_S4x4096x512_0_0_0)))
      (mulf (taps w 1) (extractStridedSlice S4x4096x512 ![0, 1, 0] (gated p) slices_S4x4098x512_S4x4096x512_0_1_0)))
      (mulf (taps w 2) (extractStridedSlice S4x4096x512 ![0, 2, 0] (gated p) slices_S4x4098x512_S4x4096x512_0_2_0)))) shapeCasts_S4x4096x512_S16384x512) bitsLt_bf16_f32

/-- The product `k` rows before a row, or zero where that lies before its sequence. -/
def back (p : FVec Ideal S16384x4608 .f32) (k : ℕ) (i : Fin 16384) (x : Fin 512) : EReal :=
  if k ≤ i.val % 4096 then
    p (ix2 (⟨i.val - k, by omega⟩ : Fin 16384) (⟨512 + x.val, by omega⟩ : Fin 4608)) * p (ix2 (⟨i.val - k, by omega⟩ : Fin 16384) (⟨1024 + x.val, by omega⟩ : Fin 4608))
  else 0

/-- The argument's element at a row of a sequence. -/
theorem rows_at (p : FVec Ideal S16384x4608 .f32) (b : Fin 4) (s : Fin 4096) (x : Fin 4608) (i : Fin 16384) (hi : i.val = b.val * 4096 + s.val) :
    rows p (ix3 b s x) = p (ix2 i x) := by
  have e : i = ⟨b.val * 4096 + s.val, by omega⟩ := Fin.ext hi
  rw [e]
  unfold rows
  pointwise

/-- The zero of the padding. -/
theorem pad_zero : FloatOps.sitofp (F := Ideal) FTy.f32 (0#32 : BitVec 32) = (0 : EReal) := by
  show (((0#32 : BitVec 32).toInt : ℝ) : EReal) = 0
  simp

/-- The padded products' element. -/
theorem gated_at (p : FVec Ideal S16384x4608 .f32) (b : Fin 4) (s : Fin 4098) (x : Fin 512) :
    gated p (ix3 b s x) = if h : 2 ≤ s.val then
      rows p (ix3 b (⟨s.val - 2, by omega⟩ : Fin 4096) (⟨512 + x.val, by omega⟩ : Fin 4608)) * rows p (ix3 b (⟨s.val - 2, by omega⟩ : Fin 4096) (⟨1024 + x.val, by omega⟩ : Fin 4608)) else 0 := by
  unfold gated
  pointwise
  by_cases h : 2 ≤ s.val
  · rw [dif_pos h, dif_pos ⟨h, by omega⟩]
  · rw [dif_neg h, dif_neg fun hh => h hh.1, pad_zero]

/-- The padded products `2 - k` rows on from a row are the product `k` rows before it. -/
theorem gated_back (p : FVec Ideal S16384x4608 .f32) (k : ℕ) (hk : k ≤ 2) (i : Fin 16384) (x : Fin 512) (b : Fin 4) (s : Fin 4098)
    (hb : b.val = i.val / 4096) (hs : s.val = 2 - k + i.val % 4096) : gated p (ix3 b s x) = back p k i x := by
  rw [gated_at]
  unfold back
  by_cases h : k ≤ i.val % 4096
  · rw [if_pos h, dif_pos (by omega), rows_at p _ _ _ (⟨i.val - k, by omega⟩ : Fin 16384) (by show i.val - k = b.val * 4096 + (s.val - 2); omega),
      rows_at p _ _ _ (⟨i.val - k, by omega⟩ : Fin 16384) (by show i.val - k = b.val * 4096 + (s.val - 2); omega)]
  · rw [if_neg h, dif_neg (by omega)]

/-- The reference's element: the first third's element times the three taps over the products of the row and the two before it. -/
theorem ref_at (p : FVec Ideal S16384x4608 .f32) (w : FVec Ideal S3x512 .f32) (i : Fin 16384) (x : Fin 512) :
    ref p w (ix2 i x) = p (ix2 i ⟨x.val, by omega⟩) * (w (ix2 0 x) * back p 2 i x + w (ix2 1 x) * back p 1 i x + w (ix2 2 x) * back p 0 i x) := by
  have hi : i.val < 16384 := i.isLt
  unfold ref
  pointwise [taps]
  rw [gated_back p 2 (by omega) i x _ _ rfl (by show i.val % 4096 = _; omega), gated_back p 1 (by omega) i x _ _ rfl (by show 1 + i.val % 4096 = _; omega),
    gated_back p 0 (by omega) i x _ _ rfl (by show 2 + i.val % 4096 = _; omega),
    rows_at p _ _ _ i (by show i.val = i.val / 4096 * 4096 + i.val % 4096; omega)]

end Cert.ConvRefIdeal.Tie

namespace Cert.ConvIdeal.Tie

open Cert.ConvIdeal Cert.ConvIdeal.Gen

variable (m : (ℓ : Loc nD τ sig) → Buf (Elt Ideal) ℓ)

/-- The blocks that a grid point takes. -/
theorem idx : ∀ t : Fin cfg0.N, win0_0.index t = ![t.val, 0] ∧ win0_1.index t = ![t.val, 1] ∧ win0_2.index t = ![t.val, 2]
   ∧ win0_3.index t = ![t.val * 64 - 1, 1] ∧ win0_4.index t = ![t.val * 64 - 1, 2]
   ∧ win0_5.index t = ![0, 0] ∧ win0_6.index t = ![t.val, 0] ∧ (grid0.coords t 1).val = t.val % 8 :=
  (by decide +kernel : ∀ t : Fin grid0.N, _)

set_option maxHeartbeats 1000000 in
/-- What the scratch holds after its two writes: the eight rows before the block, then the block's rows. -/
theorem held (A : Vec Ideal S512x512 .f32) (B : Vec Ideal S8x512 .f32) (o : ℕ) (ho : o ≤ 8)
    (inb : ∀ a, (![o, 0] : Fin 2 → ℕ) a + (![512, 512] : Fin 2 → ℕ) a ≤ S520x512.size a) (r : Fin 512) (x : Fin 512) :
    ((View.whole cc0_scratch0).readCov (Val := Elt Ideal)
        [⟨Rect.unit ![8, 0] ![512, 512] inb_S520x512_S512x512_8_0, A⟩, ⟨Rect.unit ![0, 0] ![8, 512] inb_S520x512_S8x512_0_0, B⟩]
        (Rect.unit (s := S520x512) ![o, 0] ![512, 512] inb).toLoadRect : Vec Ideal S512x512 .f32) (ix2 r x)
      = if h : o + r.val < 8 then B (ix2 (⟨o + r.val, h⟩ : Fin 8) x) else A (ix2 (⟨o + r.val - 8, by omega⟩ : Fin 512) x) := by
  rw [View.readCov_eq_canon']
  show View.canon _ ((Rect.unit (s := S520x512) ![o, 0] ![512, 512] inb).toLoadRect.idx (ix2 r x)) = _
  split
  · next h =>
    rw [View.canon_cons_of_not_mem]
    · have e : (Rect.unit (s := S520x512) ![o, 0] ![512, 512] inb).toLoadRect.idx (ix2 r x)
          = (Rect.unit (s := S520x512) ![0, 0] ![8, 512] inb_S520x512_S8x512_0_0).emb (ix2 (⟨o + r.val, h⟩ : Fin 8) x) := by
        funext a
        match a with
        | ⟨0, _⟩ => refine Fin.ext ?_; show o + 1 * r.val = 0 + 1 * (o + r.val); omega
        | ⟨1, _⟩ => rfl
      rw [e, View.canon_cons_emb]
    · refine Rect.not_mem_set_of_axis _ _ (0 : Fin 2) 8 512 rfl rfl rfl (Or.inl ?_)
      show o + 1 * r.val < 8
      omega
  · next h =>
    have e : (Rect.unit (s := S520x512) ![o, 0] ![512, 512] inb).toLoadRect.idx (ix2 r x)
          = (Rect.unit (s := S520x512) ![8, 0] ![512, 512] inb_S520x512_S512x512_8_0).emb (ix2 (⟨o + r.val - 8, by omega⟩ : Fin 512) x) := by
      funext a
      match a with
      | ⟨0, _⟩ => refine Fin.ext ?_; show o + 1 * r.val = 8 + 1 * (o + r.val - 8); omega
      | ⟨1, _⟩ => rfl
    rw [e, View.canon_cons_emb]

/-- The block that a grid point writes, over the blocks it reads. -/
theorem out_eq (c : Dev nD) (t : Fin cfg0.N) : outsAt0 m c t =
  k0_pay1
      (k0_pay4 (View.ld (iblk m c 5 t) (Rect.unit ![0, 0] ![1, 512] inb_S3x512_S1x512_0_0))
        ((View.whole cc0_scratch0).readCov
          [⟨Rect.unit ![8, 0] ![512, 512] inb_S520x512_S512x512_8_0, k0_pay3 (iblk m c 1 t) (iblk m c 2 t)⟩,
            ⟨Rect.unit ![0, 0] ![8, 512] inb_S520x512_S8x512_0_0,
              k0_pay2 (grid0.coords t) (iblk m c 3 t) (iblk m c 4 t)⟩]
          (Rect.unit ![6, 0] ![512, 512] inb_S520x512_S512x512_6_0).toLoadRect)
        (View.ld (iblk m c 5 t) (Rect.unit ![1, 0] ![1, 512] inb_S3x512_S1x512_1_0))
        ((View.whole cc0_scratch0).readCov
          [⟨Rect.unit ![8, 0] ![512, 512] inb_S520x512_S512x512_8_0, k0_pay3 (iblk m c 1 t) (iblk m c 2 t)⟩,
            ⟨Rect.unit ![0, 0] ![8, 512] inb_S520x512_S8x512_0_0,
              k0_pay2 (grid0.coords t) (iblk m c 3 t) (iblk m c 4 t)⟩]
          (Rect.unit ![7, 0] ![512, 512] inb_S520x512_S512x512_7_0).toLoadRect))
      (k0_pay3 (iblk m c 1 t) (iblk m c 2 t))
      (k0_pay5 (View.ld (iblk m c 5 t) (Rect.unit ![2, 0] ![1, 512] inb_S3x512_S1x512_2_0))) (iblk m c 0 t) := by
  unfold outsAt0
  frame_open
  simp (disch := decide) only [↓ View.readCov_skip, ↓ View.readCov_cons_toLoadRect, ↓ View.readCov_fill]
  frame_out
  rfl

/-- The body's payload at a place, over the blocks it reads. -/
theorem pay_at (W : Vec Ideal S3x512 .f32) (S6 S7 X1 X2 X0 : Vec Ideal S512x512 .f32) (r x : Fin 512) :
    k0_pay1 (k0_pay4 (View.ld W (Rect.unit ![0, 0] ![1, 512] inb_S3x512_S1x512_0_0)) S6 (View.ld W (Rect.unit ![1, 0] ![1, 512] inb_S3x512_S1x512_1_0)) S7)
      (k0_pay3 X1 X2) (k0_pay5 (View.ld W (Rect.unit ![2, 0] ![1, 512] inb_S3x512_S1x512_2_0))) X0 (ix2 r x)
    = X0 (ix2 r x) * (W (ix2 0 x) * S6 (ix2 r x) + W (ix2 1 x) * S7 (ix2 r x) + W (ix2 2 x) * (X1 (ix2 r x) * X2 (ix2 r x))) := by
  pointwise [k0_pay1, k0_pay3, k0_pay4, k0_pay5]

/-- The rows before the block: zero at the first block of a sequence. -/
theorem before_at (i : grid0.Coords) (X3 X4 : Vec Ideal S8x512 .f32) (r : Fin 8) (x : Fin 512) :
    k0_pay2 i X3 X4 (ix2 r x) = if (i 1).val = 0 then 0 else X3 (ix2 r x) * X4 (ix2 r x) := by
  have hi : (i 1).val < 8 := (i 1).isLt
  unfold k0_pay2
  pointwise
  show Scalar.select (IntOp.cmpi .eq (BitVec.ofNat 32 (i 1).val) (BitVec.ofNat 32 0)) (0 : EReal) (X3 (ix2 r x) * X4 (ix2 r x)) = _
  rw [WordCmp.cmpi_eq_ofNat (by omega) (by omega)]
  by_cases h : (i 1).val = 0
  · rw [if_pos h, decide_eq_true h]; rfl
  · rw [if_neg h, decide_eq_false h]; rfl

/-- The products that the scratch takes. -/
theorem product_at (X1 X2 : Vec Ideal S512x512 .f32) (r x : Fin 512) : k0_pay3 X1 X2 (ix2 r x) = X1 (ix2 r x) * X2 (ix2 r x) := by
  pointwise [k0_pay3]

/-- The elements of the three blocks of rows in the argument. -/
theorem b_at (c : Dev nD) (t : Fin cfg0.N) (r : Fin 512) (x : Fin 512) (i : Fin 16384) (j : Fin 4608) (hi : i.val = t.val * 512 + r.val) (hj : j.val = x.val) :
    (iblk m c 0 t : Vec Ideal S512x512 .f32) (ix2 r x) = m ((c : Thread nD τ).loc main_arg0) (ix2 i j) := by
  blk_point [iblk, V, idx t]

/-- The second third's block. -/
theorem c_at (c : Dev nD) (t : Fin cfg0.N) (r : Fin 512) (x : Fin 512) (i : Fin 16384) (j : Fin 4608) (hi : i.val = t.val * 512 + r.val) (hj : j.val = 512 + x.val) :
    (iblk m c 1 t : Vec Ideal S512x512 .f32) (ix2 r x) = m ((c : Thread nD τ).loc main_arg0) (ix2 i j) := by
  blk_point [iblk, V, idx t]

/-- The third third's block. -/
theorem h_at (c : Dev nD) (t : Fin cfg0.N) (r : Fin 512) (x : Fin 512) (i : Fin 16384) (j : Fin 4608) (hi : i.val = t.val * 512 + r.val) (hj : j.val = 1024 + x.val) :
    (iblk m c 2 t : Vec Ideal S512x512 .f32) (ix2 r x) = m ((c : Thread nD τ).loc main_arg0) (ix2 i j) := by
  blk_point [iblk, V, idx t]

/-- The second third's eight rows before the block. -/
theorem c8_at (c : Dev nD) (t : Fin cfg0.N) (r : Fin 8) (x : Fin 512) (i : Fin 16384) (j : Fin 4608) (hi : i.val = (t.val * 64 - 1) * 8 + r.val) (hj : j.val = 512 + x.val) :
    (iblk m c 3 t : Vec Ideal S8x512 .f32) (ix2 r x) = m ((c : Thread nD τ).loc main_arg0) (ix2 i j) := by
  blk_point [iblk, V, idx t]

/-- The third third's eight rows before the block. -/
theorem h8_at (c : Dev nD) (t : Fin cfg0.N) (r : Fin 8) (x : Fin 512) (i : Fin 16384) (j : Fin 4608) (hi : i.val = (t.val * 64 - 1) * 8 + r.val) (hj : j.val = 1024 + x.val) :
    (iblk m c 4 t : Vec Ideal S8x512 .f32) (ix2 r x) = m ((c : Thread nD τ).loc main_arg0) (ix2 i j) := by
  blk_point [iblk, V, idx t]

/-- The taps' block. -/
theorem w_at (c : Dev nD) (t : Fin cfg0.N) (r : Fin 3) (x : Fin 512) :
    (iblk m c 5 t : Vec Ideal S3x512 .f32) (ix2 r x) = m ((c : Thread nD τ).loc main_arg1) (ix2 r x) := by
  blk_point [iblk, V, idx t]

/-- The place of a block's row and column in the result. -/
theorem place (t : Fin cfg0.N) (r : Fin 512) (x : Fin 512) :
    (((((cfg0.win 6).blk t).view.emb (ix2 r x) : S16384x512.Idx) 0).val = t.val * 512 + r.val)
    ∧ (((((cfg0.win 6).blk t).view.emb (ix2 r x) : S16384x512.Idx) 1).val = x.val) := by
  constructor
  · blk_simp [idx t]
  · blk_simp [idx t]

/-- A read of the scratch `k` rows up is the product `k` rows before the block's row. -/
theorem scratch_at (c : Dev nD) (t : Fin cfg0.N) (k : ℕ) (hk : k ≤ 2)
    (inb : ∀ a, (![8 - k, 0] : Fin 2 → ℕ) a + (![512, 512] : Fin 2 → ℕ) a ≤ S520x512.size a) (r : Fin 512) (x : Fin 512)
    (i : Fin 16384) (hi : i.val = t.val * 512 + r.val) :
    ((View.whole cc0_scratch0).readCov (Val := Elt Ideal)
        [⟨Rect.unit ![8, 0] ![512, 512] inb_S520x512_S512x512_8_0, k0_pay3 (iblk m c 1 t) (iblk m c 2 t)⟩,
          ⟨Rect.unit ![0, 0] ![8, 512] inb_S520x512_S8x512_0_0, k0_pay2 (grid0.coords t) (iblk m c 3 t) (iblk m c 4 t)⟩]
        (Rect.unit (s := S520x512) ![8 - k, 0] ![512, 512] inb).toLoadRect : Vec Ideal S512x512 .f32) (ix2 r x)
      = Cert.ConvRefIdeal.Tie.back (m ((c : Thread nD τ).loc main_arg0)) k i x := by
  have hr := r.isLt
  have ht : t.val < 32 := t.isLt
  have hc : (grid0.coords t 1).val = t.val % 8 := (idx t).2.2.2.2.2.2.2
  rw [held _ _ (8 - k) (by omega) inb r x]
  unfold Cert.ConvRefIdeal.Tie.back
  by_cases h : 8 - k + r.val < 8
  · rw [dif_pos h, before_at, hc]
    by_cases h0 : t.val % 8 = 0
    · rw [if_pos h0, if_neg (by omega)]
    · rw [if_neg h0, if_pos (by omega),
        c8_at m c t _ x (⟨i.val - k, by omega⟩ : Fin 16384) (⟨512 + x.val, by omega⟩ : Fin 4608) (by show i.val - k = (t.val * 64 - 1) * 8 + (8 - k + r.val); omega) rfl,
        h8_at m c t _ x (⟨i.val - k, by omega⟩ : Fin 16384) (⟨1024 + x.val, by omega⟩ : Fin 4608) (by show i.val - k = (t.val * 64 - 1) * 8 + (8 - k + r.val); omega) rfl]
  · rw [dif_neg h, product_at, if_pos (by omega),
      c_at m c t _ x (⟨i.val - k, by omega⟩ : Fin 16384) (⟨512 + x.val, by omega⟩ : Fin 4608) (by show i.val - k = t.val * 512 + (8 - k + r.val - 8); omega) rfl,
      h_at m c t _ x (⟨i.val - k, by omega⟩ : Fin 16384) (⟨1024 + x.val, by omega⟩ : Fin 4608) (by show i.val - k = t.val * 512 + (8 - k + r.val - 8); omega) rfl]

/-- The product of a row itself. -/
theorem now_at (X1 X2 : Vec Ideal S512x512 .f32) (p : FVec Ideal S16384x4608 .f32) (i : Fin 16384) (r x : Fin 512)
    (h1 : X1 (ix2 r x) = p (ix2 i (⟨512 + x.val, by omega⟩ : Fin 4608))) (h2 : X2 (ix2 r x) = p (ix2 i (⟨1024 + x.val, by omega⟩ : Fin 4608))) :
    X1 (ix2 r x) * X2 (ix2 r x) = Cert.ConvRefIdeal.Tie.back p 0 i x := by
  unfold Cert.ConvRefIdeal.Tie.back
  rw [if_pos (Nat.zero_le _), h1, h2]
  rfl

/-- The block written at a grid point is the reference's rows there. -/
theorem point (c : Dev nD) (t : Fin cfg0.N) (r : Fin 512) (x : Fin 512) (i : Fin 16384) (hi : i.val = t.val * 512 + r.val) :
    outsAt0 m c t (ix2 r x)
    = Cert.ConvRefIdeal.Tie.ref (m ((c : Thread nD τ).loc main_arg0)) (m ((c : Thread nD τ).loc main_arg1)) (ix2 i x) := by
  rw [out_eq, Cert.ConvRefIdeal.Tie.ref_at]
  refine (pay_at _ _ _ _ _ _ r x).trans ?_
  have s2 := scratch_at m c t 2 (by omega) inb_S520x512_S512x512_6_0 r x i hi
  have s1 := scratch_at m c t 1 (by omega) inb_S520x512_S512x512_7_0 r x i hi
  have s0 := now_at (iblk m c 1 t) (iblk m c 2 t) (m ((c : Thread nD τ).loc main_arg0)) i r x
    (c_at m c t r x i (⟨512 + x.val, by omega⟩ : Fin 4608) hi rfl) (h_at m c t r x i (⟨1024 + x.val, by omega⟩ : Fin 4608) hi rfl)
  exact congrArg₂ (· * ·) (b_at m c t r x i (⟨x.val, by omega⟩ : Fin 4608) hi rfl)
    (congrArg₂ (· + ·) (congrArg₂ (· + ·) (congrArg₂ (· * ·) (w_at m c t 0 x) s2) (congrArg₂ (· * ·) (w_at m c t 1 x) s1))
      (congrArg₂ (· * ·) (w_at m c t 2 x) s0))

/-- The block written at a grid point is the reference's rows at the block's place. -/
theorem point_place (c : Dev nD) (t : Fin cfg0.N) (r : Fin 512) (x : Fin 512) :
    outsAt0 m c t (ix2 r x)
    = Cert.ConvRefIdeal.Tie.ref (m ((c : Thread nD τ).loc main_arg0)) (m ((c : Thread nD τ).loc main_arg1)) (((cfg0.win 6).blk t).view.emb (ix2 r x)) := by
  have ht : t.val < 32 := t.isLt
  have hr := r.isLt
  have p := place t r x
  have ei : (((cfg0.win 6).blk t).view.emb (ix2 r x) : S16384x512.Idx) = ix2 (⟨t.val * 512 + r.val, by omega⟩ : Fin 16384) x := by
    funext a
    match a with
    | ⟨0, _⟩ => exact Fin.ext p.1
    | ⟨1, _⟩ => exact Fin.ext p.2
  rw [point m c t r x (⟨t.val * 512 + r.val, by omega⟩ : Fin 16384) rfl]
  exact congrArg (Cert.ConvRefIdeal.Tie.ref (m ((c : Thread nD τ).loc main_arg0)) (m ((c : Thread nD τ).loc main_arg1))) ei.symm

/-- The result array after the run is the reference's term over the arguments. -/
theorem final (c : Dev nD) : (dats m 0 c).arrAt 6 (cfgs 0).N
    = Cert.ConvRefIdeal.Tie.ref (m ((c : Thread nD τ).loc main_arg0)) (m ((c : Thread nD τ).loc main_arg1)) := by
  refine (dats m 0 c).arrAt_eq_of_covers 6 _ (by decide +kernel) fun t hf y => ?_
  blk_simp
  rw [after0_6]
  have e : y = (ix2 (y 0) (y 1) : S512x512.Idx) := ValueIdx.eq_ix2 (n0 := 512) (n1 := 512) y
  rw [e]
  exact point_place m c t _ _

end Cert.ConvIdeal.Tie

namespace Cert.Tie

/-- The short convolution and its reference compute the same result from the same arguments. -/
theorem conv_algebraic : Cert.algebraic_ConvIdeal_ConvRefIdeal := by
  pair_intro
  · run_from Cert.ConvIdeal.Gen.run_main m g
  · run_from Cert.ConvRefIdeal.Value.run m' g'
    exact (Cert.ConvIdeal.Tie.final m c).symm

end Cert.Tie

end
-- ==== Proof.GdnMath.lean ====
/-
  The gated delta rule of one head over one chunk of 64 steps, over the extended reals.

  A chunk holds the queries, the keys, the values, the logarithms of the decays summed from the chunk's first step, and
  the steps' strengths. Within a chunk the values that enter the state solve a unit lower triangular system; the
  reference solves it by 63 sweeps `T = I - M T` from `T = I`, the kernel by five doublings of the power series. Where
  the system is finite both are the sum of the first 64 powers of `-M`.
-/
module

public import Idealize.ShloMosaic.Lib.Claim
public import Idealize.ShloMosaic.Lib.Pipeline.ValueKit
public import proofs.«01_k».proof.Proof.SbMath

@[expose] public section

noncomputable section

open Idealize.ShloMosaic

namespace Cert.Delta

/-- A square table over the chunk's steps. -/
abbrev Table : Type := Fin 64 → Fin 64 → EReal

/-- The product of two tables. -/
def mm (A B : Table) : Table := fun i j => ∑ l, A i l * B l j

/-- The unit table. -/
def unit : Table := fun i j => if i = j then 1 else 0

/-- `n` sweeps `T = I - M T` from `T = I`. -/
def sweeps (M : Table) : ℕ → Table
  | 0 => unit
  | n + 1 => fun i j => unit i j - mm M (sweeps M n) i j

/-- The table of a real matrix. -/
def ofReal (A : Matrix (Fin 64) (Fin 64) ℝ) : Table := fun i j => ((A i j : ℝ) : EReal)

/-- The unit table is the real unit table. -/
theorem unit_eq : unit = ofReal 1 := by
  funext i j
  unfold unit ofReal
  rw [Matrix.one_apply]
  split <;> simp

/-- The product of real tables is the real product. -/
theorem mm_ofReal (A B : Matrix (Fin 64) (Fin 64) ℝ) : mm (ofReal A) (ofReal B) = ofReal (A * B) := by
  funext i j
  unfold mm ofReal
  rw [Matrix.mul_apply, Cert.Sb.coe_sum]
  exact Finset.sum_congr rfl fun l _ => (EReal.coe_mul _ _).symm

/-- The sum of the first `n` powers. -/
def geom (P : Matrix (Fin 64) (Fin 64) ℝ) (n : ℕ) : Matrix (Fin 64) (Fin 64) ℝ := ∑ i ∈ Finset.range n, P ^ i

/-- The sum of twice as many powers. -/
theorem geom_double (P : Matrix (Fin 64) (Fin 64) ℝ) (n : ℕ) : geom P n + geom P n * P ^ n = geom P (n + n) := by
  unfold geom
  rw [Finset.sum_range_add, Finset.sum_mul]
  congr 1
  exact Finset.sum_congr rfl fun i _ => by rw [← pow_add, add_comm]

/-- Sweeps over a finite table sum powers. -/
theorem sweeps_ofReal (M : Matrix (Fin 64) (Fin 64) ℝ) (n : ℕ) : sweeps (ofReal M) n = ofReal (geom (-M) (n + 1)) := by
  induction n with
  | zero =>
    show unit = _
    rw [unit_eq]
    unfold geom
    simp
  | succ n ih =>
    have e : geom (-M) (n + 1 + 1) = 1 - M * geom (-M) (n + 1) := by
      unfold geom
      rw [Finset.sum_range_succ', pow_zero, add_comm, sub_eq_add_neg, Finset.mul_sum, ← Finset.sum_neg_distrib]
      congr 1
      exact Finset.sum_congr rfl fun k _ => by rw [pow_succ', neg_mul]
    funext i j
    show unit i j - mm (ofReal M) (sweeps (ofReal M) n) i j = _
    rw [ih, mm_ofReal, unit_eq, e]
    exact (EReal.coe_sub _ _).symm

/-- The doubling of the power series: the sum so far and the power it stops before. -/
def double (TP : Table × Table) : Table × Table :=
  (fun i j => TP.1 i j + mm TP.1 (mm TP.2 TP.2) i j, mm TP.2 TP.2)

/-- The kernel's solution: five doublings from `I + P`. -/
def doublings (P : Table) : Table := (double (double (double (double (double (fun i j => unit i j + P i j, P)))))).1

/-- A doubling of real tables is the real doubling. -/
theorem double_ofReal (P : Matrix (Fin 64) (Fin 64) ℝ) (n : ℕ) :
    double (ofReal (geom P (n + n)), ofReal (P ^ n)) = (ofReal (geom P (n + n + (n + n))), ofReal (P ^ (n + n))) := by
  unfold double
  dsimp only
  rw [mm_ofReal, ← pow_add, mm_ofReal, ← geom_double P (n + n)]
  refine Prod.ext ?_ rfl
  funext i j
  exact (EReal.coe_add _ _).symm

/-- Over a finite table the doublings from `-M` are the sweeps with `M`. -/
theorem doublings_eq (M : Table) (R : Matrix (Fin 64) (Fin 64) ℝ) (h : M = ofReal R) :
    doublings (fun i j => 0 - M i j) = sweeps M 63 := by
  have e : (fun i j => 0 - M i j) = ofReal (-R) := by
    funext i j
    rw [h, zero_sub]
    exact (EReal.coe_neg _).symm
  rw [e]
  unfold doublings
  have s : ((fun i j => unit i j + ofReal (-R) i j, ofReal (-R)) : Table × Table) = (ofReal (geom (-R) (1 + 1)), ofReal ((-R) ^ 1)) := by
    rw [pow_one]
    refine Prod.ext ?_ rfl
    funext i j
    rw [unit_eq, ← geom_double (-R) 1]
    unfold geom
    simp [ofReal]
  rw [s, double_ofReal, double_ofReal, double_ofReal, double_ofReal, double_ofReal, h, sweeps_ofReal]

/-- One head's chunk. -/
structure Chunk where
  q : Fin 64 → Fin 128 → EReal
  k : Fin 64 → Fin 128 → EReal
  v : Fin 64 → Fin 128 → EReal
  g : Fin 64 → EReal
  b : Fin 64 → EReal

/-- A head's state. -/
abbrev St : Type := Fin 128 → Fin 128 → EReal

namespace Chunk

variable (C : Chunk)

/-- What is left at step `i` of what entered at step `j`. -/
def decay : Table := fun i j => if j ≤ i then Ideal.exp (C.g i - C.g j) else 0

/-- The system's strictly lower part. -/
def M : Table := fun i j => if j < i then (∑ d, C.k i d * C.b i * C.k j d) * C.decay i j else 0

/-- The system's solution. -/
def T : Table := sweeps C.M 63

/-- The values that would enter an empty state. -/
def u (i : Fin 64) (d : Fin 128) : EReal := ∑ j, C.T i j * (C.v j d * C.b j)

/-- What reads the state off the entering values. -/
def w (i : Fin 64) (d : Fin 128) : EReal := ∑ j, C.T i j * (C.k j d * C.b j * Ideal.exp (C.g j))

/-- The decayed scores within the chunk. -/
def attn : Table := fun i j => if j ≤ i then (∑ d, C.q i d * C.k j d) * C.decay i j else 0

/-- The values that enter the state. -/
def new (S : St) (i : Fin 64) (d : Fin 128) : EReal := C.u i d - ∑ e, C.w i e * S e d

/-- The chunk's outputs. -/
def out (S : St) (i : Fin 64) (d : Fin 128) : EReal :=
  (∑ e, C.q i e * Ideal.exp (C.g i) * S e d) + ∑ j, C.attn i j * C.new S j d

/-- The state after the chunk. -/
def next (S : St) : St := fun e d => S e d * Ideal.exp (C.g 63) + ∑ j, C.k j e * Ideal.exp (C.g 63 - C.g j) * C.new S j d

/-- What makes the system finite: finite keys and strengths, and logarithms of decays that do not grow. -/
structure Good : Prop where
  k : ∃ r : Fin 64 → Fin 128 → ℝ, ∀ i d, C.k i d = ((r i d : ℝ) : EReal)
  b : ∃ r : Fin 64 → ℝ, ∀ i, C.b i = ((r i : ℝ) : EReal)
  g_nonpos : ∀ i, C.g i ≤ 0
  g_anti : ∀ i j, j ≤ i → C.g i ≤ C.g j

end Chunk

/-- The exponential of what is at most zero is finite. -/
theorem exp_real {x : EReal} (h : x ≤ 0) : ∃ r : ℝ, Ideal.exp x = ((r : ℝ) : EReal) := by
  induction x using EReal.rec with
  | bot => exact ⟨0, by rw [EReal.coe_zero]; rfl⟩
  | coe r => exact ⟨Real.exp r, rfl⟩
  | top => exact absurd h (by simp)

/-- The exponential is not negative. -/
theorem exp_nonneg (x : EReal) : 0 ≤ Ideal.exp x := by
  induction x using EReal.rec with
  | bot => exact le_refl _
  | coe r => rw [Ideal.exp_coe]; exact_mod_cast (Real.exp_pos r).le
  | top => exact le_top

/-- The difference of a smaller and a larger number is at most zero when the smaller is. -/
theorem sub_nonpos_of_le {x y : EReal} (h : x ≤ y) (h0 : x ≤ 0) : x - y ≤ 0 := by
  induction x using EReal.rec with
  | bot => rw [EReal.bot_sub]; exact bot_le
  | top => exact absurd h0 (by simp)
  | coe r =>
    induction y using EReal.rec with
    | bot => exact absurd h (by simp)
    | top => rw [sub_eq_add_neg, EReal.neg_top, EReal.add_bot]; exact bot_le
    | coe t =>
      rw [← EReal.coe_sub]
      have := EReal.coe_le_coe_iff.1 h
      exact_mod_cast (by linarith : r - t ≤ 0)

/-- The decays are finite. -/
theorem Chunk.Good.decay {C : Chunk} (hC : C.Good) (i j : Fin 64) : ∃ r : ℝ, C.decay i j = ((r : ℝ) : EReal) := by
  unfold Chunk.decay
  split
  · next h => exact exp_real (sub_nonpos_of_le (hC.g_anti i j h) (hC.g_nonpos i))
  · exact ⟨0, EReal.coe_zero.symm⟩

/-- A good chunk's system is finite. -/
theorem Chunk.Good.system {C : Chunk} (hC : C.Good) : ∃ R : Matrix (Fin 64) (Fin 64) ℝ, C.M = ofReal R := by
  obtain ⟨k, hk⟩ := hC.k
  obtain ⟨b, hb⟩ := hC.b
  choose f hf using hC.decay
  refine ⟨fun i j => if j < i then (∑ d, k i d * b i * k j d) * f i j else 0, ?_⟩
  funext i j
  unfold Chunk.M ofReal
  dsimp only
  split
  · rw [EReal.coe_mul, Cert.Sb.coe_sum, hf]
    congr 1
    refine Finset.sum_congr rfl fun d _ => ?_
    rw [hk, hk, hb, EReal.coe_mul, EReal.coe_mul]
  · exact EReal.coe_zero.symm

/-- The kernel's form of the system, negated. -/
def Chunk.P (C : Chunk) : Table := fun i j => 0 - (if j < i then C.b i * (∑ d, C.k i d * C.k j d) * C.decay i j else 0)

/-- The kernel's solution is the reference's. -/
theorem Chunk.Good.T_eq {C : Chunk} (hC : C.Good) : doublings C.P = C.T := by
  obtain ⟨R, hR⟩ := hC.system
  obtain ⟨k, hk⟩ := hC.k
  obtain ⟨b, hb⟩ := hC.b
  have e : C.P = fun i j => 0 - C.M i j := by
    funext i j
    unfold Chunk.P Chunk.M
    have s : C.b i * (∑ d, C.k i d * C.k j d) = ∑ d, C.k i d * C.b i * C.k j d := by
      have e1 : ∀ d, C.k i d * C.k j d = ((k i d * k j d : ℝ) : EReal) := fun d => by rw [hk, hk, EReal.coe_mul]
      have e2 : ∀ d, C.k i d * C.b i * C.k j d = ((k i d * b i * k j d : ℝ) : EReal) := fun d => by
        rw [hk, hk, hb, EReal.coe_mul, EReal.coe_mul]
      rw [Finset.sum_congr rfl fun d _ => e1 d, Finset.sum_congr rfl fun d _ => e2 d, ← Cert.Sb.coe_sum, ← Cert.Sb.coe_sum, hb,
        ← EReal.coe_mul, Finset.mul_sum]
      congr 1
      exact Finset.sum_congr rfl fun d _ => by ring
    rw [s]
  rw [e, doublings_eq C.M R hR]
  rfl

end Cert.Delta

end
-- ==== Proof.GdnHead.lean ====
/-
  One head of the kernel's block: its chunk's outputs and its next state over the head's queries, keys, values and gates.
-/
module

public import proofs.«01_k».proof.Proof.Gen.GdnIdeal.Frame
public import proofs.«01_k».proof.Proof.GdnMath
public import Idealize.ShloMosaic.Lib.Claim
public import Idealize.ShloMosaic.Lib.Pipeline.ValueKit
public import Idealize.ShloMosaic.Lib.WordCmp
public import Idealize.ShloMosaic.Lib.Pointwise

@[expose] public section

set_option maxRecDepth 16384

noncomputable section

open Idealize.ShloMosaic Idealize.ShloMosaic.TcCoe Idealize.SL.Sem

namespace Cert.GdnIdeal.Tie

open Cert.GdnIdeal Cert.GdnIdeal.Gen Cert.Delta

/-- The decays between a chunk's steps. -/
def dec (g : FVec Ideal S64x1 .f32) (r : FVec Ideal S1x64 .f32) : FVec Ideal S64x64 .f32 :=
  select k0_pay16 (exp (select k0_pay16 (subf (broadcastTo S64x64 g broadcasts_S64x1_S64x64) (broadcastTo S64x64 r broadcasts_S1x64_S64x64)) (broadcast S64x64 (Scalar.ofBits .f32 0x00000000#32))))
    (broadcast S64x64 (Scalar.ofBits .f32 0x00000000#32))

/-- The products of one side's rows with the other's. -/
def gram (a b : FVec Ideal S64x128 .f32) : FVec Ideal S64x64 .f32 :=
  matmul dot_S64x128_S64x128_S64x64_1_1_0_0_n_n none (truncf .bf16 a bitsLt_bf16_f32) (truncf .bf16 b bitsLt_bf16_f32) (constant S64x64 .f32 0x00000000#32)

/-- The decayed scores. -/
def att (q k : FVec Ideal S64x128 .f32) (D : FVec Ideal S64x64 .f32) : FVec Ideal S64x64 .f32 :=
  select k0_pay16 (mulf (gram q k) D) (broadcast S64x64 (Scalar.ofBits .f32 0x00000000#32))

/-- The system's negated strictly lower part. -/
def sys (k : FVec Ideal S64x128 .f32) (b : FVec Ideal S64x1 .f32) (D : FVec Ideal S64x64 .f32) : FVec Ideal S64x64 .f32 :=
  subf (broadcast S64x64 (Scalar.ofBits .f32 0x00000000#32)) (select k0_pay17 (mulf (mulf (broadcastTo S64x64 b broadcasts_S64x1_S64x64) (gram k k)) D) (broadcast S64x64 (Scalar.ofBits .f32 0x00000000#32)))

/-- The product of two square tables. -/
def sq (A B : FVec Ideal S64x64 .f32) : FVec Ideal S64x64 .f32 :=
  matmul dot_S64x64_S64x64_S64x64_1_0_0_1_n_n none A B (constant S64x64 .f32 0x00000000#32)

/-- The system's solution by five doublings. -/
def solved (P : FVec Ideal S64x64 .f32) : FVec Ideal S64x64 .f32 :=
  let q1 := sq P P
  let q2 := sq q1 q1
  let q3 := sq q2 q2
  let q4 := sq q3 q3
  let t0 : FVec Ideal S64x64 .f32 := addf k0_pay19 P
  let t1 := addf t0 (sq t0 q1)
  let t2 := addf t1 (sq t1 q2)
  let t3 := addf t2 (sq t2 q3)
  let t4 := addf t3 (sq t3 q4)
  addf t4 (sq t4 (sq q4 q4))

/-- The solution times the values and the decayed keys, side by side. -/
def sides (T : FVec Ideal S64x64 .f32) (v k : FVec Ideal S64x128 .f32) (g b : FVec Ideal S64x1 .f32) : FVec Ideal S64x256 .f32 :=
  matmul dot_S64x64_S64x256_S64x256_1_0_0_1_n_n none (truncf .bf16 T bitsLt_bf16_f32)
    (truncf .bf16 (concatenate S64x256 1 [⟨S64x128, mulf v (broadcastTo S64x128 b broadcasts_S64x1_S64x128)⟩, ⟨S64x128, mulf k (broadcastTo S64x128 (mulf b (k0_pay33 g)) broadcasts_S64x1_S64x128)⟩] concatenates_S64x128_S64x128_S64x256_d1 : FVec Ideal S64x256 .f32) bitsLt_bf16_f32)
    (constant S64x256 .f32 0x00000000#32)

/-- The values that enter the state, from the two sides. -/
def enter (w : FVec Ideal S64x256 .f32) (S : Vec Ideal S1x128x128 .f32) : FVec Ideal S64x128 .bf16 :=
  truncf .bf16 (subf (extractStridedSlice S64x128 ![0, 0] w slices_S64x256_o0_0_S64x128)
    (matmul dot_S64x128_S128x128_S64x128_1_0_0_1_n_n none (truncf .bf16 (extractStridedSlice S64x128 ![0, 128] w slices_S64x256_o0_128_S64x128) bitsLt_bf16_f32) (k0_pay36 S) (constant S64x128 .f32 0x00000000#32))) bitsLt_bf16_f32

/-- The values that enter the state. -/
def fresh (k v : FVec Ideal S64x128 .f32) (g b : FVec Ideal S64x1 .f32) (r : FVec Ideal S1x64 .f32) (S : Vec Ideal S1x128x128 .f32) : FVec Ideal S64x128 .bf16 :=
  enter (sides (solved (sys k b (dec g r))) v k g b) S

/-- The head's outputs before the norm. -/
def outs (q k v : FVec Ideal S64x128 .f32) (g b : FVec Ideal S64x1 .f32) (r : FVec Ideal S1x64 .f32) (S : Vec Ideal S1x128x128 .f32) : FVec Ideal S64x128 .f32 :=
  addf (k0_pay38 q g S) (matmul dot_S64x64_S64x128_S64x128_1_0_0_1_n_n none (truncf .bf16 (att q k (dec g r)) bitsLt_bf16_f32) (fresh k v g b r S) (constant S64x128 .f32 0x00000000#32))

/-- The norm over the head's features, its weights and the gate. -/
def ended (o : FVec Ideal S64x128 .f32) (z : Vec Ideal S64x128 .f32) (w : Vec Ideal S1x128 .f32) : FVec Ideal S64x128 .bf16 :=
  truncf .bf16 (mulf (mulf (mulf o (broadcastTo S64x128 (rsqrt (addf (divf (shapeCast S64x1 (multiReduction .add [1] S64 (mulf o o) 0x00000000#32 reduces_S64x128_S64 (.inl rfl) rfl) shapeCasts_S64_S64x1)
    (broadcast S64x1 (Scalar.ofBits .f32 0x43000000#32))) (broadcast S64x1 (Scalar.ofBits .f32 0x358637BD#32)))) broadcasts_S64x1_S64x128))
    (broadcastTo S64x128 (shapeCast S1x128 w shapeCasts_S1x128_S1x128) broadcasts_S1x128_S64x128)) (mulf z (logistic z))) bitsLt_bf16_f32

/-- The head's next state. -/
def after (k v : FVec Ideal S64x128 .f32) (g b : FVec Ideal S64x1 .f32) (l : FVec Ideal S1x1 .f32) (r : FVec Ideal S1x64 .f32) (S : Vec Ideal S1x128x128 .f32) : FVec Ideal S1x128x128 .f32 :=
  k0_pay39 l (k0_pay34 k g l) (k0_pay35 S) (fresh k v g b r S)

variable (Q K V : FVec Ideal S64x768 .f32) (G B : FVec Ideal S64x128 .f32) (R : FVec Ideal S128x64 .f32) (S : Vec Ideal S1x128x128 .f32)
  (z : Vec Ideal S64x128 .f32) (w : Vec Ideal S1x128 .f32)

/-! The six heads' stored values are these of the head's own columns. -/

/-- Head 0's next state is the common form's. -/
theorem next_0 (X : FVec Ideal S128x64 .f32) (Y : FVec Ideal S128x64 .f32) : k0_pay39 (k0_pay28 G) (k0_pay34 (k0_pay25 K) (k0_pay26 G) (k0_pay28 G)) (k0_pay35 S)
    (k0_pay37 k0_pay19 (k0_pay23 V) (k0_pay25 K) (k0_pay26 G) (k0_pay27 B) (k0_pay32 K B k0_pay16 k0_pay17 k0_pay18 G X Y) S)
    = after (k0_pay25 K) (k0_pay23 V) (k0_pay26 G) (k0_pay27 B) (k0_pay28 G) (extractStridedSlice S1x64 ![0, 0] (k0_pay22 k0_pay18 X Y) slices_S128x64_o0_0_S1x64) S := rfl

/-- Head 0's written columns are the common form's. -/
theorem out_0 (X : FVec Ideal S128x64 .f32) (Y : FVec Ideal S128x64 .f32) : k0_pay40 (k0_pay31 Q K k0_pay16 k0_pay18 G X Y)
    (k0_pay37 k0_pay19 (k0_pay23 V) (k0_pay25 K) (k0_pay26 G) (k0_pay27 B) (k0_pay32 K B k0_pay16 k0_pay17 k0_pay18 G X Y) S) (k0_pay38 (k0_pay24 Q) (k0_pay26 G) S) z w
    = ended (outs (k0_pay24 Q) (k0_pay25 K) (k0_pay23 V) (k0_pay26 G) (k0_pay27 B) (extractStridedSlice S1x64 ![0, 0] (k0_pay22 k0_pay18 X Y) slices_S128x64_o0_0_S1x64) S) z w := rfl

/-- Head 1's next state is the common form's. -/
theorem next_1 : k0_pay64 (k0_pay63 (k0_pay43 V) (k0_pay46 (k0_pay42 K)) (k0_pay47 G) (k0_pay48 B) (k0_pay49 G) (k0_pay56 B k0_pay16 k0_pay17 k0_pay19 G R (k0_pay42 K)) (k0_pay57 B k0_pay16 k0_pay17 G R (k0_pay42 K)) S)
    = after (k0_pay46 (k0_pay42 K)) (k0_pay43 V) (k0_pay47 G) (k0_pay48 B) (k0_pay49 G) (extractStridedSlice S1x64 ![1, 0] R slices_S128x64_o1_0_S1x64) S := rfl

/-- Head 1's written columns are the common form's. -/
theorem out_1 : k0_pay65 (k0_pay62 (k0_pay43 V) (k0_pay45 (k0_pay41 Q) (k0_pay44 Q)) (k0_pay46 (k0_pay42 K)) (k0_pay47 G) (k0_pay48 B) (k0_pay52 k0_pay16 G R (k0_pay41 Q) (k0_pay42 K) (k0_pay44 Q))
      (k0_pay56 B k0_pay16 k0_pay17 k0_pay19 G R (k0_pay42 K)) (k0_pay57 B k0_pay16 k0_pay17 G R (k0_pay42 K)) S) z w
    = ended (outs (k0_pay45 (k0_pay41 Q) (k0_pay44 Q)) (k0_pay46 (k0_pay42 K)) (k0_pay43 V) (k0_pay47 G) (k0_pay48 B) (extractStridedSlice S1x64 ![1, 0] R slices_S128x64_o1_0_S1x64) S) z w := rfl

/-- Head 2's next state is the common form's. -/
theorem next_2 : k0_pay83 (k0_pay67 V) (k0_pay70 (k0_pay66 K) (k0_pay69 K)) (k0_pay71 G) (k0_pay72 B) (k0_pay73 G) (k0_pay77 B k0_pay16 k0_pay17 k0_pay19 G R (k0_pay66 K) (k0_pay69 K)) S
    = after (k0_pay70 (k0_pay66 K) (k0_pay69 K)) (k0_pay67 V) (k0_pay71 G) (k0_pay72 B) (k0_pay73 G) (extractStridedSlice S1x64 ![2, 0] R slices_S128x64_o2_0_S1x64) S := rfl

/-- Head 2's written columns are the common form's. -/
theorem out_2 : k0_pay85 (k0_pay82 (k0_pay67 V) (k0_pay68 Q) (k0_pay70 (k0_pay66 K) (k0_pay69 K)) (k0_pay71 G) (k0_pay72 B) (k0_pay76 k0_pay16 G R (k0_pay66 K) (k0_pay68 Q) (k0_pay69 K)) (k0_pay77 B k0_pay16 k0_pay17 k0_pay19 G R (k0_pay66 K) (k0_pay69 K)) S)
      (k0_pay84 (k0_pay67 V) (k0_pay68 Q) (k0_pay70 (k0_pay66 K) (k0_pay69 K)) (k0_pay71 G) (k0_pay72 B) (k0_pay76 k0_pay16 G R (k0_pay66 K) (k0_pay68 Q) (k0_pay69 K)) (k0_pay77 B k0_pay16 k0_pay17 k0_pay19 G R (k0_pay66 K) (k0_pay69 K)) S)
      (FloatOps.ofBits FTy.f32 897988541#32) z w
    = ended (outs (k0_pay68 Q) (k0_pay70 (k0_pay66 K) (k0_pay69 K)) (k0_pay67 V) (k0_pay71 G) (k0_pay72 B) (extractStridedSlice S1x64 ![2, 0] R slices_S128x64_o2_0_S1x64) S) z w := rfl

/-- Head 3's next state is the common form's. -/
theorem next_3 : k0_pay103 (k0_pay88 K) (k0_pay89 G) (k0_pay91 G) (k0_pay98 k0_pay16 k0_pay17 k0_pay19 (k0_pay86 V) (k0_pay88 K) (k0_pay89 G) (k0_pay90 B) (k0_pay92 k0_pay16 G R) (FloatOps.ofBits FTy.f32 0#32))
      (k0_pay99 k0_pay16 k0_pay17 k0_pay19 (k0_pay86 V) (k0_pay88 K) (k0_pay89 G) (k0_pay90 B) (k0_pay92 k0_pay16 G R) (FloatOps.ofBits FTy.f32 0#32)) S
    = after (k0_pay88 K) (k0_pay86 V) (k0_pay89 G) (k0_pay90 B) (k0_pay91 G) (extractStridedSlice S1x64 ![3, 0] R slices_S128x64_o3_0_S1x64) S := rfl

/-- Head 3's written columns are the common form's. -/
theorem out_3 : k0_pay106 z (k0_pay104 (k0_pay87 Q) (k0_pay95 k0_pay16 (k0_pay87 Q) (k0_pay88 K) (k0_pay92 k0_pay16 G R) (FloatOps.ofBits FTy.f32 0#32)) (k0_pay96 (k0_pay89 G))
      (k0_pay98 k0_pay16 k0_pay17 k0_pay19 (k0_pay86 V) (k0_pay88 K) (k0_pay89 G) (k0_pay90 B) (k0_pay92 k0_pay16 G R) (FloatOps.ofBits FTy.f32 0#32))
      (k0_pay99 k0_pay16 k0_pay17 k0_pay19 (k0_pay86 V) (k0_pay88 K) (k0_pay89 G) (k0_pay90 B) (k0_pay92 k0_pay16 G R) (FloatOps.ofBits FTy.f32 0#32)) S) (k0_pay105 w)
    = ended (outs (k0_pay87 Q) (k0_pay88 K) (k0_pay86 V) (k0_pay89 G) (k0_pay90 B) (extractStridedSlice S1x64 ![3, 0] R slices_S128x64_o3_0_S1x64) S) z w := rfl

/-- Head 4's next state is the common form's. -/
theorem next_4 : k0_pay128 (k0_pay112 G) (k0_pay121 k0_pay17 k0_pay19 (k0_pay107 V) (k0_pay109 K) (k0_pay110 G) (k0_pay111 B) (k0_pay116 K B k0_pay16 G R) k0_pay117)
      (k0_pay122 k0_pay17 k0_pay19 (k0_pay107 V) (k0_pay109 K) (k0_pay110 G) (k0_pay111 B) (k0_pay116 K B k0_pay16 G R) k0_pay117)
      (k0_pay124 (k0_pay109 K) (k0_pay110 G) (k0_pay112 G)) (k0_pay125 S) (k0_pay126 S)
    = after (k0_pay109 K) (k0_pay107 V) (k0_pay110 G) (k0_pay111 B) (k0_pay112 G) (extractStridedSlice S1x64 ![4, 0] R slices_S128x64_o4_0_S1x64) S := rfl

/-- Head 4's written columns are the common form's. -/
theorem out_4 : k0_pay129 (k0_pay118 k0_pay16 (k0_pay113 k0_pay16 G R) (k0_pay115 Q K)) (k0_pay121 k0_pay17 k0_pay19 (k0_pay107 V) (k0_pay109 K) (k0_pay110 G) (k0_pay111 B) (k0_pay116 K B k0_pay16 G R) k0_pay117)
      (k0_pay122 k0_pay17 k0_pay19 (k0_pay107 V) (k0_pay109 K) (k0_pay110 G) (k0_pay111 B) (k0_pay116 K B k0_pay16 G R) k0_pay117)
      (k0_pay123 (k0_pay108 Q) (k0_pay110 G)) (k0_pay126 S) z w
    = ended (outs (k0_pay108 Q) (k0_pay109 K) (k0_pay107 V) (k0_pay110 G) (k0_pay111 B) (extractStridedSlice S1x64 ![4, 0] R slices_S128x64_o4_0_S1x64) S) z w := rfl

/-- Head 5's next state is the common form's. -/
theorem next_5 : k0_pay153 (k0_pay147 (k0_pay135 (k0_pay131 K)) (k0_pay136 G) (k0_pay138 G)) (k0_pay148 S)
      (k0_pay150 (k0_pay132 V) (k0_pay135 (k0_pay131 K)) (k0_pay136 G) (k0_pay137 B) (k0_pay143 B k0_pay16 k0_pay17 k0_pay19 G R (k0_pay131 K)) (k0_pay144 B k0_pay16 k0_pay17 G R (k0_pay131 K))
        (k0_pay145 B k0_pay16 k0_pay17 k0_pay19 G R (k0_pay131 K)) S) (k0_pay152 (k0_pay138 G))
    = after (k0_pay135 (k0_pay131 K)) (k0_pay132 V) (k0_pay136 G) (k0_pay137 B) (k0_pay138 G) (extractStridedSlice S1x64 ![5, 0] R slices_S128x64_o5_0_S1x64) S := rfl

/-- Head 5's written columns are the common form's. -/
theorem out_5 : k0_pay154 (k0_pay151 (k0_pay132 V) (k0_pay134 (k0_pay130 Q) (k0_pay133 Q)) (k0_pay135 (k0_pay131 K)) (k0_pay136 G) (k0_pay137 B) (k0_pay141 k0_pay16 G R (k0_pay130 Q) (k0_pay131 K) (k0_pay133 Q))
      (k0_pay143 B k0_pay16 k0_pay17 k0_pay19 G R (k0_pay131 K)) (k0_pay144 B k0_pay16 k0_pay17 G R (k0_pay131 K)) (k0_pay145 B k0_pay16 k0_pay17 k0_pay19 G R (k0_pay131 K)) S) z w
    = ended (outs (k0_pay134 (k0_pay130 Q) (k0_pay133 Q)) (k0_pay135 (k0_pay131 K)) (k0_pay132 V) (k0_pay136 G) (k0_pay137 B) (extractStridedSlice S1x64 ![5, 0] R slices_S128x64_o5_0_S1x64) S) z w := rfl

/-- The mask of a chunk's steps at or before each. -/
theorem tri_at (i j : Fin 64) : (k0_pay16 : IVec S64x64 1) (ix2 i j) = if j ≤ i then 1#1 else 0#1 := by
  revert i j
  decide +kernel

/-- The mask of a chunk's steps before each. -/
theorem strict_at (i j : Fin 64) : (k0_pay17 : IVec S64x64 1) (ix2 i j) = if j < i then 1#1 else 0#1 := by
  revert i j
  decide +kernel

/-- A choice by a decided bit. -/
theorem pick {p : Prop} [Decidable p] (x y : EReal) : Scalar.select (if p then 1#1 else 0#1) x y = if p then x else y := by
  split
  · rfl
  · rfl

/-- What is left at a step of what entered at another. -/
theorem dec_at (g : FVec Ideal S64x1 .f32) (r : FVec Ideal S1x64 .f32) (i j : Fin 64) :
    dec g r (ix2 i j) = if j ≤ i then Ideal.exp (g (ix2 i 0) - r (ix2 0 j)) else 0 := by
  unfold dec
  pointwise
  simp only [tri_at, pick]
  split
  · rfl
  · rfl

/-- The products of two tables' rows. -/
theorem gram_at (a b : FVec Ideal S64x128 .f32) (i j : Fin 64) : gram a b (ix2 i j) = ∑ d : Fin 128, a (ix2 i d) * b (ix2 j d) := by
  pointwise [gram]

/-- The decayed scores within the chunk. -/
theorem att_at (q k : FVec Ideal S64x128 .f32) (D : FVec Ideal S64x64 .f32) (i j : Fin 64) :
    att q k D (ix2 i j) = if j ≤ i then (∑ d : Fin 128, q (ix2 i d) * k (ix2 j d)) * D (ix2 i j) else 0 := by
  unfold att
  pointwise
  simp only [tri_at, pick, gram_at]

/-- The negated strictly lower part of the system. -/
theorem sys_at (k : FVec Ideal S64x128 .f32) (b : FVec Ideal S64x1 .f32) (D : FVec Ideal S64x64 .f32) (i j : Fin 64) :
    sys k b D (ix2 i j) = 0 - if j < i then b (ix2 i 0) * (∑ d : Fin 128, k (ix2 i d) * k (ix2 j d)) * D (ix2 i j) else 0 := by
  unfold sys
  pointwise
  simp only [strict_at, pick, gram_at]

/-- The product of two tables at a place. -/
theorem sq_at (A B : FVec Ideal S64x64 .f32) (i j : Fin 64) : sq A B (ix2 i j) = ∑ l : Fin 64, A (ix2 i l) * B (ix2 l j) := by
  pointwise [sq]

/-- A square vector's table. -/
def tab (A : FVec Ideal S64x64 .f32) : Delta.Table := fun i j => A (ix2 i j)

/-- The product of two tables, as tables. -/
theorem tab_sq (A B : FVec Ideal S64x64 .f32) : tab (sq A B) = mm (tab A) (tab B) := by
  funext i j
  exact sq_at A B i j

/-- One doubling, as tables. -/
theorem tab_step (T Q : FVec Ideal S64x64 .f32) : (tab (addf T (sq T (sq Q Q))), tab (sq Q Q)) = double (tab T, tab Q) := by
  unfold double
  rw [← tab_sq, ← tab_sq]
  rfl

/-- The unit table. -/
theorem eye_at (i j : Fin 64) : (k0_pay19 : FVec Ideal S64x64 .f32) (ix2 i j) = Delta.unit i j := by
  have h : (cmpi .eq (iota .tc S64x64 32 [0] iota_S64x64_d0_w32) (iota .tc S64x64 32 [1] iota_S64x64_d1_w32) : IVec S64x64 1) (ix2 i j) = if i = j then 1#1 else 0#1 := by
    revert i j
    decide +kernel
  show Scalar.select ((cmpi .eq (iota .tc S64x64 32 [0] iota_S64x64_d0_w32) (iota .tc S64x64 32 [1] iota_S64x64_d1_w32) : IVec S64x64 1) (ix2 i j)) (Ideal.ofBits .f32 0x3F800000#32) (Ideal.ofBits .f32 0x00000000#32) = _
  rw [h, pick]
  unfold Delta.unit
  simp only [Ideal.ofBits_one_f32, Ideal.ofBits_zero_f32]

/-- The doublings' result, as a table. -/
theorem solved_at (P : FVec Ideal S64x64 .f32) : tab (solved P) = doublings (tab P) := by
  have e : tab (addf k0_pay19 P) = fun i j => Delta.unit i j + tab P i j := by
    funext i j
    show (k0_pay19 : FVec Ideal S64x64 .f32) (ix2 i j) + P (ix2 i j) = _
    rw [eye_at]
    rfl
  unfold doublings solved
  rw [← e, ← tab_step, ← tab_step, ← tab_step, ← tab_step, ← tab_step]

/-- The left half of the solved sides: over the values. -/
theorem sides_left (T : FVec Ideal S64x64 .f32) (v k : FVec Ideal S64x128 .f32) (g b : FVec Ideal S64x1 .f32) (i : Fin 64) (d : Fin 128) :
    sides T v k g b (ix2 i (⟨d.val, by omega⟩ : Fin 256)) = ∑ j : Fin 64, T (ix2 i j) * (v (ix2 j d) * b (ix2 j 0)) := by
  unfold sides
  pointwise [k0_pay33]

/-- The right half of the solved sides: over the decayed keys. -/
theorem sides_right (T : FVec Ideal S64x64 .f32) (v k : FVec Ideal S64x128 .f32) (g b : FVec Ideal S64x1 .f32) (i : Fin 64) (d : Fin 128) :
    sides T v k g b (ix2 i (⟨128 + d.val, by omega⟩ : Fin 256)) = ∑ j : Fin 64, T (ix2 i j) * (k (ix2 j d) * (b (ix2 j 0) * Ideal.exp (g (ix2 j 0)))) := by
  unfold sides
  pointwise [k0_pay33]

/-- The values that enter the state. -/
theorem enter_at (w : FVec Ideal S64x256 .f32) (S : Vec Ideal S1x128x128 .f32) (i : Fin 64) (d : Fin 128) :
    enter w S (ix2 i d) = w (ix2 i (⟨d.val, by omega⟩ : Fin 256)) - ∑ e : Fin 128, w (ix2 i (⟨128 + e.val, by omega⟩ : Fin 256)) * S (ix3 0 e d) := by
  unfold enter
  pointwise [k0_pay36, k0_pay35]

/-- The decayed queries over the state. -/
theorem carry_at (q : FVec Ideal S64x128 .f32) (g : FVec Ideal S64x1 .f32) (S : Vec Ideal S1x128x128 .f32) (i : Fin 64) (d : Fin 128) :
    k0_pay38 q g S (ix2 i d) = ∑ e : Fin 128, q (ix2 i e) * Ideal.exp (g (ix2 i 0)) * S (ix3 0 e d) := by
  pointwise [k0_pay38, k0_pay33, k0_pay36, k0_pay35]

/-- The scores over the entering values. -/
theorem within_at (A : FVec Ideal S64x64 .f32) (N : FVec Ideal S64x128 .bf16) (i : Fin 64) (d : Fin 128) :
    (matmul dot_S64x64_S64x128_S64x128_1_0_0_1_n_n none (truncf .bf16 A bitsLt_bf16_f32) N (constant S64x128 .f32 0x00000000#32) : FVec Ideal S64x128 .f32) (ix2 i d)
      = ∑ j : Fin 64, A (ix2 i j) * N (ix2 j d) := by
  pointwise

/-- The next state at a place. -/
theorem state_at (k : FVec Ideal S64x128 .f32) (g : FVec Ideal S64x1 .f32) (l : FVec Ideal S1x1 .f32) (S : Vec Ideal S1x128x128 .f32) (N : FVec Ideal S64x128 .bf16) (e d : Fin 128) :
    k0_pay39 l (k0_pay34 k g l) (k0_pay35 S) N (ix3 0 e d)
      = S (ix3 0 e d) * Ideal.exp (l (ix2 0 0)) + ∑ j : Fin 64, k (ix2 j e) * Ideal.exp (l (ix2 0 0) - g (ix2 j 0)) * N (ix2 j d) := by
  pointwise [k0_pay39, k0_pay34, k0_pay35]

/-- The norm, weights and gate at a place. -/
def close (o w : Fin 128 → EReal) (z : EReal) (d : Fin 128) : EReal :=
  o d * Ideal.rsqrt (Ideal.div (∑ e, o e * o e) (Ideal.ofBits .f32 0x43000000#32) + Ideal.ofBits .f32 0x358637BD#32) * w d * (z * Ideal.logistic z)

/-- The written element: the norm, weights and gate. -/
theorem ended_at (o : FVec Ideal S64x128 .f32) (z : Vec Ideal S64x128 .f32) (w : Vec Ideal S1x128 .f32) (i : Fin 64) (d : Fin 128) :
    ended o z w (ix2 i d) = close (fun e => o (ix2 i e)) (fun e => w (ix2 0 e)) (z (ix2 i d)) d := by
  unfold ended
  pointwise
  rfl

/-- A head's inputs are a chunk. -/
structure Is (C : Chunk) (q k v : FVec Ideal S64x128 .f32) (g b : FVec Ideal S64x1 .f32) (r : FVec Ideal S1x64 .f32) : Prop where
  q : ∀ i d, q (ix2 i d) = C.q i d
  k : ∀ i d, k (ix2 i d) = C.k i d
  v : ∀ i d, v (ix2 i d) = C.v i d
  g : ∀ i, g (ix2 i 0) = C.g i
  b : ∀ i, b (ix2 i 0) = C.b i
  r : ∀ j, r (ix2 0 j) = C.g j

variable {C : Chunk} {q k v : FVec Ideal S64x128 .f32} {g b : FVec Ideal S64x1 .f32} {r : FVec Ideal S1x64 .f32}

/-- The head's decays are the chunk's. -/
theorem Is.decay (h : Is C q k v g b r) (i j : Fin 64) : dec g r (ix2 i j) = C.decay i j := by
  rw [dec_at, h.g, h.r]
  rfl

/-- The head's solved system is the chunk's solution. -/
theorem Is.solved (h : Is C q k v g b r) (hC : C.Good) (i j : Fin 64) : solved (sys k b (dec g r)) (ix2 i j) = C.T i j := by
  have e : tab (sys k b (dec g r)) = C.P := by
    funext i j
    show sys k b (dec g r) (ix2 i j) = _
    rw [sys_at, h.decay, h.b]
    simp only [h.k]
    rfl
  have := congrFun (congrFun (solved_at (sys k b (dec g r))) i) j
  rw [e, hC.T_eq] at this
  exact this

/-- The values entering the head's state are the chunk's. -/
theorem Is.fresh (h : Is C q k v g b r) (hC : C.Good) (S : Vec Ideal S1x128x128 .f32) (s : St) (hs : ∀ e d, S (ix3 0 e d) = s e d) (i : Fin 64) (d : Fin 128) :
    Tie.fresh k v g b r S (ix2 i d) = C.new s i d := by
  unfold Tie.fresh
  rw [enter_at, sides_left]
  simp only [sides_right, h.solved hC, h.v, h.k, h.b, h.g, hs]
  unfold Chunk.new Chunk.u Chunk.w
  simp only [mul_assoc]

/-- The head's outputs are the chunk's. -/
theorem Is.outs (h : Is C q k v g b r) (hC : C.Good) (S : Vec Ideal S1x128x128 .f32) (s : St) (hs : ∀ e d, S (ix3 0 e d) = s e d) (i : Fin 64) (d : Fin 128) :
    Tie.outs q k v g b r S (ix2 i d) = C.out s i d := by
  unfold Tie.outs
  show k0_pay38 q g S (ix2 i d) + (matmul dot_S64x64_S64x128_S64x128_1_0_0_1_n_n none (truncf .bf16 (att q k (dec g r)) bitsLt_bf16_f32) (Tie.fresh k v g b r S) (constant S64x128 .f32 0x00000000#32) : FVec Ideal S64x128 .f32) (ix2 i d) = _
  rw [within_at, carry_at]
  simp only [att_at, h.decay, h.fresh hC S s hs, h.q, h.k, h.g, hs]
  rfl

/-- The head's next state is the chunk's. -/
theorem Is.after (h : Is C q k v g b r) (hC : C.Good) (l : FVec Ideal S1x1 .f32) (hl : l (ix2 0 0) = C.g 63) (S : Vec Ideal S1x128x128 .f32) (s : St) (hs : ∀ e d, S (ix3 0 e d) = s e d) (e d : Fin 128) :
    Tie.after k v g b l r S (ix3 0 e d) = C.next s e d := by
  unfold Tie.after
  rw [state_at]
  simp only [h.fresh hC S s hs, h.k, h.g, hs, hl]
  rfl
end Cert.GdnIdeal.Tie
end
-- ==== Proof.GdnOut.lean ====
/-
  What a grid point of the kernel leaves: the six heads' states and the block of their outputs.
-/
module

public import proofs.«01_k».proof.Proof.GdnHead
public import Idealize.ShloMosaic.Lib.Pipeline.ReadBack

@[expose] public section

set_option maxRecDepth 16384
set_option maxHeartbeats 1000000

noncomputable section

open Idealize.ShloMosaic Idealize.ShloMosaic.TcCoe Idealize.SL.Sem
open Idealize.ShloMosaic.Pipeline (Dat)

namespace Cert.GdnIdeal.Tie

open Cert.GdnIdeal Cert.GdnIdeal.Gen

/-- Writes of the scratch of rows, the last first. -/
abbrev Rows : Type := List (View.Piece (Elt Ideal) S72x768 .f32)

/-- The rows and the eight before them, written over earlier ones. -/
def over (A : FVec Ideal S64x768 .f32) (H : FVec Ideal S8x768 .f32) (L : Rows) : Rows :=
  ⟨Rect.unit ![8, 0] ![64, 768] inb_S72x768_S64x768_8_0, A⟩ :: ⟨Rect.unit ![0, 0] ![8, 768] inb_S72x768_S8x768_0_0, H⟩ :: L

section Blocks

variable (m : (ℓ : Loc nD τ sig) → Buf (Elt Ideal) ℓ) (c : Dev nD) (t : Fin cfg0.N)

/-- Whether the block is its sequence's first. -/
abbrev first : BitVec 1 := Scalar.cmpi CmpIPredicate.eq (BitVec.ofNat 32 (grid0.coords t 1).val) 0#32

/-- The scratch of rows as the queries' taps, the keys' and the values' read it. -/
def rowsQ : Rows := over (k0_pay3 (iblk m c 0 t)) (k0_pay2 (grid0.coords t) (iblk m c 4 t)) []
/-- The same for the keys. -/
def rowsK : Rows := over (k0_pay7 (iblk m c 1 t)) (k0_pay6 (first t) (iblk m c 5 t)) (rowsQ m c t)
/-- The same for the values. -/
def rowsV : Rows := over (k0_pay11 (iblk m c 2 t)) (k0_pay10 (first t) (iblk m c 6 t)) (rowsK m c t)

/-- A read of the scratch of rows. -/
abbrev rd (L : Rows) (o : ℕ) (inb : ∀ a, (![o, 0] : Fin 2 → ℕ) a + (![64, 768] : Fin 2 → ℕ) a ≤ S72x768.size a) : Vec Ideal S64x768 .f32 :=
  (View.whole cc0_scratch1).readCov (Val := Elt Ideal) L (Rect.unit (s := S72x768) ![o, 0] ![64, 768] inb).toLoadRect

/-- The queries, keys and values before the norms. -/
def qv : FVec Ideal S64x768 .f32 :=
  k0_pay5 (k0_pay4 (View.ld (iblk m c 8 t) (Rect.unit ![0, 0] ![1, 768] inb_S4x768_S1x768_0_0)) (rd (rowsQ m c t) 5 inb_S72x768_S64x768_5_0)
    (View.ld (iblk m c 8 t) (Rect.unit ![1, 0] ![1, 768] inb_S4x768_S1x768_1_0)) (rd (rowsQ m c t) 6 inb_S72x768_S64x768_6_0)
    (View.ld (iblk m c 8 t) (Rect.unit ![2, 0] ![1, 768] inb_S4x768_S1x768_2_0)) (rd (rowsQ m c t) 7 inb_S72x768_S64x768_7_0))
    (View.ld (iblk m c 8 t) (Rect.unit ![3, 0] ![1, 768] inb_S4x768_S1x768_3_0)) (k0_pay3 (iblk m c 0 t))
/-- The keys before the norms. -/
def kv : FVec Ideal S64x768 .f32 :=
  k0_pay9 (k0_pay8 (View.ld (iblk m c 9 t) (Rect.unit ![0, 0] ![1, 768] inb_S4x768_S1x768_0_0)) (rd (rowsK m c t) 5 inb_S72x768_S64x768_5_0)
    (View.ld (iblk m c 9 t) (Rect.unit ![1, 0] ![1, 768] inb_S4x768_S1x768_1_0)) (rd (rowsK m c t) 6 inb_S72x768_S64x768_6_0)
    (View.ld (iblk m c 9 t) (Rect.unit ![2, 0] ![1, 768] inb_S4x768_S1x768_2_0)) (rd (rowsK m c t) 7 inb_S72x768_S64x768_7_0))
    (View.ld (iblk m c 9 t) (Rect.unit ![3, 0] ![1, 768] inb_S4x768_S1x768_3_0)) (k0_pay7 (iblk m c 1 t))
/-- The values. -/
def vv : FVec Ideal S64x768 .f32 :=
  k0_pay13 (k0_pay12 (View.ld (iblk m c 10 t) (Rect.unit ![0, 0] ![1, 768] inb_S4x768_S1x768_0_0)) (rd (rowsV m c t) 5 inb_S72x768_S64x768_5_0)
    (View.ld (iblk m c 10 t) (Rect.unit ![1, 0] ![1, 768] inb_S4x768_S1x768_1_0)) (rd (rowsV m c t) 6 inb_S72x768_S64x768_6_0)
    (View.ld (iblk m c 10 t) (Rect.unit ![2, 0] ![1, 768] inb_S4x768_S1x768_2_0)) (rd (rowsV m c t) 7 inb_S72x768_S64x768_7_0))
    (View.ld (iblk m c 10 t) (Rect.unit ![3, 0] ![1, 768] inb_S4x768_S1x768_3_0)) (k0_pay11 (iblk m c 2 t))

/-- The gates: summed logarithms by steps, strengths, summed logarithms by heads. -/
def gv : FVec Ideal S64x128 .f32 := k0_pay20 (iblk m c 7 t) (iblk m c 11 t) (iblk m c 12 t)
/-- The strengths. -/
def bv : FVec Ideal S64x128 .f32 := k0_pay15 (iblk m c 7 t)
/-- The summed logarithms by heads. -/
def rv : FVec Ideal S128x64 .f32 := k0_pay22 k0_pay18 (k0_pay21 (iblk m c 7 t) (iblk m c 11 t) (iblk m c 12 t)) (constant S128x64 FTy.f32 0#32)

end Blocks

variable (Q K V : FVec Ideal S64x768 .f32) (G B : FVec Ideal S64x128 .f32) (R : FVec Ideal S128x64 .f32)

/-! Every head's queries, keys, values and gates. -/

/-- A head's queries. -/
def qh (h : Fin 6) : FVec Ideal S64x128 .f32 :=
  match h with
  | 0 => k0_pay24 Q
  | 1 => k0_pay45 (k0_pay41 Q) (k0_pay44 Q)
  | 2 => k0_pay68 Q
  | 3 => k0_pay87 Q
  | 4 => k0_pay108 Q
  | 5 => k0_pay134 (k0_pay130 Q) (k0_pay133 Q)

/-- A head's keys. -/
def kh (h : Fin 6) : FVec Ideal S64x128 .f32 :=
  match h with
  | 0 => k0_pay25 K
  | 1 => k0_pay46 (k0_pay42 K)
  | 2 => k0_pay70 (k0_pay66 K) (k0_pay69 K)
  | 3 => k0_pay88 K
  | 4 => k0_pay109 K
  | 5 => k0_pay135 (k0_pay131 K)

/-- A head's values. -/
def vh (h : Fin 6) : FVec Ideal S64x128 .f32 :=
  match h with
  | 0 => k0_pay23 V
  | 1 => k0_pay43 V
  | 2 => k0_pay67 V
  | 3 => k0_pay86 V
  | 4 => k0_pay107 V
  | 5 => k0_pay132 V

/-- A head's summed logarithms. -/
def gh (h : Fin 6) : FVec Ideal S64x1 .f32 :=
  match h with
  | 0 => k0_pay26 G
  | 1 => k0_pay47 G
  | 2 => k0_pay71 G
  | 3 => k0_pay89 G
  | 4 => k0_pay110 G
  | 5 => k0_pay136 G

/-- A head's strengths. -/
def bh (h : Fin 6) : FVec Ideal S64x1 .f32 :=
  match h with
  | 0 => k0_pay27 B
  | 1 => k0_pay48 B
  | 2 => k0_pay72 B
  | 3 => k0_pay90 B
  | 4 => k0_pay111 B
  | 5 => k0_pay137 B

/-- A head's last summed logarithm. -/
def lh (h : Fin 6) : FVec Ideal S1x1 .f32 :=
  match h with
  | 0 => k0_pay28 G
  | 1 => k0_pay49 G
  | 2 => k0_pay73 G
  | 3 => k0_pay91 G
  | 4 => k0_pay112 G
  | 5 => k0_pay138 G

/-- A head's summed logarithms as a row. -/
def rh (h : Fin 6) : FVec Ideal S1x64 .f32 :=
  match h with
  | 0 => extractStridedSlice S1x64 ![0, 0] R slices_S128x64_o0_0_S1x64
  | 1 => extractStridedSlice S1x64 ![1, 0] R slices_S128x64_o1_0_S1x64
  | 2 => extractStridedSlice S1x64 ![2, 0] R slices_S128x64_o2_0_S1x64
  | 3 => extractStridedSlice S1x64 ![3, 0] R slices_S128x64_o3_0_S1x64
  | 4 => extractStridedSlice S1x64 ![4, 0] R slices_S128x64_o4_0_S1x64
  | 5 => extractStridedSlice S1x64 ![5, 0] R slices_S128x64_o5_0_S1x64

/-- A head's state of the six. -/
def part (S : Vec Ideal S6x128x128 .f32) (h : Fin 6) : Vec Ideal S1x128x128 .f32 :=
  match h with
  | 0 => View.ld S (Rect.unit ![0, 0, 0] ![1, 128, 128] inb_S6x128x128_S1x128x128_0_0_0)
  | 1 => View.ld S (Rect.unit ![1, 0, 0] ![1, 128, 128] inb_S6x128x128_S1x128x128_1_0_0)
  | 2 => View.ld S (Rect.unit ![2, 0, 0] ![1, 128, 128] inb_S6x128x128_S1x128x128_2_0_0)
  | 3 => View.ld S (Rect.unit ![3, 0, 0] ![1, 128, 128] inb_S6x128x128_S1x128x128_3_0_0)
  | 4 => View.ld S (Rect.unit ![4, 0, 0] ![1, 128, 128] inb_S6x128x128_S1x128x128_4_0_0)
  | 5 => View.ld S (Rect.unit ![5, 0, 0] ![1, 128, 128] inb_S6x128x128_S1x128x128_5_0_0)

/-- A head's columns of the gate's block. -/
def zh (Z : Vec Ideal S64x768 .f32) (h : Fin 6) : Vec Ideal S64x128 .f32 :=
  match h with
  | 0 => View.ld Z (Rect.unit ![0, 0] ![64, 128] inb_S64x768_S64x128_0_0)
  | 1 => View.ld Z (Rect.unit ![0, 128] ![64, 128] inb_S64x768_S64x128_0_128)
  | 2 => View.ld Z (Rect.unit ![0, 256] ![64, 128] inb_S64x768_S64x128_0_256)
  | 3 => View.ld Z (Rect.unit ![0, 384] ![64, 128] inb_S64x768_S64x128_0_384)
  | 4 => View.ld Z (Rect.unit ![0, 512] ![64, 128] inb_S64x768_S64x128_0_512)
  | 5 => View.ld Z (Rect.unit ![0, 640] ![64, 128] inb_S64x768_S64x128_0_640)

/-- The six heads' next states. -/
def stateOf (S : Vec Ideal S6x128x128 .f32) (L : List (View.Piece (Elt Ideal) S6x128x128 .f32)) : List (View.Piece (Elt Ideal) S6x128x128 .f32) :=
  ⟨Rect.unit ![5, 0, 0] ![1, 128, 128] inb_S6x128x128_S1x128x128_5_0_0, after (kh K 5) (vh V 5) (gh G 5) (bh B 5) (lh G 5) (rh R 5) (part S 5)⟩ ::
  ⟨Rect.unit ![4, 0, 0] ![1, 128, 128] inb_S6x128x128_S1x128x128_4_0_0, after (kh K 4) (vh V 4) (gh G 4) (bh B 4) (lh G 4) (rh R 4) (part S 4)⟩ ::
  ⟨Rect.unit ![3, 0, 0] ![1, 128, 128] inb_S6x128x128_S1x128x128_3_0_0, after (kh K 3) (vh V 3) (gh G 3) (bh B 3) (lh G 3) (rh R 3) (part S 3)⟩ ::
  ⟨Rect.unit ![2, 0, 0] ![1, 128, 128] inb_S6x128x128_S1x128x128_2_0_0, after (kh K 2) (vh V 2) (gh G 2) (bh B 2) (lh G 2) (rh R 2) (part S 2)⟩ ::
  ⟨Rect.unit ![1, 0, 0] ![1, 128, 128] inb_S6x128x128_S1x128x128_1_0_0, after (kh K 1) (vh V 1) (gh G 1) (bh B 1) (lh G 1) (rh R 1) (part S 1)⟩ ::
  ⟨Rect.unit ![0, 0, 0] ![1, 128, 128] inb_S6x128x128_S1x128x128_0_0_0, after (kh K 0) (vh V 0) (gh G 0) (bh B 0) (lh G 0) (rh R 0) (part S 0)⟩ :: L

/-- The block of the six heads' outputs. -/
def blockOf (S : Vec Ideal S6x128x128 .f32) (Z : Vec Ideal S64x768 .f32) (W : Vec Ideal S1x128 .f32) : List (View.Piece (Elt Ideal) S64x768 .bf16) :=
  [⟨Rect.unit ![0, 640] ![64, 128] inb_S64x768_S64x128_0_640, ended (outs (qh Q 5) (kh K 5) (vh V 5) (gh G 5) (bh B 5) (rh R 5) (part S 5)) (zh Z 5) W⟩,
  ⟨Rect.unit ![0, 512] ![64, 128] inb_S64x768_S64x128_0_512, ended (outs (qh Q 4) (kh K 4) (vh V 4) (gh G 4) (bh B 4) (rh R 4) (part S 4)) (zh Z 4) W⟩,
  ⟨Rect.unit ![0, 384] ![64, 128] inb_S64x768_S64x128_0_384, ended (outs (qh Q 3) (kh K 3) (vh V 3) (gh G 3) (bh B 3) (rh R 3) (part S 3)) (zh Z 3) W⟩,
  ⟨Rect.unit ![0, 256] ![64, 128] inb_S64x768_S64x128_0_256, ended (outs (qh Q 2) (kh K 2) (vh V 2) (gh G 2) (bh B 2) (rh R 2) (part S 2)) (zh Z 2) W⟩,
  ⟨Rect.unit ![0, 128] ![64, 128] inb_S64x768_S64x128_0_128, ended (outs (qh Q 1) (kh K 1) (vh V 1) (gh G 1) (bh B 1) (rh R 1) (part S 1)) (zh Z 1) W⟩,
  ⟨Rect.unit ![0, 0] ![64, 128] inb_S64x768_S64x128_0_0, ended (outs (qh Q 0) (kh K 0) (vh V 0) (gh G 0) (bh B 0) (rh R 0) (part S 0)) (zh Z 0) W⟩]

variable (m : (ℓ : Loc nD τ sig) → Buf (Elt Ideal) ℓ) (c : Dev nD) (t : Fin cfg0.N)

/-- The state after a point over the state before it. -/
theorem state_next (h0 : ¬ t.val % 64 = 0) : (outsAt0 m c t.val t.isLt).2
    = View.canon (stateOf (kv m c t) (vv m c t) (gv m c t) (bv m c t) (rv m c t) (outsAt0 m c (t.val - 1) (by omega)).2 []) := by
  rw [outsAt0_B m c t h0]
  dsimp only
  generalize (outsAt0 m c (t.val - 1) (by omega)).2 = S
  frame_open
  simp (disch := decide) only [↓ View.readCov_skip, ↓ View.readCov_cons_toLoadRect, ↓ View.readCov_fill]
  frame_out
  simp only [read_unread_whole]
  unfold stateOf
  refine congrArg View.canon ?_
  refine congrArg₂ List.cons (congrArg (Sigma.mk _) (next_5 (kv m c t) (vv m c t) (gv m c t) (bv m c t) (rv m c t) _)) ?_
  refine congrArg₂ List.cons (congrArg (Sigma.mk _) (next_4 (kv m c t) (vv m c t) (gv m c t) (bv m c t) (rv m c t) _)) ?_
  refine congrArg₂ List.cons (congrArg (Sigma.mk _) (next_3 (kv m c t) (vv m c t) (gv m c t) (bv m c t) (rv m c t) _)) ?_
  refine congrArg₂ List.cons (congrArg (Sigma.mk _) (next_2 (kv m c t) (vv m c t) (gv m c t) (bv m c t) (rv m c t) _)) ?_
  refine congrArg₂ List.cons (congrArg (Sigma.mk _) (next_1 (kv m c t) (vv m c t) (gv m c t) (bv m c t) (rv m c t) _)) ?_
  refine congrArg₂ List.cons (congrArg (Sigma.mk _) (next_0 (kv m c t) (vv m c t) (gv m c t) (bv m c t) _ _ _)) ?_
  rfl

/-- The state after a sequence's first point: over zero. -/
theorem state_first (h0 : t.val % 64 = 0) : (outsAt0 m c t.val t.isLt).2
    = View.canon (stateOf (kv m c t) (vv m c t) (gv m c t) (bv m c t) (rv m c t) (k0_pay1 (F := Ideal)) [⟨Rect.unit ![0, 0, 0] ![6, 128, 128] inb_S6x128x128_S6x128x128_0_0_0, k0_pay1 (F := Ideal)⟩]) := by
  rw [outsAt0_A m c t h0]
  dsimp only
  frame_open
  simp (disch := decide) only [↓ View.readCov_skip, ↓ View.readCov_cons_toLoadRect, ↓ View.readCov_fill]
  frame_out
  unfold stateOf
  refine congrArg View.canon ?_
  refine congrArg₂ List.cons (congrArg (Sigma.mk _) (next_5 (kv m c t) (vv m c t) (gv m c t) (bv m c t) (rv m c t) _)) ?_
  refine congrArg₂ List.cons (congrArg (Sigma.mk _) (next_4 (kv m c t) (vv m c t) (gv m c t) (bv m c t) (rv m c t) _)) ?_
  refine congrArg₂ List.cons (congrArg (Sigma.mk _) (next_3 (kv m c t) (vv m c t) (gv m c t) (bv m c t) (rv m c t) _)) ?_
  refine congrArg₂ List.cons (congrArg (Sigma.mk _) (next_2 (kv m c t) (vv m c t) (gv m c t) (bv m c t) (rv m c t) _)) ?_
  refine congrArg₂ List.cons (congrArg (Sigma.mk _) (next_1 (kv m c t) (vv m c t) (gv m c t) (bv m c t) (rv m c t) _)) ?_
  refine congrArg₂ List.cons (congrArg (Sigma.mk _) (next_0 (kv m c t) (vv m c t) (gv m c t) (bv m c t) _ _ _)) ?_
  rfl

/-- A point's block over the state before it. -/
theorem block_next (h0 : ¬ t.val % 64 = 0) : (outsAt0 m c t.val t.isLt).1
    = View.canon (blockOf (qv m c t) (kv m c t) (vv m c t) (gv m c t) (bv m c t) (rv m c t) (outsAt0 m c (t.val - 1) (by omega)).2 (iblk m c 3 t) (iblk m c 13 t)) := by
  rw [outsAt0_B m c t h0]
  dsimp only
  generalize (outsAt0 m c (t.val - 1) (by omega)).2 = S
  frame_open
  simp (disch := decide) only [↓ View.readCov_skip, ↓ View.readCov_cons_toLoadRect, ↓ View.readCov_fill]
  frame_out
  simp only [read_unread_whole]
  unfold blockOf
  refine congrArg View.canon ?_
  refine congrArg₂ List.cons (congrArg (Sigma.mk _) (out_5 (qv m c t) (kv m c t) (vv m c t) (gv m c t) (bv m c t) (rv m c t) _ _ _)) ?_
  refine congrArg₂ List.cons (congrArg (Sigma.mk _) (out_4 (qv m c t) (kv m c t) (vv m c t) (gv m c t) (bv m c t) (rv m c t) _ _ _)) ?_
  refine congrArg₂ List.cons (congrArg (Sigma.mk _) (out_3 (qv m c t) (kv m c t) (vv m c t) (gv m c t) (bv m c t) (rv m c t) _ _ _)) ?_
  refine congrArg₂ List.cons (congrArg (Sigma.mk _) (out_2 (qv m c t) (kv m c t) (vv m c t) (gv m c t) (bv m c t) (rv m c t) _ _ _)) ?_
  refine congrArg₂ List.cons (congrArg (Sigma.mk _) (out_1 (qv m c t) (kv m c t) (vv m c t) (gv m c t) (bv m c t) (rv m c t) _ _ _)) ?_
  refine congrArg₂ List.cons (congrArg (Sigma.mk _) (out_0 (qv m c t) (kv m c t) (vv m c t) (gv m c t) (bv m c t) _ _ _ _ _)) ?_
  rfl

/-- The block of a sequence's first point. -/
theorem block_first (h0 : t.val % 64 = 0) : (outsAt0 m c t.val t.isLt).1
    = View.canon (blockOf (qv m c t) (kv m c t) (vv m c t) (gv m c t) (bv m c t) (rv m c t) (k0_pay1 (F := Ideal)) (iblk m c 3 t) (iblk m c 13 t)) := by
  rw [outsAt0_A m c t h0]
  dsimp only
  frame_open
  simp (disch := decide) only [↓ View.readCov_skip, ↓ View.readCov_cons_toLoadRect, ↓ View.readCov_fill]
  frame_out
  unfold blockOf
  refine congrArg View.canon ?_
  refine congrArg₂ List.cons (congrArg (Sigma.mk _) (out_5 (qv m c t) (kv m c t) (vv m c t) (gv m c t) (bv m c t) (rv m c t) _ _ _)) ?_
  refine congrArg₂ List.cons (congrArg (Sigma.mk _) (out_4 (qv m c t) (kv m c t) (vv m c t) (gv m c t) (bv m c t) (rv m c t) _ _ _)) ?_
  refine congrArg₂ List.cons (congrArg (Sigma.mk _) (out_3 (qv m c t) (kv m c t) (vv m c t) (gv m c t) (bv m c t) (rv m c t) _ _ _)) ?_
  refine congrArg₂ List.cons (congrArg (Sigma.mk _) (out_2 (qv m c t) (kv m c t) (vv m c t) (gv m c t) (bv m c t) (rv m c t) _ _ _)) ?_
  refine congrArg₂ List.cons (congrArg (Sigma.mk _) (out_1 (qv m c t) (kv m c t) (vv m c t) (gv m c t) (bv m c t) (rv m c t) _ _ _)) ?_
  refine congrArg₂ List.cons (congrArg (Sigma.mk _) (out_0 (qv m c t) (kv m c t) (vv m c t) (gv m c t) (bv m c t) _ _ _ _ _)) ?_
  rfl

end Cert.GdnIdeal.Tie

end
-- ==== Proof.GdnRun.lean ====
/-
  The reference's loop over the chunks: the state it starts from and one trip, as functions of the arguments.

  The 63 sweeps that solve the chunks' triangular systems are one function of the system, over all chunks at once.
-/
module

public import proofs.«01_k».proof.Proof.Gen.GdnRefIdeal.Run
public import proofs.«01_k».proof.Proof.Gen.GdnRefIdeal.Step
public import Idealize.ShloMosaic.Lib.Claim
public import Idealize.ShloMosaic.Lib.Pipeline.ValueKit

@[expose] public section

noncomputable section

open Idealize.ShloMosaic Idealize.ShloMosaic.TcCoe Idealize.SL.Sem Idealize.ShloMosaic.StableHlo

namespace Cert.GdnRefIdeal.Tie

open Cert.GdnRefIdeal Cert.GdnRefIdeal.Gen

/-- The unit table on every chunk, as the sweeps subtract from it. -/
def eyes : FVec Ideal S4x6x64x64x64 .f32 :=
  broadcastInDim S4x6x64x64x64 ![0, 1, 2, 3, 4] bcast_S1x1x1x64x64_S4x6x64x64x64_0_1_2_3_4 (broadcastInDim S1x1x1x64x64 ![3, 4] bcast_S64x64_S1x1x1x64x64_3_4
    (uitofp FTy.f32 (cmpi CmpIPredicate.eq (addi (iotaInDim S64x64 32 0) (broadcastInDim S64x64 ![] bcast_S_S64x64 (constantI S_ 32 0#32))) (iotaInDim S64x64 32 1))))

/-- The solution of every chunk's system `M` after `n` sweeps. -/
def sweepsAll (M : FVec Ideal S4x6x64x64x64 .f32) : ℕ → FVec Ideal S4x6x64x64x64 .f32
  | 0 => broadcastInDim S4x6x64x64x64 ![3, 4] bcast_S64x64_S4x6x64x64x64_3_4
      (uitofp FTy.f32 (cmpi CmpIPredicate.eq (addi (iotaInDim S64x64 32 0) (broadcastInDim S64x64 ![] bcast_S_S64x64 (constantI S_ 32 0#32))) (iotaInDim S64x64 32 1)))
  | n + 1 => subf eyes (Host.dotGeneral dot_S4x6x64x64x64_S4x6x64x64x64_S4x6x64x64x64_4_3_3_4_012_012 none M (sweepsAll M n))

/-- What a value of every chunk and step is multiplied by, on every column. -/
def onColumns (g : FVec Ideal S4x6x64x64 .f32) : FVec Ideal S4x6x64x64x128 .f32 :=
  broadcastInDim S4x6x64x64x128 ![0, 1, 2, 3, 4] bcast_S4x6x64x64x1_S4x6x64x64x128_0_1_2_3_4 (broadcastInDim S4x6x64x64x1 ![0, 1, 2, 3] bcast_S4x6x64x64_S4x6x64x64x1_0_1_2_3 g)

/-- The chunks first. -/
def chunksFirst (x : FVec Ideal S4x6x64x64x128 .f32) : FVec Ideal S64x4x6x64x128 .f32 :=
  transpose S64x4x6x64x128 [2, 0, 1, 3, 4] x transposes_S4x6x64x64x128_S64x4x6x64x128_2_0_1_3_4

/-- The last step's logarithm of every chunk. -/
def lasts (g : FVec Ideal S4x6x64x64 .f32) : FVec Ideal S4x6x64 .f32 :=
  shapeCast _ (extractStridedSlice S4x6x64x1 ![0, 0, 0, 63] g slices_S4x6x64x64_S4x6x64x1_0_0_0_63) shapeCasts_S4x6x64x1_S4x6x64

/-- The decay from every step to its chunk's end, before the exponential. -/
def toEnd (g : FVec Ideal S4x6x64x64 .f32) : FVec Ideal S4x6x64x64 .f32 :=
  subf (broadcastInDim S4x6x64x64 ![0, 1, 2, 3] bcast_S4x6x64x1_S4x6x64x64_0_1_2_3 (broadcastInDim S4x6x64x1 ![0, 1, 2] bcast_S4x6x64_S4x6x64x1_0_1_2 (lasts g))) g

/-- The masked and decayed scores within every chunk. -/
def scores (tri : IVec S64x64 1) (q k : FVec Ideal S4x6x64x64x128 .f32) (d : FVec Ideal S4x6x64x64x64 .f32) : FVec Ideal S4x6x64x64x64 .f32 :=
  select (broadcastInDim S4x6x64x64x64 ![3, 4] bcast_S64x64_S4x6x64x64x64_3_4 tri)
    (mulf (Host.dotGeneral dot_S4x6x64x64x128_S4x6x64x64x128_S4x6x64x64x64_4_4_3_3_012_012 none q k) d)
    (broadcastInDim S4x6x64x64x64 ![] bcast_S_S4x6x64x64x64 (constant S_ .f32 0x00000000#32))

/-- The contents after the operations from the sweeps on. -/
abbrev tail (V : Valuation τ sig (Elt Ideal)) : Valuation τ sig (Elt Ideal) := after hostOps0_20 (after hostOps0_19 (after hostOps0_18 V))

variable (V : Valuation τ sig (Elt Ideal))

set_option maxRecDepth 65536
set_option maxHeartbeats 5500000

/-- The queries that read the state, over the contents before the sweeps. -/
theorem tail_q : tail V (Proc.devRef .tc main_v396_0) = chunksFirst (mulf (V (Proc.devRef .tc main_v76) : FVec Ideal S4x6x64x64x128 .f32)
    (onColumns (Host.exp (V (Proc.devRef .tc main_v83) : FVec Ideal S4x6x64x64 .f32)))) := by
  unfold tail
  after_reads_simp
  rfl

/-- The keys that write the state, over the contents before the sweeps. -/
theorem tail_k : tail V (Proc.devRef .tc main_v396_1) = chunksFirst (mulf (V (Proc.devRef .tc main_v78) : FVec Ideal S4x6x64x64x128 .f32)
    (onColumns (Host.exp (toEnd (V (Proc.devRef .tc main_v83)))))) := by
  unfold tail
  after_reads_simp
  rfl

/-- The values that would enter an empty state, over the contents before the sweeps. -/
theorem tail_u : tail V (Proc.devRef .tc main_v396_2) = chunksFirst (Host.dotGeneral (φ₁ := .f32) (φ₂ := .f32) dot_S4x6x64x64x64_S4x6x64x64x128_S4x6x64x64x128_4_3_3_4_012_012 none
    (sweepsAll (V (Proc.devRef .tc main_v106)) 63) (V (Proc.devRef .tc main_v103))) := by
  unfold tail
  after_reads_simp
  simp only [sweepsAll, eyes]
  rfl

/-- What reads the state off the entering values, over the contents before the sweeps. -/
theorem tail_w : tail V (Proc.devRef .tc main_v396_3) = chunksFirst (Host.dotGeneral (φ₁ := .f32) (φ₂ := .f32) dot_S4x6x64x64x64_S4x6x64x64x128_S4x6x64x64x128_4_3_3_4_012_012 none
    (sweepsAll (V (Proc.devRef .tc main_v106)) 63) (mulf (V (Proc.devRef .tc main_v100) : FVec Ideal S4x6x64x64x128 .f32)
    (onColumns (Host.exp (V (Proc.devRef .tc main_v83) : FVec Ideal S4x6x64x64 .f32))))) := by
  unfold tail
  after_reads_simp
  simp only [sweepsAll, eyes]
  rfl

/-- The scores, over the contents before the sweeps. -/
theorem tail_attn : tail V (Proc.devRef .tc main_v396_4) = transpose S64x4x6x64x64 [2, 0, 1, 3, 4]
    (scores (V (Proc.devRef .tc main_v87)) (V (Proc.devRef .tc main_v76)) (V (Proc.devRef .tc main_v78)) (V (Proc.devRef .tc main_v97)))
    transposes_S4x6x64x64x64_S64x4x6x64x64_2_0_1_3_4 := by
  unfold tail
  after_reads_simp
  rfl

/-- The last step's logarithms, over the contents before the sweeps. -/
theorem tail_last : tail V (Proc.devRef .tc main_v396_5) = transpose S64x4x6 [2, 0, 1] (lasts (V (Proc.devRef .tc main_v83))) transposes_S4x6x64_S64x4x6_2_0_1 := by
  unfold tail
  after_reads_simp
  rfl

/-- The states start from zero. -/
theorem tail_state : tail V (Proc.devRef .tc main_v396_7) = Step.K_main_v394 := by
  unfold tail
  after_reads_simp
  rfl

/-- The outputs start from zero. -/
theorem tail_out : tail V (Proc.devRef .tc main_v396_8) = Step.K_main_v395 := by
  unfold tail
  after_reads_simp
  rfl

/-- The trip's number starts from zero. -/
theorem tail_number : tail V (Proc.devRef .tc main_v396_6) = constantI S_ 32 0#32 := by
  unfold tail
  after_reads_simp
  rfl

/-- The contents after the convolution. -/
abbrev conv : Valuation τ sig (Elt Ideal) := after hostOps0_3 (after hostOps0_2 (after hostOps0_1 (after hostOps0 V)))
/-- The contents after the projections' normalizations and the gates. -/
abbrev proj : Valuation τ sig (Elt Ideal) := after hostOps0_7 (after hostOps0_6 (after hostOps0_5 (after hostOps0_4 V)))
/-- The contents before the sweeps, from the gates on. -/
abbrev mid : Valuation τ sig (Elt Ideal) :=
  after hostOps0_17 (after hostOps0_16 (after hostOps0_15 (after hostOps0_14 (after hostOps0_13 (after hostOps0_12 (after hostOps0_11 (after hostOps0_10 (after hostOps0_9 (after hostOps0_8 V)))))))))

/-- The rows of the channels that the convolution takes, three rows of zeros before each sequence. -/
def padded (p : FVec Ideal S16384x4608 .f32) : FVec Ideal S4x4099x2304 .f32 :=
  pad S4x4099x2304 ![0, 3, 0] ![0, 0, 0] ![0, 0, 0] (extractStridedSlice S4x4096x2304 ![0, 0, 1536] (shapeCast S4x4096x4608 p shapeCasts_S16384x4608_S4x4096x4608) slices_S4x4096x4608_S4x4096x2304_0_0_1536)
    (sitofp .f32 (constantI S_ 32 0#32)) pads_S4x4096x2304_S4x4099x2304_000_300_000 h_S_

/-- One tap's weights on every row. -/
def taps (w : FVec Ideal S1x2304 .f32) : FVec Ideal S4x4096x2304 .f32 :=
  broadcastInDim S4x4096x2304 ![0, 1, 2] bcast_S1x1x2304_S4x4096x2304_0_1_2 (broadcastInDim S1x1x2304 ![2] bcast_S2304_S1x1x2304_2 (shapeCast S2304 w shapeCasts_S1x2304_S2304))

/-- The four taps' sum. -/
def tapped (p : FVec Ideal S16384x4608 .f32) (w : FVec Ideal S4x2304 .f32) : FVec Ideal S4x4096x2304 .f32 :=
  addf (addf (addf (addf (broadcastInDim S4x4096x2304 ![] bcast_S_S4x4096x2304 (constant S_ .f32 0x00000000#32))
    (mulf (taps (extractStridedSlice S1x2304 ![0, 0] w slices_S4x2304_S1x2304_0_0)) (extractStridedSlice S4x4096x2304 ![0, 0, 0] (padded p) slices_S4x4099x2304_S4x4096x2304_0_0_0)))
    (mulf (taps (extractStridedSlice S1x2304 ![1, 0] w slices_S4x2304_S1x2304_1_0)) (extractStridedSlice S4x4096x2304 ![0, 1, 0] (padded p) slices_S4x4099x2304_S4x4096x2304_0_1_0)))
    (mulf (taps (extractStridedSlice S1x2304 ![2, 0] w slices_S4x2304_S1x2304_2_0)) (extractStridedSlice S4x4096x2304 ![0, 2, 0] (padded p) slices_S4x4099x2304_S4x4096x2304_0_2_0)))
    (mulf (taps (extractStridedSlice S1x2304 ![3, 0] w slices_S4x2304_S1x2304_3_0)) (extractStridedSlice S4x4096x2304 ![0, 3, 0] (padded p) slices_S4x4099x2304_S4x4096x2304_0_3_0))

/-- Every element times its logistic. -/
def silu (x : FVec Ideal S4x4096x2304 .f32) : FVec Ideal S4x4096x2304 .f32 :=
  mulf x (Host.divf (broadcastInDim S4x4096x2304 ![] bcast_S_S4x4096x2304 (constant S_ .f32 0x3F800000#32))
    (addf (broadcastInDim S4x4096x2304 ![] bcast_S_S4x4096x2304 (constant S_ .f32 0x3F800000#32)) (Host.exp (Host.negf x))))

/-- A third of the channels by heads. -/
def heads (x : FVec Ideal S4x4096x768 .f32) : FVec Ideal S4x4096x6x128 .f32 := shapeCast _ x shapeCasts_S4x4096x768_S4x4096x6x128

/-- Every head's row over its length. -/
def normed (h : FVec Ideal S4x4096x6x128 .f32) : FVec Ideal S4x4096x6x128 .f32 :=
  mulf h (broadcastInDim S4x4096x6x128 ![0, 1, 2, 3] bcast_S4x4096x6x1_S4x4096x6x128_0_1_2_3 (Host.rsqrt (addf
    (broadcastInDim S4x4096x6x1 ![0, 1, 2] bcast_S4x4096x6_S4x4096x6x1_0_1_2 (Host.reduceAdd (mulf h h) (constant S_ .f32 0x00000000#32) reducesTo_S4x4096x6x128_S4x4096x6_d3 h_S_))
    (broadcastInDim S4x4096x6x1 ![] bcast_S_S4x4096x6x1 (constant S_ .f32 0x358637BD#32)))))

/-- Heads by chunks. -/
def byChunk (h : FVec Ideal S4x4096x6x128 .f32) : FVec Ideal S4x6x64x64x128 .f32 :=
  transpose S4x6x64x64x128 [0, 3, 1, 2, 4] (shapeCast S4x64x64x6x128 h shapeCasts_S4x4096x6x128_S4x64x64x6x128) transposes_S4x64x64x6x128_S4x6x64x64x128_0_3_1_2_4

/-- One value per head by chunks. -/
def byChunk1 (h : FVec Ideal S4x4096x6 .f32) : FVec Ideal S4x6x64x64 .f32 :=
  transpose S4x6x64x64 [0, 3, 1, 2] (shapeCast S4x64x64x6 h shapeCasts_S4x4096x6_S4x64x64x6) transposes_S4x64x64x6_S4x6x64x64_0_3_1_2

/-- The queries of every chunk. -/
def queries (x : FVec Ideal S4x4096x2304 .f32) : FVec Ideal S4x6x64x64x128 .f32 :=
  mulf (byChunk (normed (heads (extractStridedSlice S4x4096x768 ![0, 0, 0] x slices_S4x4096x2304_S4x4096x768_0_0_0))))
    (broadcastInDim S4x6x64x64x128 ![] bcast_S_S4x6x64x64x128 (constant S_ .f32 0x3DB504F3#32))
/-- The keys of every chunk. -/
def keys (x : FVec Ideal S4x4096x2304 .f32) : FVec Ideal S4x6x64x64x128 .f32 :=
  byChunk (normed (heads (extractStridedSlice S4x4096x768 ![0, 0, 768] x slices_S4x4096x2304_S4x4096x768_0_0_768)))
/-- The values of every chunk. -/
def values (x : FVec Ideal S4x4096x2304 .f32) : FVec Ideal S4x6x64x64x128 .f32 :=
  byChunk (heads (extractStridedSlice S4x4096x768 ![0, 0, 1536] x slices_S4x4096x2304_S4x4096x768_0_0_1536))

/-- The gates by sequence. -/
def gateRows (z : FVec Ideal S16384x128 .f32) : FVec Ideal S4x4096x128 .f32 := shapeCast _ z shapeCasts_S16384x128_S4x4096x128

/-- The softplus, element by element. -/
def softplus (z : FVec Ideal S4x4096x6 .f32) : FVec Ideal S4x4096x6 .f32 :=
  let o : FVec Ideal S4x4096x6 .f32 := broadcastInDim S4x4096x6 ![] bcast_S_S4x4096x6 (constant S_ .f32 0x00000000#32)
  select (cmpf .une (subf z o) (subf z o)) (addf z o) (addf (maximumf z o) (Host.log1p (Host.exp (Host.negf (Host.absf (subf z o))))))

/-- A value per head on every row. -/
def onRows (a : FVec Ideal S6 .f32) : FVec Ideal S4x4096x6 .f32 :=
  broadcastInDim S4x4096x6 ![0, 1, 2] bcast_S1x1x6_S4x4096x6_0_1_2 (broadcastInDim S1x1x6 ![2] bcast_S6_S1x1x6_2 a)

/-- The logarithm of every step's decay. -/
def logs (z : FVec Ideal S16384x128 .f32) (a d : FVec Ideal S6 .f32) : FVec Ideal S4x6x64x64 .f32 :=
  byChunk1 (mulf (onRows (Host.negf (Host.exp a))) (softplus (addf (extractStridedSlice S4x4096x6 ![0, 0, 0] (gateRows z) slices_S4x4096x128_S4x4096x6_0_0_0) (onRows d))))

/-- The sums of a chunk's entries up to each. -/
def upTo (l : FVec Ideal S4x6x64x64 .f32) : FVec Ideal S4x6x64x64 .f32 :=
  Host.reduceWindowAdd ![1, 1, 1, 64] ![1, 1, 1, 1] ![0, 0, 0, 63] ![0, 0, 0, 0] l (broadcastInDim S_ ![] bcast_S_S_ (constant (F := Ideal) S_ .f32 0x00000000#32))
    reduceWindows_S4x6x64x64_S4x6x64x64_w1s1p0_0_w1s1p0_0_w1s1p0_0_w64s1p63_0 h_S_

/-- The strength of every step. -/
def strengths (z : FVec Ideal S16384x128 .f32) : FVec Ideal S4x4096x6 .f32 :=
  Host.divf (broadcastInDim S4x4096x6 ![] bcast_S_S4x4096x6 (constant S_ .f32 0x3F800000#32))
    (addf (broadcastInDim S4x4096x6 ![] bcast_S_S4x4096x6 (constant S_ .f32 0x3F800000#32)) (Host.exp (Host.negf (extractStridedSlice S4x4096x6 ![0, 0, 6] (gateRows z) slices_S4x4096x128_S4x4096x6_0_0_6))))

/-- A mask on every chunk. -/
def onChunks (tri : IVec S64x64 1) : IVec S4x6x64x64x64 1 := broadcastInDim S4x6x64x64x64 ![3, 4] bcast_S64x64_S4x6x64x64x64_3_4 tri
/-- Zero tables. -/
def noughts : FVec Ideal S4x6x64x64x64 .f32 := broadcastInDim S4x6x64x64x64 ![] bcast_S_S4x6x64x64x64 (constant S_ .f32 0x00000000#32)

/-- The decay between every two steps of a chunk. -/
def decays (g : FVec Ideal S4x6x64x64 .f32) : FVec Ideal S4x6x64x64x64 .f32 :=
  select (onChunks (Step.K_main_v87 (F := Ideal))) (Host.exp (select (onChunks (Step.K_main_v87 (F := Ideal))) (subf
    (broadcastInDim S4x6x64x64x64 ![0, 1, 2, 3, 4] bcast_S4x6x64x64x1_S4x6x64x64x64_0_1_2_3_4 (broadcastInDim S4x6x64x64x1 ![0, 1, 2, 3] bcast_S4x6x64x64_S4x6x64x64x1_0_1_2_3 g))
    (broadcastInDim S4x6x64x64x64 ![0, 1, 2, 3, 4] bcast_S4x6x64x1x64_S4x6x64x64x64_0_1_2_3_4 (broadcastInDim S4x6x64x1x64 ![0, 1, 2, 4] bcast_S4x6x64x64_S4x6x64x1x64_0_1_2_4 g)))
    noughts)) noughts

/-- The system of every chunk. -/
def systems (k : FVec Ideal S4x6x64x64x128 .f32) (g b : FVec Ideal S4x6x64x64 .f32) : FVec Ideal S4x6x64x64x64 .f32 :=
  select (onChunks (Step.K_main_v89 (F := Ideal))) (mulf (Host.dotGeneral (φ₁ := .f32) (φ₂ := .f32) dot_S4x6x64x64x128_S4x6x64x64x128_S4x6x64x64x64_4_4_3_3_012_012 none (mulf k (onColumns b)) k) (decays g)) noughts

/-- The convolution's result. -/
theorem conv_x : conv V (Proc.devRef .tc main_v32) = silu (tapped (V (Proc.devRef .tc main_arg0)) (V (Proc.devRef .tc main_arg2))) := by
  unfold conv
  after_reads_simp
  rfl
/-- The first lines leave this argument as it was. -/
theorem conv_1 : conv V (Proc.devRef .tc main_arg1) = V (Proc.devRef .tc main_arg1) := by
  unfold conv
  after_reads_simp
/-- The first lines leave this argument as it was. -/
theorem conv_3 : conv V (Proc.devRef .tc main_arg3) = V (Proc.devRef .tc main_arg3) := by
  unfold conv
  after_reads_simp
/-- The first lines leave this argument as it was. -/
theorem conv_4 : conv V (Proc.devRef .tc main_arg4) = V (Proc.devRef .tc main_arg4) := by
  unfold conv
  after_reads_simp

/-- What the projections' lines leave in this array. -/
theorem proj_q : proj V (Proc.devRef .tc main_v76) = queries (V (Proc.devRef .tc main_v32)) := by
  unfold proj
  after_reads_simp
  rfl
/-- What the projections' lines leave in this array. -/
theorem proj_k : proj V (Proc.devRef .tc main_v78) = keys (V (Proc.devRef .tc main_v32)) := by
  unfold proj
  after_reads_simp
  rfl
/-- What the projections' lines leave in this array. -/
theorem proj_v : proj V (Proc.devRef .tc main_v80) = values (V (Proc.devRef .tc main_v32)) := by
  unfold proj
  after_reads_simp
  rfl
/-- What the projections' lines leave in this array. -/
theorem proj_g : proj V (Proc.devRef .tc main_v83) = upTo (logs (V (Proc.devRef .tc main_arg1)) (V (Proc.devRef .tc main_arg3)) (V (Proc.devRef .tc main_arg4))) := by
  unfold proj
  after_reads_simp
  rfl
/-- What the projections' lines leave in this array. -/
theorem proj_b : proj V (Proc.devRef .tc main_v72) = strengths (V (Proc.devRef .tc main_arg1)) := by
  unfold proj
  after_reads_simp
  rfl

/-- What the systems' lines leave in this array. -/
theorem mid_q : mid V (Proc.devRef .tc main_v76) = V (Proc.devRef .tc main_v76) := by
  unfold mid
  after_reads_simp
/-- What the systems' lines leave in this array. -/
theorem mid_k : mid V (Proc.devRef .tc main_v78) = V (Proc.devRef .tc main_v78) := by
  unfold mid
  after_reads_simp
/-- What the systems' lines leave in this array. -/
theorem mid_g : mid V (Proc.devRef .tc main_v83) = V (Proc.devRef .tc main_v83) := by
  unfold mid
  after_reads_simp
/-- What the systems' lines leave in this array. -/
theorem mid_dec : mid V (Proc.devRef .tc main_v97) = decays (V (Proc.devRef .tc main_v83)) := by
  unfold mid
  after_reads_simp
  rfl
/-- What the systems' lines leave in this array. -/
theorem mid_kb : mid V (Proc.devRef .tc main_v100) = mulf (V (Proc.devRef .tc main_v78) : FVec Ideal S4x6x64x64x128 .f32) (onColumns (byChunk1 (V (Proc.devRef .tc main_v72)))) := by
  unfold mid
  after_reads_simp
  rfl
/-- What the systems' lines leave in this array. -/
theorem mid_vb : mid V (Proc.devRef .tc main_v103) = mulf (V (Proc.devRef .tc main_v80) : FVec Ideal S4x6x64x64x128 .f32) (onColumns (byChunk1 (V (Proc.devRef .tc main_v72)))) := by
  unfold mid
  after_reads_simp
  rfl
/-- The contents before the systems. -/
abbrev mid0 : Valuation τ sig (Elt Ideal) :=
  after hostOps0_15 (after hostOps0_14 (after hostOps0_13 (after hostOps0_12 (after hostOps0_11 (after hostOps0_10 (after hostOps0_9 (after hostOps0_8 V)))))))
/-- What the first of the systems' lines leave in this array. -/
theorem mid0_k : mid0 V (Proc.devRef .tc main_v78) = V (Proc.devRef .tc main_v78) := by
  unfold mid0
  after_reads_simp
/-- What the first of the systems' lines leave in this array. -/
theorem mid0_dec : mid0 V (Proc.devRef .tc main_v97) = decays (V (Proc.devRef .tc main_v83)) := by
  unfold mid0
  after_reads_simp
  rfl
/-- What the first of the systems' lines leave in this array. -/
theorem mid0_b : mid0 V (Proc.devRef .tc main_v85) = byChunk1 (V (Proc.devRef .tc main_v72)) := by
  unfold mid0
  after_reads_simp
  rfl
/-- Storing a mask keeps it. -/
theorem toBuf_id (v : IVec S64x64 1) : ((TRef.of main_v89 : TRef sig ⟨S64x64, .i1⟩).toBuf (Val := Elt Ideal) v) = v := rfl
/-- Loading a mask keeps it. -/
theorem ofBuf_id (v : IVec S64x64 1) : ((TRef.of main_v88 : TRef sig ⟨S64x64, .i1⟩).ofBuf (Val := Elt Ideal) v) = v := rfl
/-- What the first of the systems' lines leave in this array. -/
theorem mid0_strict : mid0 V (Proc.devRef .tc main_v89) = Step.K_main_v89 (F := Ideal) := by
  unfold mid0
  after_reads_simp
  simp only [TRef.ofBuf_toBuf]
  unfold Step.K_main_v89 Step.K_main_call5_v4 Step.K_main_call5_v2 Step.K_main_call5_v1 Step.K_main_call5_c
  exact (toBuf_id _).trans (congrArg (fun x => select _ x _) (ofBuf_id _))
/-- The systems after the last lines of their part. -/
theorem last_sys : after hostOps0_17 (after hostOps0_16 V) (Proc.devRef .tc main_v106) = select (onChunks (V (Proc.devRef .tc main_v89)))
    (mulf (Host.dotGeneral (φ₁ := .f32) (φ₂ := .f32) dot_S4x6x64x64x128_S4x6x64x64x128_S4x6x64x64x64_4_4_3_3_012_012 none
      (mulf (V (Proc.devRef .tc main_v78) : FVec Ideal S4x6x64x64x128 .f32) (onColumns (V (Proc.devRef .tc main_v85)))) (V (Proc.devRef .tc main_v78)))
      (V (Proc.devRef .tc main_v97))) noughts := by
  after_reads_simp
  rfl
/-- What the systems' lines leave in this array. -/
theorem mid_sys : mid V (Proc.devRef .tc main_v106) = systems (V (Proc.devRef .tc main_v78)) (V (Proc.devRef .tc main_v83)) (byChunk1 (V (Proc.devRef .tc main_v72))) := by
  show after hostOps0_17 (after hostOps0_16 (mid0 V)) (Proc.devRef .tc main_v106) = _
  rw [last_sys, mid0_k, mid0_dec, mid0_b, mid0_strict]
  rfl
/-- What the systems' lines leave in this array. -/
theorem mid_tri : mid V (Proc.devRef .tc main_v87) = (Step.K_main_v87 (F := Ideal)) := by
  unfold mid
  after_reads_simp
  rfl

/-- A chunk's slice of five-axis values at the loop's number. -/
def cut (n : IVec S_ 32) (x : FVec Ideal S64x4x6x64x128 .f32) : FVec Ideal S4x6x64x128 .f32 :=
  shapeCast S4x6x64x128 (Host.dynamicSlice S1x4x6x64x128 x (fun k => (((![n, constantI S_ 32 0#32, constantI S_ 32 0#32, constantI S_ 32 0#32, constantI S_ 32 0#32] : Fin 5 → (⟨S_, .i32⟩ : BufTy).Contents (Elt Ideal))) k (Shape.Idx.first h_S_)).toInt) sliceFits_S64x4x6x64x128_S1x4x6x64x128) shapeCasts_S1x4x6x64x128_S4x6x64x128
/-- A chunk of the tables. -/
def cutT (n : IVec S_ 32) (x : FVec Ideal S64x4x6x64x64 .f32) : FVec Ideal S4x6x64x64 .f32 :=
  shapeCast S4x6x64x64 (Host.dynamicSlice S1x4x6x64x64 x (fun k => (((![n, constantI S_ 32 0#32, constantI S_ 32 0#32, constantI S_ 32 0#32, constantI S_ 32 0#32] : Fin 5 → (⟨S_, .i32⟩ : BufTy).Contents (Elt Ideal))) k (Shape.Idx.first h_S_)).toInt) sliceFits_S64x4x6x64x64_S1x4x6x64x64) shapeCasts_S1x4x6x64x64_S4x6x64x64
/-- A chunk of the last logarithms. -/
def cutG (n : IVec S_ 32) (x : FVec Ideal S64x4x6 .f32) : FVec Ideal S4x6 .f32 :=
  shapeCast S4x6 (Host.dynamicSlice S1x4x6 x (fun k => (((![n, constantI S_ 32 0#32, constantI S_ 32 0#32] : Fin 3 → (⟨S_, .i32⟩ : BufTy).Contents (Elt Ideal))) k (Shape.Idx.first h_S_)).toInt) sliceFits_S64x4x6_S1x4x6) shapeCasts_S1x4x6_S4x6

/-- The values that enter the state. -/
def entering (u w : FVec Ideal S4x6x64x128 .f32) (S : FVec Ideal S4x6x128x128 .f32) : FVec Ideal S4x6x64x128 .f32 :=
  subf u (Host.dotGeneral (φ₁ := .f32) (φ₂ := .f32) dot_S4x6x64x128_S4x6x128x128_S4x6x64x128_3_2_2_3_01_01 none w S)

/-- The state after a chunk. -/
def nextAll (S : FVec Ideal S4x6x128x128 .f32) (l : FVec Ideal S4x6 .f32) (k e : FVec Ideal S4x6x64x128 .f32) : FVec Ideal S4x6x128x128 .f32 :=
  addf (mulf S (broadcastInDim S4x6x128x128 ![0, 1, 2, 3] bcast_S4x6x1x1_S4x6x128x128_0_1_2_3 (broadcastInDim S4x6x1x1 ![0, 1] bcast_S4x6_S4x6x1x1_0_1 (Host.exp l))))
    (Host.dotGeneral (φ₁ := .f32) (φ₂ := .f32) dot_S4x6x128x64_S4x6x64x128_S4x6x128x128_3_2_2_3_01_01 none (transpose S4x6x128x64 [0, 1, 3, 2] k transposes_S4x6x64x128_S4x6x128x64_0_1_3_2) e)

/-- A chunk's outputs. -/
def outAll (q : FVec Ideal S4x6x64x128 .f32) (S : FVec Ideal S4x6x128x128 .f32) (a : FVec Ideal S4x6x64x64 .f32) (e : FVec Ideal S4x6x64x128 .f32) : FVec Ideal S4x6x64x128 .f32 :=
  addf (Host.dotGeneral (φ₁ := .f32) (φ₂ := .f32) dot_S4x6x64x128_S4x6x128x128_S4x6x64x128_3_2_2_3_01_01 none q S)
    (Host.dotGeneral (φ₁ := .f32) (φ₂ := .f32) dot_S4x6x64x64_S4x6x64x128_S4x6x64x128_3_2_2_3_01_01 none a e)

/-- The outputs of all chunks after one chunk's entered. -/
def putAll (n : IVec S_ 32) (x : FVec Ideal S64x4x6x64x128 .f32) (o : FVec Ideal S4x6x64x128 .f32) : FVec Ideal S64x4x6x64x128 .f32 :=
  Host.dynamicUpdateSlice x (broadcastInDim S1x4x6x64x128 ![1, 2, 3, 4] bcast_S4x6x64x128_S1x4x6x64x128_1_2_3_4 o)
    (fun k => (((![n, constantI S_ 32 0#32, constantI S_ 32 0#32, constantI S_ 32 0#32, constantI S_ 32 0#32] : Fin 5 → (⟨S_, .i32⟩ : BufTy).Contents (Elt Ideal))) k (Shape.Idx.first h_S_)).toInt) updateFits_S64x4x6x64x128_S1x4x6x64x128

/-- The values that enter the state in a trip. -/
def trip_e : FVec Ideal S4x6x64x128 .f32 :=
  entering (cut (V (Proc.devRef .tc main_v396_6)) (V (Proc.devRef .tc main_v396_2))) (cut (V (Proc.devRef .tc main_v396_6)) (V (Proc.devRef .tc main_v396_3))) (V (Proc.devRef .tc main_v396_7))

/-- One trip's state. -/
theorem trip_state : Value.step_main_v396_7 V = nextAll (V (Proc.devRef .tc main_v396_7)) (cutG (V (Proc.devRef .tc main_v396_6)) (V (Proc.devRef .tc main_v396_5)))
    (cut (V (Proc.devRef .tc main_v396_6)) (V (Proc.devRef .tc main_v396_1))) (trip_e V) := rfl

/-- One trip's outputs. -/
theorem trip_out : Value.step_main_v396_8 V = putAll (V (Proc.devRef .tc main_v396_6)) (V (Proc.devRef .tc main_v396_8))
    (outAll (cut (V (Proc.devRef .tc main_v396_6)) (V (Proc.devRef .tc main_v396_0))) (V (Proc.devRef .tc main_v396_7))
      (cutT (V (Proc.devRef .tc main_v396_6)) (V (Proc.devRef .tc main_v396_4))) (trip_e V)) := rfl

variable (m : (ℓ : Loc nD τ sig) → Buf (Elt Ideal) ℓ) (c : Dev nD)

/-- An argument. -/
abbrev a0 : FVec Ideal S16384x4608 .f32 := m ((c.tc : Thread nD τ).loc main_arg0)
/-- An argument. -/
abbrev a1 : FVec Ideal S16384x128 .f32 := m ((c.tc : Thread nD τ).loc main_arg1)
/-- An argument. -/
abbrev a2 : FVec Ideal S4x2304 .f32 := m ((c.tc : Thread nD τ).loc main_arg2)
/-- An argument. -/
abbrev a3 : FVec Ideal S6 .f32 := m ((c.tc : Thread nD τ).loc main_arg3)
/-- An argument. -/
abbrev a4 : FVec Ideal S6 .f32 := m ((c.tc : Thread nD τ).loc main_arg4)
/-- An argument. -/
abbrev a5 : FVec Ideal S128 .f32 := m ((c.tc : Thread nD τ).loc main_arg5)

/-- The device's contents at the start. -/
abbrev start : Valuation τ sig (Elt Ideal) := fun b => m (c, b)

/-- The queries, keys, values, summed logarithms and strengths of every chunk, over the arguments. -/
abbrev qs : FVec Ideal S4x6x64x64x128 .f32 := queries (silu (tapped (a0 m c) (a2 m c)))
/-- The keys over the arguments. -/
abbrev ks : FVec Ideal S4x6x64x64x128 .f32 := keys (silu (tapped (a0 m c) (a2 m c)))
/-- The values over the arguments. -/
abbrev vs : FVec Ideal S4x6x64x64x128 .f32 := values (silu (tapped (a0 m c) (a2 m c)))
/-- The summed logarithms over the arguments. -/
abbrev gs : FVec Ideal S4x6x64x64 .f32 := upTo (logs (a1 m c) (a3 m c) (a4 m c))
/-- The strengths over the arguments. -/
abbrev bs : FVec Ideal S4x6x64x64 .f32 := byChunk1 (strengths (a1 m c))

/-- The contents before the loop, in parts. -/
theorem entry_eq : entryContents Value.preI m c = tail (mid (proj (conv (start m c)))) := rfl

/-- The loop's contents at its start, over the arguments. -/
theorem entry_state : entryContents Value.preI m c (Proc.devRef .tc main_v396_7) = Step.K_main_v394 (F := Ideal) := by rw [entry_eq, tail_state]
/-- The outputs before the loop. -/
theorem entry_out : entryContents Value.preI m c (Proc.devRef .tc main_v396_8) = Step.K_main_v395 (F := Ideal) := by rw [entry_eq, tail_out]
/-- The chunk's number before the loop. -/
theorem entry_number : entryContents Value.preI m c (Proc.devRef .tc main_v396_6) = constantI S_ 32 0#32 := by rw [entry_eq, tail_number]
/-- The decayed queries before the loop. -/
theorem entry_q : entryContents Value.preI m c (Proc.devRef .tc main_v396_0) = chunksFirst (mulf (qs m c) (onColumns (Host.exp (gs m c)))) := by
  rw [entry_eq, tail_q, mid_q, mid_g, proj_q, proj_g, conv_x, conv_1, conv_3, conv_4]
/-- The decayed keys before the loop. -/
theorem entry_k : entryContents Value.preI m c (Proc.devRef .tc main_v396_1) = chunksFirst (mulf (ks m c) (onColumns (Host.exp (toEnd (gs m c))))) := by
  rw [entry_eq, tail_k, mid_k, mid_g, proj_k, proj_g, conv_x, conv_1, conv_3, conv_4]
/-- The solved values before the loop. -/
theorem entry_u : entryContents Value.preI m c (Proc.devRef .tc main_v396_2) = chunksFirst (Host.dotGeneral (φ₁ := .f32) (φ₂ := .f32) dot_S4x6x64x64x64_S4x6x64x64x128_S4x6x64x64x128_4_3_3_4_012_012 none
    (sweepsAll (systems (ks m c) (gs m c) (bs m c)) 63) (mulf (vs m c) (onColumns (bs m c)))) := by
  rw [entry_eq, tail_u, mid_sys, mid_vb, proj_k, proj_g, proj_b, proj_v, conv_x, conv_1, conv_3, conv_4]
/-- The solved keys before the loop. -/
theorem entry_w : entryContents Value.preI m c (Proc.devRef .tc main_v396_3) = chunksFirst (Host.dotGeneral (φ₁ := .f32) (φ₂ := .f32) dot_S4x6x64x64x64_S4x6x64x64x128_S4x6x64x64x128_4_3_3_4_012_012 none
    (sweepsAll (systems (ks m c) (gs m c) (bs m c)) 63) (mulf (mulf (ks m c) (onColumns (bs m c))) (onColumns (Host.exp (gs m c))))) := by
  rw [entry_eq, tail_w, mid_sys, mid_kb, mid_g, proj_k, proj_g, proj_b, conv_x, conv_1, conv_3, conv_4]
/-- The scores before the loop. -/
theorem entry_attn : entryContents Value.preI m c (Proc.devRef .tc main_v396_4) = transpose S64x4x6x64x64 [2, 0, 1, 3, 4]
    (scores (Step.K_main_v87 (F := Ideal)) (qs m c) (ks m c) (decays (gs m c))) transposes_S4x6x64x64x64_S64x4x6x64x64_2_0_1_3_4 := by
  rw [entry_eq, tail_attn, mid_tri, mid_q, mid_k, mid_dec, proj_q, proj_k, proj_g, conv_x, conv_1, conv_3, conv_4]
/-- The last logarithms before the loop. -/
theorem entry_last : entryContents Value.preI m c (Proc.devRef .tc main_v396_5) = transpose S64x4x6 [2, 0, 1] (lasts (gs m c)) transposes_S4x6x64_S64x4x6_2_0_1 := by
  rw [entry_eq, tail_last, mid_g, proj_g, conv_1, conv_3, conv_4]

end Cert.GdnRefIdeal.Tie
end
-- ==== Proof.GdnRef.lean ====
/-
  The reference's chunks: every value of a chunk over the chunk's queries, keys, values, logarithms and strengths.
-/
module

public import proofs.«01_k».proof.Proof.GdnRun
public import proofs.«01_k».proof.Proof.GdnMath
public import Idealize.ShloMosaic.Lib.WordCmp
public import Idealize.ShloMosaic.Lib.DynamicIndex
public import Idealize.ShloMosaic.Lib.Pointwise

@[expose] public section

set_option maxRecDepth 16384

noncomputable section

open Idealize.ShloMosaic Idealize.ShloMosaic.TcCoe Idealize.SL.Sem Idealize.ShloMosaic.StableHlo

namespace Cert.GdnRefIdeal.Tie

open Cert.GdnRefIdeal Cert.GdnRefIdeal.Gen Cert.Delta

/-- One head's chunk. -/
def chunk (q k v : FVec Ideal S4x6x64x64x128 .f32) (g b : FVec Ideal S4x6x64x64 .f32) (s : Fin 4) (h : Fin 6) (n : Fin 64) : Chunk where
  q i d := q (ix5 s h n i d)
  k i d := k (ix5 s h n i d)
  v i d := v (ix5 s h n i d)
  g i := g (ix4 s h n i)
  b i := b (ix4 s h n i)

/-- The mask of a chunk's steps at or before each. -/
theorem tri_at (i j : Fin 64) : Step.K_main_v87 (F := Ideal) (ix2 i j) = if j ≤ i then 1#1 else 0#1 := by
  revert i j
  decide +kernel

/-- The mask of a chunk's steps before each. -/
theorem strict_at (i j : Fin 64) : Step.K_main_v89 (F := Ideal) (ix2 i j) = if j < i then 1#1 else 0#1 := by
  revert i j
  decide +kernel

/-- A select by a mask that a proposition decides. -/
theorem select_if {p : Prop} [Decidable p] (x y : EReal) : Scalar.select (if p then 1#1 else 0#1) x y = if p then x else y := by
  split
  · exact ValueIdx.select_one _ _
  · exact ValueIdx.select_zero _ _

/-- A float zero. -/
theorem zero_word : Ideal.ofBits FTy.f32 0x00000000#32 = 0 := by
  pointwise

/-- The decays of a chunk. -/
theorem decays_at (q k v : FVec Ideal S4x6x64x64x128 .f32) (g b : FVec Ideal S4x6x64x64 .f32) (s : Fin 4) (h : Fin 6) (n i j : Fin 64) :
    decays g (ix5 s h n i j) = (chunk q k v g b s h n).decay i j := by
  unfold decays onChunks noughts
  pointwise
  rw [tri_at, select_if, select_if]
  unfold Chunk.decay
  by_cases hh : j ≤ i
  · rw [if_pos hh, if_pos hh, if_pos hh]; rfl
  · rw [if_neg hh, if_neg hh]

/-- The system of a chunk. -/
theorem systems_at (q k v : FVec Ideal S4x6x64x64x128 .f32) (g b : FVec Ideal S4x6x64x64 .f32) (s : Fin 4) (h : Fin 6) (n i j : Fin 64) :
    systems k g b (ix5 s h n i j) = (chunk q k v g b s h n).M i j := by
  unfold systems onChunks noughts onColumns
  pointwise
  rw [strict_at, select_if, decays_at q k v g b]
  rfl

/-- The unit tables. -/
theorem eyes_at (s : Fin 4) (h : Fin 6) (n i j : Fin 64) : eyes (ix5 s h n i j) = unit i j := by
  unfold eyes
  pointwise
  show FloatOps.uitofp (F := Ideal) FTy.f32 (IntOp.cmpi CmpIPredicate.eq (BitVec.ofNat 32 i.val + 0#32) (BitVec.ofNat 32 j.val)) = _
  have hi := i.isLt
  have hj := j.isLt
  rw [BitVec.add_zero, WordCmp.cmpi_eq_ofNat (by omega) (by omega)]
  unfold unit
  by_cases hh : i = j
  · rw [if_pos hh, decide_eq_true (congrArg Fin.val hh)]
    show (((1#1 : BitVec 1).toNat : ℝ) : EReal) = 1
    simp
  · rw [if_neg hh, decide_eq_false (fun e => hh (Fin.ext e))]
    show (((0#1 : BitVec 1).toNat : ℝ) : EReal) = 0
    simp

/-- The sweeps of a chunk's system. -/
theorem sweeps_at (M : FVec Ideal S4x6x64x64x64 .f32) (T : Cert.Delta.Table) (s : Fin 4) (h : Fin 6) (n : Fin 64)
    (hM : ∀ i j, M (ix5 s h n i j) = T i j) (r : ℕ) (i j : Fin 64) : sweepsAll M r (ix5 s h n i j) = sweeps T r i j := by
  induction r generalizing i j with
  | zero => exact eyes_at s h n i j
  | succ r ih =>
    unfold sweepsAll sweeps
    pointwise
    rw [eyes_at]
    congr 1
    exact Finset.sum_congr rfl fun l _ => congrArg₂ (· * ·) (hM i l) (ih l j)

/-- Every chunk's solution against its rows. -/
theorem solve_at (T : FVec Ideal S4x6x64x64x64 .f32) (y : FVec Ideal S4x6x64x64x128 .f32) (s : Fin 4) (h : Fin 6) (n i : Fin 64) (d : Fin 128) :
    chunksFirst (Host.dotGeneral (φ₁ := .f32) (φ₂ := .f32) dot_S4x6x64x64x64_S4x6x64x64x128_S4x6x64x64x128_4_3_3_4_012_012 none T y) (ix5 n s h i d)
      = ∑ l : Fin 64, T (ix5 s h n i l) * y (ix5 s h n l d) := by
  unfold chunksFirst
  pointwise

/-- The values that would enter an empty state. -/
theorem u_at (q k v : FVec Ideal S4x6x64x64x128 .f32) (g b : FVec Ideal S4x6x64x64 .f32) (s : Fin 4) (h : Fin 6) (n i : Fin 64) (d : Fin 128) :
    chunksFirst (Host.dotGeneral (φ₁ := .f32) (φ₂ := .f32) dot_S4x6x64x64x64_S4x6x64x64x128_S4x6x64x64x128_4_3_3_4_012_012 none
      (sweepsAll (systems k g b) 63) (mulf v (onColumns b))) (ix5 n s h i d) = (chunk q k v g b s h n).u i d := by
  rw [solve_at]
  unfold Chunk.u Chunk.T
  refine Finset.sum_congr rfl fun l _ => congrArg₂ (· * ·) (sweeps_at _ _ s h n (systems_at q k v g b s h n) 63 i l) ?_
  unfold onColumns
  pointwise
  rfl

/-- What reads the state off the entering values. -/
theorem w_at (q k v : FVec Ideal S4x6x64x64x128 .f32) (g b : FVec Ideal S4x6x64x64 .f32) (s : Fin 4) (h : Fin 6) (n i : Fin 64) (d : Fin 128) :
    chunksFirst (Host.dotGeneral (φ₁ := .f32) (φ₂ := .f32) dot_S4x6x64x64x64_S4x6x64x64x128_S4x6x64x64x128_4_3_3_4_012_012 none
      (sweepsAll (systems k g b) 63) (mulf (mulf k (onColumns b)) (onColumns (Host.exp g)))) (ix5 n s h i d) = (chunk q k v g b s h n).w i d := by
  rw [solve_at]
  unfold Chunk.w Chunk.T
  refine Finset.sum_congr rfl fun l _ => congrArg₂ (· * ·) (sweeps_at _ _ s h n (systems_at q k v g b s h n) 63 i l) ?_
  unfold onColumns
  pointwise
  rfl

/-- The masked scores of a chunk. -/
theorem attn_at (q k v : FVec Ideal S4x6x64x64x128 .f32) (g b : FVec Ideal S4x6x64x64 .f32) (s : Fin 4) (h : Fin 6) (n i j : Fin 64) :
    transpose S64x4x6x64x64 [2, 0, 1, 3, 4] (scores (Step.K_main_v87 (F := Ideal)) q k (decays g)) transposes_S4x6x64x64x64_S64x4x6x64x64_2_0_1_3_4 (ix5 n s h i j)
      = (chunk q k v g b s h n).attn i j := by
  unfold scores
  pointwise
  rw [tri_at, select_if, decays_at q k v g b]
  rfl

/-- The queries that read the state. -/
theorem q_at (q : FVec Ideal S4x6x64x64x128 .f32) (g : FVec Ideal S4x6x64x64 .f32) (s : Fin 4) (h : Fin 6) (n i : Fin 64) (d : Fin 128) :
    chunksFirst (mulf q (onColumns (Host.exp g))) (ix5 n s h i d) = q (ix5 s h n i d) * Ideal.exp (g (ix4 s h n i)) := by
  unfold chunksFirst onColumns
  pointwise

/-- The last logarithm of a chunk. -/
theorem last_at (g : FVec Ideal S4x6x64x64 .f32) (s : Fin 4) (h : Fin 6) (n : Fin 64) :
    transpose S64x4x6 [2, 0, 1] (lasts g) transposes_S4x6x64_S64x4x6_2_0_1 (ix3 n s h) = g (ix4 s h n 63) := by
  unfold lasts
  pointwise

/-- The keys that write the state. -/
theorem k_at (k : FVec Ideal S4x6x64x64x128 .f32) (g : FVec Ideal S4x6x64x64 .f32) (s : Fin 4) (h : Fin 6) (n i : Fin 64) (d : Fin 128) :
    chunksFirst (mulf k (onColumns (Host.exp (toEnd g)))) (ix5 n s h i d) = k (ix5 s h n i d) * Ideal.exp (g (ix4 s h n 63) - g (ix4 s h n i)) := by
  unfold chunksFirst onColumns toEnd lasts
  pointwise

/-- A chunk's slice at the chunk's number. -/
theorem cut_at (x : FVec Ideal S64x4x6x64x128 .f32) (n : Fin 64) (s : Fin 4) (h : Fin 6) (i : Fin 64) (d : Fin 128) :
    cut (constantI S_ 32 (BitVec.ofNat 32 n.val)) x (ix4 s h i d) = x (ix5 n s h i d) := by
  have hn := n.isLt
  have e : ∀ st : Fin 5 → ℤ, (∀ a, st a = ((![n.val, 0, 0, 0, 0] : Fin 5 → ℕ) a : ℤ)) →
      shapeCast S4x6x64x128 (Host.dynamicSlice S1x4x6x64x128 x st sliceFits_S64x4x6x64x128_S1x4x6x64x128) shapeCasts_S1x4x6x64x128_S4x6x64x128 (ix4 s h i d) = x (ix5 n s h i d) := by
    intro st hs
    rw [Host.dynamicSlice_eq_extractStridedSlice S1x4x6x64x128 x st ![n.val, 0, 0, 0, 0] sliceFits_S64x4x6x64x128_S1x4x6x64x128 ⟨rfl, fun a => by
      match a with
      | ⟨0, _⟩ => show n.val + 1 ≤ 64; omega
      | ⟨1, _⟩ => show 0 + 4 ≤ 4; omega
      | ⟨2, _⟩ => show 0 + 6 ≤ 6; omega
      | ⟨3, _⟩ => show 0 + 64 ≤ 64; omega
      | ⟨4, _⟩ => show 0 + 128 ≤ 128; omega⟩ hs]
    pointwise
  refine e _ fun a => ?_
  match a with
  | ⟨0, _⟩ => exact toInt_ofNat_of_lt (by omega)
  | ⟨1, _⟩ => rfl
  | ⟨2, _⟩ => rfl
  | ⟨3, _⟩ => rfl
  | ⟨4, _⟩ => rfl

/-- A chunk of the tables, at a place. -/
theorem cutT_at (x : FVec Ideal S64x4x6x64x64 .f32) (n : Fin 64) (s : Fin 4) (h : Fin 6) (i j : Fin 64) :
    cutT (constantI S_ 32 (BitVec.ofNat 32 n.val)) x (ix4 s h i j) = x (ix5 n s h i j) := by
  have hn := n.isLt
  have e : ∀ st : Fin 5 → ℤ, (∀ a, st a = ((![n.val, 0, 0, 0, 0] : Fin 5 → ℕ) a : ℤ)) →
      shapeCast S4x6x64x64 (Host.dynamicSlice S1x4x6x64x64 x st sliceFits_S64x4x6x64x64_S1x4x6x64x64) shapeCasts_S1x4x6x64x64_S4x6x64x64 (ix4 s h i j) = x (ix5 n s h i j) := by
    intro st hs
    rw [Host.dynamicSlice_eq_extractStridedSlice S1x4x6x64x64 x st ![n.val, 0, 0, 0, 0] sliceFits_S64x4x6x64x64_S1x4x6x64x64 ⟨rfl, fun a => by
      match a with
      | ⟨0, _⟩ => show n.val + 1 ≤ 64; omega
      | ⟨1, _⟩ => show 0 + 4 ≤ 4; omega
      | ⟨2, _⟩ => show 0 + 6 ≤ 6; omega
      | ⟨3, _⟩ => show 0 + 64 ≤ 64; omega
      | ⟨4, _⟩ => show 0 + 64 ≤ 64; omega⟩ hs]
    pointwise
  refine e _ fun a => ?_
  match a with
  | ⟨0, _⟩ => exact toInt_ofNat_of_lt (by omega)
  | ⟨1, _⟩ => rfl
  | ⟨2, _⟩ => rfl
  | ⟨3, _⟩ => rfl
  | ⟨4, _⟩ => rfl

/-- A chunk of the last logarithms, at a place. -/
theorem cutG_at (x : FVec Ideal S64x4x6 .f32) (n : Fin 64) (s : Fin 4) (h : Fin 6) :
    cutG (constantI S_ 32 (BitVec.ofNat 32 n.val)) x (ix2 s h) = x (ix3 n s h) := by
  have hn := n.isLt
  have e : ∀ st : Fin 3 → ℤ, (∀ a, st a = ((![n.val, 0, 0] : Fin 3 → ℕ) a : ℤ)) →
      shapeCast S4x6 (Host.dynamicSlice S1x4x6 x st sliceFits_S64x4x6_S1x4x6) shapeCasts_S1x4x6_S4x6 (ix2 s h) = x (ix3 n s h) := by
    intro st hs
    rw [Host.dynamicSlice_eq_extractStridedSlice S1x4x6 x st ![n.val, 0, 0] sliceFits_S64x4x6_S1x4x6 ⟨rfl, fun a => by
      match a with
      | ⟨0, _⟩ => show n.val + 1 ≤ 64; omega
      | ⟨1, _⟩ => show 0 + 4 ≤ 4; omega
      | ⟨2, _⟩ => show 0 + 6 ≤ 6; omega⟩ hs]
    pointwise
  refine e _ fun a => ?_
  match a with
  | ⟨0, _⟩ => exact toInt_ofNat_of_lt (by omega)
  | ⟨1, _⟩ => rfl
  | ⟨2, _⟩ => rfl

/-- The outputs after a chunk's entered: its own at its number, the others kept. -/
theorem put_at (x : FVec Ideal S64x4x6x64x128 .f32) (o : FVec Ideal S4x6x64x128 .f32) (n n' : Fin 64) (s : Fin 4) (h : Fin 6) (i : Fin 64) (d : Fin 128) :
    putAll (constantI S_ 32 (BitVec.ofNat 32 n.val)) x o (ix5 n' s h i d) = if n' = n then o (ix4 s h i d) else x (ix5 n' s h i d) := by
  have hn := n.isLt
  have hn' := n'.isLt
  unfold putAll
  have e : ∀ (st : Fin 5 → ℤ), st 0 = n.val → (∀ a, a ≠ 0 → st a = 0) → Host.dynamicUpdateSlice x (broadcastInDim S1x4x6x64x128 ![1, 2, 3, 4] bcast_S4x6x64x128_S1x4x6x64x128_1_2_3_4 o) st updateFits_S64x4x6x64x128_S1x4x6x64x128 (ix5 n' s h i d)
      = if n' = n then o (ix4 s h i d) else x (ix5 n' s h i d) := by
    intro st h0 hr
    have c0 : Host.clampedStart S64x4x6x64x128 S1x4x6x64x128 rfl st (0 : Fin 5) = n.val :=
      Host.clampedStart_of_le (s := S64x4x6x64x128) (t := S1x4x6x64x128) rfl st (0 : Fin 5) n.val h0 (by show n.val + 1 ≤ 64; omega)
    have c1 : Host.clampedStart S64x4x6x64x128 S1x4x6x64x128 rfl st (1 : Fin 5) = 0 :=
      Host.clampedStart_of_le (s := S64x4x6x64x128) (t := S1x4x6x64x128) rfl st (1 : Fin 5) 0 (hr 1 (by decide)) (by show 0 + 4 ≤ 4; omega)
    have c2 : Host.clampedStart S64x4x6x64x128 S1x4x6x64x128 rfl st (2 : Fin 5) = 0 :=
      Host.clampedStart_of_le (s := S64x4x6x64x128) (t := S1x4x6x64x128) rfl st (2 : Fin 5) 0 (hr 2 (by decide)) (by show 0 + 6 ≤ 6; omega)
    have c3 : Host.clampedStart S64x4x6x64x128 S1x4x6x64x128 rfl st (3 : Fin 5) = 0 :=
      Host.clampedStart_of_le (s := S64x4x6x64x128) (t := S1x4x6x64x128) rfl st (3 : Fin 5) 0 (hr 3 (by decide)) (by show 0 + 64 ≤ 64; omega)
    have c4 : Host.clampedStart S64x4x6x64x128 S1x4x6x64x128 rfl st (4 : Fin 5) = 0 :=
      Host.clampedStart_of_le (s := S64x4x6x64x128) (t := S1x4x6x64x128) rfl st (4 : Fin 5) 0 (hr 4 (by decide)) (by show 0 + 128 ≤ 128; omega)
    have hs := s.isLt
    have hh := h.isLt
    have hi := i.isLt
    have hd := d.isLt
    rw [Host.dynamicUpdateSlice_apply]
    by_cases hh : n' = n
    · subst hh
      rw [if_pos rfl, dif_pos ?_]
      · have eo : broadcastInDim S1x4x6x64x128 ![1, 2, 3, 4] bcast_S4x6x64x128_S1x4x6x64x128_1_2_3_4 o (ix5 (0 : Fin 1) s h i d) = o (ix4 s h i d) := by pointwise
        refine (congrArg (broadcastInDim S1x4x6x64x128 ![1, 2, 3, 4] bcast_S4x6x64x128_S1x4x6x64x128_1_2_3_4 o) (?_ : _ = ix5 (0 : Fin 1) s h i d)).trans eo
        funext a
        refine Fin.ext ?_
        match a with
        | ⟨0, _⟩ => show n'.val - Host.clampedStart S64x4x6x64x128 S1x4x6x64x128 rfl st (0 : Fin 5) = 0; rw [c0]; omega
        | ⟨1, _⟩ => show s.val - Host.clampedStart S64x4x6x64x128 S1x4x6x64x128 rfl st (1 : Fin 5) = s.val; rw [c1]; omega
        | ⟨2, _⟩ => show h.val - Host.clampedStart S64x4x6x64x128 S1x4x6x64x128 rfl st (2 : Fin 5) = h.val; rw [c2]; omega
        | ⟨3, _⟩ => show i.val - Host.clampedStart S64x4x6x64x128 S1x4x6x64x128 rfl st (3 : Fin 5) = i.val; rw [c3]; omega
        | ⟨4, _⟩ => show d.val - Host.clampedStart S64x4x6x64x128 S1x4x6x64x128 rfl st (4 : Fin 5) = d.val; rw [c4]; omega
      · intro a
        match a with
        | ⟨0, _⟩ => show Host.clampedStart S64x4x6x64x128 S1x4x6x64x128 rfl st (0 : Fin 5) ≤ n'.val ∧ n'.val < Host.clampedStart S64x4x6x64x128 S1x4x6x64x128 rfl st (0 : Fin 5) + 1; rw [c0]; omega
        | ⟨1, _⟩ => show Host.clampedStart S64x4x6x64x128 S1x4x6x64x128 rfl st (1 : Fin 5) ≤ s.val ∧ s.val < Host.clampedStart S64x4x6x64x128 S1x4x6x64x128 rfl st (1 : Fin 5) + 4; rw [c1]; omega
        | ⟨2, _⟩ => show Host.clampedStart S64x4x6x64x128 S1x4x6x64x128 rfl st (2 : Fin 5) ≤ h.val ∧ h.val < Host.clampedStart S64x4x6x64x128 S1x4x6x64x128 rfl st (2 : Fin 5) + 6; rw [c2]; omega
        | ⟨3, _⟩ => show Host.clampedStart S64x4x6x64x128 S1x4x6x64x128 rfl st (3 : Fin 5) ≤ i.val ∧ i.val < Host.clampedStart S64x4x6x64x128 S1x4x6x64x128 rfl st (3 : Fin 5) + 64; rw [c3]; omega
        | ⟨4, _⟩ => show Host.clampedStart S64x4x6x64x128 S1x4x6x64x128 rfl st (4 : Fin 5) ≤ d.val ∧ d.val < Host.clampedStart S64x4x6x64x128 S1x4x6x64x128 rfl st (4 : Fin 5) + 128; rw [c4]; omega
    · rw [if_neg hh, dif_neg ?_]
      intro hin
      have h0' : Host.clampedStart S64x4x6x64x128 S1x4x6x64x128 rfl st (0 : Fin 5) ≤ n'.val ∧ n'.val < Host.clampedStart S64x4x6x64x128 S1x4x6x64x128 rfl st (0 : Fin 5) + 1 := hin (0 : Fin 5)
      rw [c0] at h0'
      exact hh (Fin.ext (by omega))
  refine e _ (toInt_ofNat_of_lt (by omega)) ?_
  intro a ha
  match a with
  | ⟨0, _⟩ => exact absurd rfl ha
  | ⟨1, _⟩ => rfl
  | ⟨2, _⟩ => rfl
  | ⟨3, _⟩ => rfl
  | ⟨4, _⟩ => rfl

/-- The entering values, the next state and the outputs at an index. -/
theorem entering_at (u w : FVec Ideal S4x6x64x128 .f32) (S : FVec Ideal S4x6x128x128 .f32) (s : Fin 4) (h : Fin 6) (i : Fin 64) (d : Fin 128) :
    entering u w S (ix4 s h i d) = u (ix4 s h i d) - ∑ e : Fin 128, w (ix4 s h i e) * S (ix4 s h e d) := by
  unfold entering
  pointwise

/-- A trip's next state, at a place. -/
theorem next_at (S : FVec Ideal S4x6x128x128 .f32) (l : FVec Ideal S4x6 .f32) (k e : FVec Ideal S4x6x64x128 .f32) (s : Fin 4) (h : Fin 6) (r d : Fin 128) :
    nextAll S l k e (ix4 s h r d) = S (ix4 s h r d) * Ideal.exp (l (ix2 s h)) + ∑ j : Fin 64, k (ix4 s h j r) * e (ix4 s h j d) := by
  unfold nextAll
  pointwise

/-- A trip's outputs, at a place. -/
theorem out_at (q : FVec Ideal S4x6x64x128 .f32) (S : FVec Ideal S4x6x128x128 .f32) (a : FVec Ideal S4x6x64x64 .f32) (e : FVec Ideal S4x6x64x128 .f32)
    (s : Fin 4) (h : Fin 6) (i : Fin 64) (d : Fin 128) :
    outAll q S a e (ix4 s h i d) = (∑ r : Fin 128, q (ix4 s h i r) * S (ix4 s h r d)) + ∑ j : Fin 64, a (ix4 s h i j) * e (ix4 s h j d) := by
  unfold outAll
  pointwise

/-- The states that a head's chunks reach from zero. -/
def states (C : Fin 64 → Chunk) : ℕ → St
  | 0 => fun _ _ => 0
  | n + 1 => (C (Fin.ofNat 64 n)).next (states C n)

/-- One more chunk's state. -/
theorem states_succ (C : Fin 64 → Chunk) (n : ℕ) : states C (n + 1) = (C (Fin.ofNat 64 n)).next (states C n) := rfl

variable (m : (ℓ : Loc nD τ sig) → Buf (Elt Ideal) ℓ) (c : Dev nD)

/-- A head's chunks over the arguments. -/
abbrev chunks (s : Fin 4) (h : Fin 6) (n : Fin 64) : Chunk := chunk (qs m c) (ks m c) (vs m c) (gs m c) (bs m c) s h n

/-- The loop's contents after a number of trips. -/
abbrev after_ (n : ℕ) : Valuation τ sig (Elt Ideal) := Value.STEP^[n] (entryContents Value.preI m c)

/-- One more trip. -/
theorem after_succ (n : ℕ) : after_ m c (n + 1) = Value.STEP (after_ m c n) := Function.iterate_succ_apply' _ _ _

/-- The loop leaves this array as it was. -/
theorem kept_0 (n : ℕ) : after_ m c n (Proc.devRef .tc main_v396_0) = entryContents Value.preI m c (Proc.devRef .tc main_v396_0) := by
  induction n with
  | zero => rfl
  | succ n ih => rw [after_succ, Value.STEP_main_v396_0, ih]
/-- The loop leaves this array as it was. -/
theorem kept_1 (n : ℕ) : after_ m c n (Proc.devRef .tc main_v396_1) = entryContents Value.preI m c (Proc.devRef .tc main_v396_1) := by
  induction n with
  | zero => rfl
  | succ n ih => rw [after_succ, Value.STEP_main_v396_1, ih]
/-- The loop leaves this array as it was. -/
theorem kept_2 (n : ℕ) : after_ m c n (Proc.devRef .tc main_v396_2) = entryContents Value.preI m c (Proc.devRef .tc main_v396_2) := by
  induction n with
  | zero => rfl
  | succ n ih => rw [after_succ, Value.STEP_main_v396_2, ih]
/-- The loop leaves this array as it was. -/
theorem kept_3 (n : ℕ) : after_ m c n (Proc.devRef .tc main_v396_3) = entryContents Value.preI m c (Proc.devRef .tc main_v396_3) := by
  induction n with
  | zero => rfl
  | succ n ih => rw [after_succ, Value.STEP_main_v396_3, ih]
/-- The loop leaves this array as it was. -/
theorem kept_4 (n : ℕ) : after_ m c n (Proc.devRef .tc main_v396_4) = entryContents Value.preI m c (Proc.devRef .tc main_v396_4) := by
  induction n with
  | zero => rfl
  | succ n ih => rw [after_succ, Value.STEP_main_v396_4, ih]
/-- The loop leaves this array as it was. -/
theorem kept_5 (n : ℕ) : after_ m c n (Proc.devRef .tc main_v396_5) = entryContents Value.preI m c (Proc.devRef .tc main_v396_5) := by
  induction n with
  | zero => rfl
  | succ n ih => rw [after_succ, Value.STEP_main_v396_5, ih]

/-- The trip's number. -/
theorem number_at (n : ℕ) : after_ m c n (Proc.devRef .tc main_v396_6) = constantI S_ 32 (BitVec.ofNat 32 n) := by
  induction n with
  | zero => exact entry_number m c
  | succ n ih =>
    rw [after_succ, Value.STEP_main_v396_6]
    unfold Value.step_main_v396_6
    rw [ih]
    funext i
    show BitVec.ofNat 32 n + 1#32 = BitVec.ofNat 32 (n + 1)
    rw [BitVec.ofNat_add]

/-- A trip's entering values where the state is known. -/
theorem trip_e_at (n : Fin 64) (s : Fin 4) (h : Fin 6) (S : St)
    (hS : ∀ r d, (after_ m c n.val (Proc.devRef .tc main_v396_7) : FVec Ideal S4x6x128x128 .f32) (ix4 s h r d) = S r d) (i : Fin 64) (d : Fin 128) :
    trip_e (after_ m c n.val) (ix4 s h i d) = (chunks m c s h n).new S i d := by
  unfold trip_e
  rw [number_at, kept_2, kept_3, entry_u, entry_w, entering_at, cut_at, u_at (qs m c) (ks m c)]
  unfold Chunk.new
  refine congrArg (fun x => (chunks m c s h n).u i d - x) (Finset.sum_congr rfl fun e _ => ?_)
  rw [cut_at, w_at (qs m c) (ks m c) (vs m c), hS]

/-- The state after a number of trips. -/
theorem state_at (s : Fin 4) (h : Fin 6) (n : ℕ) (hn : n ≤ 64) (r d : Fin 128) :
    (after_ m c n (Proc.devRef .tc main_v396_7) : FVec Ideal S4x6x128x128 .f32) (ix4 s h r d) = states (chunks m c s h) n r d := by
  induction n generalizing r d with
  | zero =>
    refine (congrFun (entry_state m c) (ix4 s h r d)).trans ?_
    show Ideal.ofBits FTy.f32 0x00000000#32 = 0
    exact zero_word
  | succ n ih =>
    have e : (Fin.ofNat 64 n) = (⟨n, by omega⟩ : Fin 64) := Fin.ext (Nat.mod_eq_of_lt (by omega))
    rw [after_succ, Value.STEP_main_v396_7, trip_state, next_at, number_at, kept_5, kept_1, entry_last, entry_k, ih (by omega), states_succ, e]
    unfold Chunk.next
    rw [cutG_at _ (⟨n, by omega⟩ : Fin 64), last_at]
    refine congrArg (fun x => states (chunks m c s h) n r d * Ideal.exp (gs m c (ix4 s h ⟨n, by omega⟩ 63)) + x) (Finset.sum_congr rfl fun j _ => ?_)
    rw [cut_at _ (⟨n, by omega⟩ : Fin 64), k_at, trip_e_at m c (⟨n, by omega⟩ : Fin 64) s h _ (ih (by omega))]
    rfl

/-- The outputs after a number of trips. -/
theorem outs_at (s : Fin 4) (h : Fin 6) (n : ℕ) (hn : n ≤ 64) (n' : Fin 64) (hn' : n'.val < n) (i : Fin 64) (d : Fin 128) :
    (after_ m c n (Proc.devRef .tc main_v396_8) : FVec Ideal S64x4x6x64x128 .f32) (ix5 n' s h i d) = (chunks m c s h n').out (states (chunks m c s h) n'.val) i d := by
  induction n with
  | zero => omega
  | succ n ih =>
    rw [after_succ, Value.STEP_main_v396_8, trip_out, number_at, put_at _ _ (⟨n, by omega⟩ : Fin 64)]
    by_cases hh : n' = (⟨n, by omega⟩ : Fin 64)
    · rw [if_pos hh, hh, out_at, kept_0, kept_4, entry_q, entry_attn]
      unfold Chunk.out
      refine congrArg₂ (fun x y : EReal => x + y) ?_ ?_
      · refine Finset.sum_congr rfl fun r _ => ?_
        rw [cut_at _ (⟨n, by omega⟩ : Fin 64), q_at, state_at m c s h n (by omega)]
        rfl
      · refine Finset.sum_congr rfl fun j _ => ?_
        rw [cutT_at _ (⟨n, by omega⟩ : Fin 64), attn_at (qs m c) (ks m c) (vs m c) (gs m c) (bs m c),
          trip_e_at m c (⟨n, by omega⟩ : Fin 64) s h _ (state_at m c s h n (by omega))]
    · rw [if_neg hh]
      exact ih (by omega) (by have : n'.val ≠ n := fun e => hh (Fin.ext e); omega)

/-- A row of outputs over its length, weighted and gated. -/
def finish (o w : Fin 128 → EReal) (z : EReal) (d : Fin 128) : EReal :=
  o d * Ideal.rsqrt (Ideal.div (∑ e : Fin 128, o e * o e) (Ideal.ofBits .f32 0x43000000#32) + Ideal.ofBits .f32 0x358637BD#32) * w d * (z * Ideal.logistic z)

/-- The reference's result over its loop's outputs, the weights and the gates' rows. -/
def resultOf (O : FVec Ideal S64x4x6x64x128 .f32) (W : FVec Ideal S128 .f32) (P : FVec Ideal S16384x4608 .f32) : FVec Ideal S16384x768 .bf16 :=
  let o : FVec Ideal S4x4096x6x128 .f32 := shapeCast S4x4096x6x128 (transpose S4x64x64x6x128 [1, 0, 3, 2, 4] O transposes_S64x4x6x64x128_S4x64x64x6x128_1_0_3_2_4) shapeCasts_S4x64x64x6x128_S4x4096x6x128
  let z : FVec Ideal S4x4096x6x128 .f32 := shapeCast S4x4096x6x128 (extractStridedSlice S16384x768 ![0, 3840] P slices_S16384x4608_S16384x768_0_3840) shapeCasts_S16384x768_S4x4096x6x128
  truncf .bf16 (shapeCast S16384x768 (mulf (mulf (mulf o (broadcastInDim S4x4096x6x128 ![0, 1, 2, 3] bcast_S4x4096x6x1_S4x4096x6x128_0_1_2_3 (Host.rsqrt (addf (Host.divf
    (broadcastInDim S4x4096x6x1 ![0, 1, 2] bcast_S4x4096x6_S4x4096x6x1_0_1_2 (Host.reduceAdd (mulf o o) (constant S_ .f32 0x00000000#32) reducesTo_S4x4096x6x128_S4x4096x6_d3 h_S_))
    (broadcastInDim S4x4096x6x1 ![] bcast_S_S4x4096x6x1 (constant S_ .f32 0x43000000#32))) (broadcastInDim S4x4096x6x1 ![] bcast_S_S4x4096x6x1 (constant S_ .f32 0x358637BD#32))))))
    (broadcastInDim S4x4096x6x128 ![0, 1, 2, 3] bcast_S1x1x1x128_S4x4096x6x128_0_1_2_3 (broadcastInDim S1x1x1x128 ![3] bcast_S128_S1x1x1x128_3 W)))
    (mulf z (Host.divf (broadcastInDim S4x4096x6x128 ![] bcast_S_S4x4096x6x128 (constant S_ .f32 0x3F800000#32))
      (addf (broadcastInDim S4x4096x6x128 ![] bcast_S_S4x4096x6x128 (constant S_ .f32 0x3F800000#32)) (Host.exp (Host.negf z)))))) shapeCasts_S4x4096x6x128_S16384x768) bitsLt_bf16_f32

/-- The result over the loop's outputs and the arguments. -/
theorem result_eq (V : Valuation τ sig (Elt Ideal)) : Value.out_main_v417 V = resultOf (V (Proc.devRef .tc main_v396_8)) (V (Proc.devRef .tc main_arg5)) (V (Proc.devRef .tc main_arg0)) := rfl

/-- A head's row of the result. -/
theorem result_at (O : FVec Ideal S64x4x6x64x128 .f32) (W : FVec Ideal S128 .f32) (P : FVec Ideal S16384x4608 .f32) (r : Fin 16384) (y : Fin 768) (s : Fin 4) (n i : Fin 64) (h : Fin 6) (d : Fin 128)
    (hr : r.val = (s.val * 64 + n.val) * 64 + i.val) (hy : y.val = h.val * 128 + d.val) :
    resultOf O W P (ix2 r y) = finish (fun e => O (ix5 n s h i e)) (fun e => W (ix1 e)) (P (ix2 r (⟨3840 + y.val, by omega⟩ : Fin 4608))) d := by
  have hi := i.isLt
  have hn := n.isLt
  have hd := d.isLt
  have e1 : (⟨r.val % 4096 / 64, by omega⟩ : Fin 64) = n := Fin.ext (by show r.val % 4096 / 64 = n.val; omega)
  have e2 : (⟨r.val / 4096, by omega⟩ : Fin 4) = s := Fin.ext (by show r.val / 4096 = s.val; omega)
  have e3 : (⟨y.val / 128, by omega⟩ : Fin 6) = h := Fin.ext (by show y.val / 128 = h.val; omega)
  have e4 : (⟨r.val % 4096 % 64, by omega⟩ : Fin 64) = i := Fin.ext (by show r.val % 4096 % 64 = i.val; omega)
  have e5 : (⟨y.val % 128, by omega⟩ : Fin 128) = d := Fin.ext (by show y.val % 128 = d.val; omega)
  unfold resultOf
  pointwise
  simp only [e1, e2, e3, e4, e5]
  rfl

/-- A head's rows of the reference's result over its chunks. -/
theorem ref_at (r : Fin 16384) (y : Fin 768) (s : Fin 4) (n i : Fin 64) (h : Fin 6) (d : Fin 128)
    (hr : r.val = (s.val * 64 + n.val) * 64 + i.val) (hy : y.val = h.val * 128 + d.val) :
    (Value.out_main_v417 (after_ m c 64) : FVec Ideal S16384x768 .bf16) (ix2 r y)
      = finish (fun e => (chunks m c s h n).out (states (chunks m c s h) n.val) i e) (fun e => a5 m c (ix1 e))
        (a0 m c (ix2 r (⟨3840 + y.val, by omega⟩ : Fin 4608))) d := by
  have e0 : after_ m c 64 (Proc.devRef .tc main_arg0) = a0 m c := Value.iter_main_arg0 m c 64
  have e5 : after_ m c 64 (Proc.devRef .tc main_arg5) = a5 m c := Value.iter_main_arg5 m c 64
  rw [result_eq, result_at _ _ _ r y s n i h d hr hy]
  have ho : (fun e => (after_ m c 64 (Proc.devRef .tc main_v396_8) : FVec Ideal S64x4x6x64x128 .f32) (ix5 n s h i e))
      = fun e => (chunks m c s h n).out (states (chunks m c s h) n.val) i e := funext fun e => outs_at m c s h 64 (le_refl _) n n.isLt i e
  rw [ho, e0, e5]

end Cert.GdnRefIdeal.Tie
end
-- ==== Proof.GdnRaw.lean ====
/-
  One head's chunk of the delta rule over the arguments, and why its system is finite.
-/
module

public import proofs.«01_k».proof.Proof.GdnMath

@[expose] public section

noncomputable section

open Idealize.ShloMosaic

namespace Cert.Delta

/-- The channel `c` of the projection `k` rows before row `r`, or zero before the row's sequence. -/
def back (p : Fin 16384 → Fin 4608 → EReal) (k : ℕ) (r : Fin 16384) (c : Fin 2304) : EReal :=
  if k ≤ r.val % 4096 then p ⟨r.val - k, by omega⟩ ⟨1536 + c.val, by omega⟩ else 0

/-- The four taps. -/
def tap (p : Fin 16384 → Fin 4608 → EReal) (w : Fin 4 → Fin 2304 → EReal) (r : Fin 16384) (c : Fin 2304) : EReal :=
  w 0 c * back p 3 r c + w 1 c * back p 2 r c + w 2 c * back p 1 r c + w 3 c * back p 0 r c

/-- A value times its logistic. -/
def sil (x : EReal) : EReal := x * Ideal.logistic x

/-- A row over its length. -/
def unitRow (f : Fin 128 → EReal) (d : Fin 128) : EReal := f d * Ideal.rsqrt (∑ e, f e * f e + Ideal.ofBits .f32 0x358637BD#32)

/-- The softplus. -/
def splus (x : EReal) : EReal := max x 0 + Ideal.log1p (Ideal.exp (-(max x (-x))))

/-- The row of a chunk's step. -/
def row (s : Fin 4) (n i : Fin 64) : Fin 16384 := ⟨(s.val * 64 + n.val) * 64 + i.val, by omega⟩

/-- The channel of a head's feature in one of the thirds. -/
def chan (o : Fin 3) (h : Fin 6) (d : Fin 128) : Fin 2304 := ⟨o.val * 768 + (h.val * 128 + d.val), by omega⟩

/-- The logarithm of a step's decay. -/
def lg (z : Fin 16384 → Fin 128 → EReal) (a d : Fin 6 → EReal) (s : Fin 4) (h : Fin 6) (n i : Fin 64) : EReal :=
  -(Ideal.exp (a h)) * splus (z (row s n i) ⟨h.val, by omega⟩ + d h)

/-- One head's chunk over the arguments. -/
def raw (p : Fin 16384 → Fin 4608 → EReal) (z : Fin 16384 → Fin 128 → EReal) (w : Fin 4 → Fin 2304 → EReal) (a d : Fin 6 → EReal)
    (s : Fin 4) (h : Fin 6) (n : Fin 64) : Chunk where
  q i e := unitRow (fun x => sil (tap p w (row s n i) (chan 0 h x))) e * Ideal.ofBits .f32 0x3DB504F3#32
  k i e := unitRow (fun x => sil (tap p w (row s n i) (chan 1 h x))) e
  v i e := sil (tap p w (row s n i) (chan 2 h e))
  g i := ∑ j : Fin 64, if j ≤ i then lg z a d s h n j else 0
  b i := Ideal.logistic (z (row s n i) ⟨6 + h.val, by omega⟩)

/-- A square is not negative. -/
theorem sq_nonneg (x : EReal) : 0 ≤ x * x := by
  rcases le_total 0 x with h | h
  · exact mul_nonneg h h
  · rw [← neg_mul_neg x x]
    have : 0 ≤ -x := by rw [EReal.le_neg]; simpa using h
    exact mul_nonneg this this

/-- The norm's constant is positive. -/
theorem eps_pos : ∃ r : ℝ, 0 < r ∧ Ideal.ofBits .f32 0x358637BD#32 = ((r : ℝ) : EReal) := by
  refine ⟨_, ?_, rfl⟩
  rw [if_neg (by decide)]
  positivity

/-- A row over its length is finite. -/
theorem unitRow_real (f : Fin 128 → EReal) (d : Fin 128) : ∃ r : ℝ, unitRow f d = ((r : ℝ) : EReal) := by
  obtain ⟨ε, hε, he⟩ := eps_pos
  unfold unitRow
  rw [he]
  by_cases hf : ∃ e, f e = ⊤ ∨ f e = ⊥
  · obtain ⟨e, h⟩ := hf
    have h1 : f e * f e = ⊤ := by
      rcases h with h | h <;> rw [h] <;> rfl
    have h2 : (∑ e, f e * f e) = ⊤ := by
      refine top_le_iff.1 ?_
      rw [← h1]
      exact Finset.single_le_sum (f := fun e => f e * f e) (fun i _ => sq_nonneg (f i)) (Finset.mem_univ e)
    refine ⟨0, ?_⟩
    rw [h2, EReal.top_add_coe]
    show f d * 0 = _
    rw [mul_zero, EReal.coe_zero]
  · have hr : ∀ e, ∃ r : ℝ, f e = ((r : ℝ) : EReal) := fun e => by
      refine ⟨(f e).toReal, (EReal.coe_toReal ?_ ?_).symm⟩
      · exact fun h => hf ⟨e, Or.inl h⟩
      · exact fun h => hf ⟨e, Or.inr h⟩
    choose r hr using hr
    have h1 : (∑ e, f e * f e) = ((∑ e, r e * r e : ℝ) : EReal) := by
      rw [Cert.Sb.coe_sum]
      exact Finset.sum_congr rfl fun e _ => by rw [hr e, EReal.coe_mul]
    have h0 : 0 < (∑ e, r e * r e) + ε := add_pos_of_nonneg_of_pos (Finset.sum_nonneg fun e _ => mul_self_nonneg (r e)) hε
    refine ⟨r d * (Real.sqrt ((∑ e, r e * r e) + ε))⁻¹, ?_⟩
    rw [h1, ← EReal.coe_add, hr d, EReal.coe_mul]
    congr 1
    show (if (∑ e, r e * r e) + ε < 0 then ⊥ else if (∑ e, r e * r e) + ε = 0 then ⊤ else (((Real.sqrt ((∑ e, r e * r e) + ε))⁻¹ : ℝ) : EReal)) = _
    rw [if_neg (not_lt.2 h0.le), if_neg h0.ne']

/-- A logistic is finite. -/
theorem logistic_real (x : EReal) : ∃ r : ℝ, Ideal.logistic x = ((r : ℝ) : EReal) := by
  unfold Ideal.logistic
  have h0 : (0 : EReal) ≤ Ideal.exp (-x) := exp_nonneg _
  have h1 : (0 : EReal) < 1 + Ideal.exp (-x) := lt_of_lt_of_le zero_lt_one (le_add_of_nonneg_right h0)
  unfold Ideal.div
  rw [if_neg h1.ne', one_mul]
  generalize 1 + Ideal.exp (-x) = y
  induction y using EReal.rec with
  | bot => exact ⟨0, by rw [EReal.inv_bot, EReal.coe_zero]⟩
  | top => exact ⟨0, by rw [EReal.inv_top, EReal.coe_zero]⟩
  | coe r => exact ⟨r⁻¹, (EReal.coe_inv r).symm⟩

/-- A softplus is not negative. -/
theorem splus_nonneg (x : EReal) : 0 ≤ splus x := by
  unfold splus
  refine add_nonneg (le_max_right _ _) ?_
  unfold Ideal.log1p
  have h0 : (0 : EReal) ≤ Ideal.exp (-(max x (-x))) := exp_nonneg _
  generalize Ideal.exp (-(max x (-x))) = y at h0
  induction y using EReal.rec with
  | bot => exact absurd h0 (by simp)
  | top =>
    show 0 ≤ Ideal.log (1 + ⊤)
    have : (1 : EReal) + ⊤ = ⊤ := EReal.coe_add_top 1
    rw [this]
    exact le_top
  | coe r =>
    have hr : 0 ≤ r := by exact_mod_cast h0
    rw [← EReal.coe_one, ← EReal.coe_add, Ideal.log_coe, if_neg (by linarith)]
    exact_mod_cast Real.log_nonneg (by linarith)

/-- The logarithm of a decay is at most zero. -/
theorem lg_nonpos (z : Fin 16384 → Fin 128 → EReal) (a d : Fin 6 → EReal) (s : Fin 4) (h : Fin 6) (n i : Fin 64) : lg z a d s h n i ≤ 0 := by
  unfold lg
  rw [EReal.neg_mul]
  have := mul_nonneg (exp_nonneg (a h)) (splus_nonneg (z (row s n i) ⟨h.val, by omega⟩ + d h))
  rw [EReal.neg_le]
  simpa using this

/-- Every chunk's system is finite. -/
theorem raw_good (p : Fin 16384 → Fin 4608 → EReal) (z : Fin 16384 → Fin 128 → EReal) (w : Fin 4 → Fin 2304 → EReal) (a d : Fin 6 → EReal)
    (s : Fin 4) (h : Fin 6) (n : Fin 64) : (raw p z w a d s h n).Good where
  k := by
    have := fun (i : Fin 64) (e : Fin 128) => unitRow_real (fun x => sil (tap p w (row s n i) (chan 1 h x))) e
    choose r hr using this
    exact ⟨r, hr⟩
  b := by
    have := fun (i : Fin 64) => logistic_real (z (row s n i) ⟨6 + h.val, by omega⟩)
    choose r hr using this
    exact ⟨r, hr⟩
  g_nonpos i := by
    show (∑ j : Fin 64, if j ≤ i then lg z a d s h n j else 0) ≤ 0
    refine Finset.sum_nonpos fun j _ => ?_
    split
    · exact lg_nonpos z a d s h n j
    · exact le_refl _
  g_anti i j hij := by
    show (∑ l : Fin 64, if l ≤ i then lg z a d s h n l else 0) ≤ ∑ l : Fin 64, if l ≤ j then lg z a d s h n l else 0
    refine Finset.sum_le_sum fun l _ => ?_
    by_cases hl : l ≤ j
    · rw [if_pos (hl.trans hij), if_pos hl]
    · rw [if_neg hl]
      split
      · exact lg_nonpos z a d s h n l
      · exact le_refl _

end Cert.Delta

end
-- ==== Proof.GdnArgs.lean ====
/-
  The reference's chunks over the arguments.
-/
module

public import proofs.«01_k».proof.Proof.GdnRef
public import proofs.«01_k».proof.Proof.GdnRaw
public import proofs.«01_k».proof.Proof.AttnRef
public import Idealize.ShloMosaic.Lib.Pointwise

@[expose] public section

set_option maxRecDepth 16384

noncomputable section

open Idealize.ShloMosaic Idealize.ShloMosaic.TcCoe Idealize.SL.Sem Idealize.ShloMosaic.StableHlo

namespace Cert.GdnRefIdeal.Tie

open Cert.GdnRefIdeal Cert.GdnRefIdeal.Gen Cert.Delta

/-- The zero of the padding. -/
theorem pad_zero : FloatOps.sitofp (F := Ideal) FTy.f32 (0#32 : BitVec 32) = (0 : EReal) := by
  show (((0#32 : BitVec 32).toInt : ℝ) : EReal) = 0
  simp

/-- The argument by rows and columns. -/
abbrev mat {a b : ℕ} (p : FVec Ideal ⟨2, ![a, b]⟩ .f32) : Fin a → Fin b → EReal := fun i j => p (ix2 i j)

/-- The padded channels: `3 - k` rows on from a row is `k` rows before it. -/
theorem padded_at (p : FVec Ideal S16384x4608 .f32) (k : ℕ) (hk : k ≤ 3) (r : Fin 16384) (x : Fin 2304) (b : Fin 4) (s : Fin 4099)
    (hb : b.val = r.val / 4096) (hs : s.val = 3 - k + r.val % 4096) : padded p (ix3 b s x) = back (mat p) k r x := by
  unfold padded
  pointwise
  unfold back
  by_cases h : k ≤ r.val % 4096
  · rw [if_pos h, dif_pos ⟨by omega, by omega⟩]
    have e : (⟨b.val * 4096 + (s.val - 3), by omega⟩ : Fin 16384) = ⟨r.val - k, by omega⟩ := Fin.ext (by show b.val * 4096 + (s.val - 3) = r.val - k; omega)
    exact congrArg (fun y => p (ix2 y (⟨1536 + x.val, by omega⟩ : Fin 4608))) e
  · rw [if_neg h, dif_neg fun hh => by omega, pad_zero]

/-- The taps' element. -/
theorem tapped_at (p : FVec Ideal S16384x4608 .f32) (w : FVec Ideal S4x2304 .f32) (r : Fin 16384) (x : Fin 2304) (b : Fin 4) (s : Fin 4096)
    (hr : r.val = b.val * 4096 + s.val) : tapped p w (ix3 b s x) = tap (mat p) (mat w) r x := by
  unfold tapped
  pointwise [taps]
  rw [padded_at p 3 (by omega) r x b _ (by omega) (by show s.val = _; omega), padded_at p 2 (by omega) r x b _ (by omega) (by show 1 + s.val = _; omega),
    padded_at p 1 (by omega) r x b _ (by omega) (by show 2 + s.val = _; omega), padded_at p 0 (by omega) r x b _ (by omega) (by show 3 + s.val = _; omega)]
  rfl

/-- A value times its logistic, at a place. -/
theorem silu_at (x : FVec Ideal S4x4096x2304 .f32) (b : Fin 4) (s : Fin 4096) (y : Fin 2304) : silu x (ix3 b s y) = sil (x (ix3 b s y)) := by
  unfold silu
  pointwise
  rfl

/-- A head's row over its length, at a place. -/
theorem normed_at (h : FVec Ideal S4x4096x6x128 .f32) (b : Fin 4) (s : Fin 4096) (y : Fin 6) (d : Fin 128) : normed h (ix4 b s y d) = unitRow (fun e => h (ix4 b s y e)) d := by
  unfold normed
  pointwise
  rfl

/-- The channels by heads, at a place. -/
theorem heads_at (x : FVec Ideal S4x4096x768 .f32) (b : Fin 4) (s : Fin 4096) (y : Fin 6) (d : Fin 128) :
    heads x (ix4 b s y d) = x (ix3 b s (⟨y.val * 128 + d.val, by omega⟩ : Fin 768)) := by
  unfold heads
  pointwise

/-- The steps by chunks, at a place. -/
theorem byChunk_at (x : FVec Ideal S4x4096x6x128 .f32) (s : Fin 4) (h : Fin 6) (n i : Fin 64) (d : Fin 128) :
    byChunk x (ix5 s h n i d) = x (ix4 s (⟨n.val * 64 + i.val, by omega⟩ : Fin 4096) h d) := by
  unfold byChunk
  pointwise

/-- The same for one number per step and head. -/
theorem byChunk1_at (x : FVec Ideal S4x4096x6 .f32) (s : Fin 4) (h : Fin 6) (n i : Fin 64) :
    byChunk1 x (ix4 s h n i) = x (ix3 s (⟨n.val * 64 + i.val, by omega⟩ : Fin 4096) h) := by
  unfold byChunk1
  pointwise

/-- A step's strength is the logistic of its gate. -/
theorem strengths_at (z : FVec Ideal S16384x128 .f32) (b : Fin 4) (s : Fin 4096) (h : Fin 6) :
    strengths z (ix3 b s h) = Ideal.logistic (z (ix2 (⟨b.val * 4096 + s.val, by omega⟩ : Fin 16384) (⟨6 + h.val, by omega⟩ : Fin 128))) := by
  unfold strengths
  pointwise [gateRows]
  rfl

/-- The softplus at a place. -/
theorem softplus_at (z : FVec Ideal S4x4096x6 .f32) (i : S4x4096x6.Idx) : softplus z i = splus (z i) := by
  obtain ⟨b, s, h, e⟩ : ∃ b s h, i = (ix3 b s h : S4x4096x6.Idx) := ⟨i 0, i 1, i 2, ValueIdx.eq_ix3 (n0 := 4) (n1 := 4096) (n2 := 6) i⟩
  rw [e]
  unfold softplus
  pointwise
  rw [if_neg (fun h => h rfl)]
  rfl

/-- The logarithm of a step's decay. -/
theorem logs_at (z : FVec Ideal S16384x128 .f32) (a d : FVec Ideal S6 .f32) (s : Fin 4) (h : Fin 6) (n i : Fin 64) :
    logs z a d (ix4 s h n i) = lg (mat z) (fun x => a (ix1 x)) (fun x => d (ix1 x)) s h n i := by
  unfold logs
  rw [byChunk1_at]
  pointwise [onRows]
  rw [softplus_at]
  pointwise [gateRows, onRows]
  unfold lg
  have e : (⟨s.val * 4096 + (n.val * 64 + i.val), by omega⟩ : Fin 16384) = row s n i := Fin.ext (by show s.val * 4096 + (n.val * 64 + i.val) = (s.val * 64 + n.val) * 64 + i.val; omega)
  rw [e]

/-- An index of the window is its last coordinate. -/
def windowEquiv : Shape.Idx ⟨S4x6x64x64.rank, ![1, 1, 1, 64]⟩ ≃ Fin 64 where
  toFun y := y 3
  invFun n := ix4 (0 : Fin 1) (0 : Fin 1) (0 : Fin 1) n
  left_inv y := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv n := rfl

/-- The window's sum: the entries that end at `j`. -/
theorem window_at (l : FVec Ideal S4x6x64x64 .f32) (b : Fin 4) (h : Fin 6) (q j : Fin 64) :
    upTo l (ix4 b h q j) = ∑ n : Fin 64, if hn : 63 ≤ j.val + n.val then l (ix4 b h q ⟨j.val + n.val - 63, by omega⟩) else 0 := by
  have hv : Ideal.ofBits FTy.f32 0x00000000#32 = 0 := Ideal.ofBits_zero_f32
  have hi : (broadcastInDim S_ ![] bcast_S_S_ (constant (F := Ideal) S_ .f32 0x00000000#32)) (Shape.Idx.first h_S_) = (0 : EReal) := hv
  unfold upTo
  rw [Cert.AttnRefIdeal.Tie.windowAdd_at, hi, zero_add]
  refine ((Equiv.sum_comp (Shape.rowMajor ⟨S4x6x64x64.rank, ![1, 1, 1, 64]⟩).symm (Cert.AttnRefIdeal.Tie.windowTerm _ _ _ _ l 0 _ _)).trans
    (Equiv.sum_comp windowEquiv.symm (Cert.AttnRefIdeal.Tie.windowTerm _ _ _ _ l 0 _ _)).symm).trans ?_
  refine Finset.sum_congr rfl fun n _ => ?_
  have hb := b.isLt
  have hh := h.isLt
  have hq := q.isLt
  have hj := j.isLt
  have hN := n.isLt
  unfold Cert.AttnRefIdeal.Tie.windowTerm
  by_cases hn : 63 ≤ j.val + n.val
  · rw [dif_pos hn, dif_pos ?_]
    · refine congrArg l ?_
      funext a
      refine Fin.ext ?_
      match a with
      | ⟨0, _⟩ => show b.val * 1 + 0 - 0 = b.val; omega
      | ⟨1, _⟩ => show h.val * 1 + 0 - 0 = h.val; omega
      | ⟨2, _⟩ => show q.val * 1 + 0 - 0 = q.val; omega
      | ⟨3, _⟩ => show j.val * 1 + n.val - 63 = j.val + n.val - 63; omega
    · intro a
      match a with
      | ⟨0, _⟩ => show 0 ≤ b.val * 1 + 0 ∧ b.val * 1 + 0 - 0 < 4; omega
      | ⟨1, _⟩ => show 0 ≤ h.val * 1 + 0 ∧ h.val * 1 + 0 - 0 < 6; omega
      | ⟨2, _⟩ => show 0 ≤ q.val * 1 + 0 ∧ q.val * 1 + 0 - 0 < 64; omega
      | ⟨3, _⟩ => show 63 ≤ j.val * 1 + n.val ∧ j.val * 1 + n.val - 63 < 64; omega
  · rw [dif_neg hn, dif_neg fun hh => hn ?_]
    have := (hh (3 : Fin 4)).1
    have e : 63 ≤ j.val * 1 + n.val := this
    omega

/-- The window's sum is the sum over the entries up to `j`. -/
theorem upTo_at (l : FVec Ideal S4x6x64x64 .f32) (b : Fin 4) (h : Fin 6) (q j : Fin 64) :
    upTo l (ix4 b h q j) = ∑ n : Fin 64, if n ≤ j then l (ix4 b h q n) else 0 := by
  rw [window_at]
  have hj := j.isLt
  rw [← Finset.sum_filter_add_sum_filter_not Finset.univ (fun n : Fin 64 => 63 ≤ j.val + n.val),
    ← Finset.sum_filter_add_sum_filter_not Finset.univ (fun n : Fin 64 => n ≤ j)]
  refine congrArg₂ (· + ·) ?_ ?_
  · refine Finset.sum_bij (fun (n : Fin 64) _ => (⟨j.val + n.val - 63, by omega⟩ : Fin 64)) ?_ ?_ ?_ ?_
    · intro n hn
      refine Finset.mem_filter.2 ⟨Finset.mem_univ _, ?_⟩
      show j.val + n.val - 63 ≤ j.val
      omega
    · intro n hn n' hn' e
      have h1 := (Finset.mem_filter.1 hn).2
      have h2 := (Finset.mem_filter.1 hn').2
      have h3 : j.val + n.val - 63 = j.val + n'.val - 63 := congrArg Fin.val e
      exact Fin.ext (by omega)
    · intro n hn
      have h1 : n.val ≤ j.val := (Finset.mem_filter.1 hn).2
      refine ⟨⟨63 + n.val - j.val, by omega⟩, Finset.mem_filter.2 ⟨Finset.mem_univ _, ?_⟩, Fin.ext ?_⟩
      · show 63 ≤ j.val + (63 + n.val - j.val)
        omega
      · show j.val + (63 + n.val - j.val) - 63 = n.val
        omega
    · intro n hn
      have h1 := (Finset.mem_filter.1 hn).2
      rw [dif_pos h1, if_pos]
      show j.val + n.val - 63 ≤ j.val
      omega
  · refine (Finset.sum_eq_zero fun n hn => ?_).trans (Finset.sum_eq_zero fun n hn => ?_).symm
    · exact dif_neg (Finset.mem_filter.1 hn).2
    · exact if_neg (Finset.mem_filter.1 hn).2

variable (m : (ℓ : Loc nD τ sig) → Buf (Elt Ideal) ℓ) (c : Dev nD)

/-- The taps at a chunk's step. -/
theorem mixed_at (p : FVec Ideal S16384x4608 .f32) (w : FVec Ideal S4x2304 .f32) (s : Fin 4) (n i : Fin 64) (x : Fin 2304) (S : Fin 4096) (hS : S.val = n.val * 64 + i.val) :
    silu (tapped p w) (ix3 s S x) = sil (tap (mat p) (mat w) (row s n i) x) := by
  rw [silu_at, tapped_at p w (row s n i) x s S (by show (s.val * 64 + n.val) * 64 + i.val = s.val * 4096 + S.val; omega)]

/-- The reference's chunks are the chunks over the arguments. -/
theorem chunks_raw (s : Fin 4) (h : Fin 6) (n : Fin 64) :
    chunks m c s h n = raw (mat (a0 m c)) (mat (a1 m c)) (mat (a2 m c)) (fun x => a3 m c (ix1 x)) (fun x => a4 m c (ix1 x)) s h n := by
  have hq : ∀ i e, (chunks m c s h n).q i e = (raw (mat (a0 m c)) (mat (a1 m c)) (mat (a2 m c)) (fun x => a3 m c (ix1 x)) (fun x => a4 m c (ix1 x)) s h n).q i e := by
    intro i e
    show queries (silu (tapped (a0 m c) (a2 m c))) (ix5 s h n i e) = _
    unfold queries
    show byChunk _ (ix5 s h n i e) * Ideal.ofBits .f32 0x3DB504F3#32 = _
    rw [byChunk_at, normed_at]
    refine congrArg (fun f => unitRow f e * Ideal.ofBits .f32 0x3DB504F3#32) (funext fun x => ?_)
    rw [heads_at]
    pointwise
    rw [mixed_at _ _ s n i _ _ rfl]
    exact congrArg (fun y => sil (tap (mat (a0 m c)) (mat (a2 m c)) (row s n i) y)) (Fin.ext (by show h.val * 128 + x.val = 0 * 768 + (h.val * 128 + x.val); omega))
  have hk : ∀ i e, (chunks m c s h n).k i e = (raw (mat (a0 m c)) (mat (a1 m c)) (mat (a2 m c)) (fun x => a3 m c (ix1 x)) (fun x => a4 m c (ix1 x)) s h n).k i e := by
    intro i e
    show keys (silu (tapped (a0 m c) (a2 m c))) (ix5 s h n i e) = _
    unfold keys
    rw [byChunk_at, normed_at]
    show _ = unitRow (fun x => sil (tap (mat (a0 m c)) (mat (a2 m c)) (row s n i) (chan 1 h x))) e
    refine congrArg (fun f => unitRow f e) (funext fun x => ?_)
    rw [heads_at]
    pointwise
    rw [mixed_at _ _ s n i _ _ rfl]
    exact congrArg (fun y => sil (tap (mat (a0 m c)) (mat (a2 m c)) (row s n i) y)) (Fin.ext (by show 768 + (h.val * 128 + x.val) = 1 * 768 + (h.val * 128 + x.val); omega))
  have hv : ∀ i e, (chunks m c s h n).v i e = (raw (mat (a0 m c)) (mat (a1 m c)) (mat (a2 m c)) (fun x => a3 m c (ix1 x)) (fun x => a4 m c (ix1 x)) s h n).v i e := by
    intro i e
    show values (silu (tapped (a0 m c) (a2 m c))) (ix5 s h n i e) = _
    unfold values
    rw [byChunk_at, heads_at]
    pointwise
    rw [mixed_at _ _ s n i _ _ rfl]
    exact congrArg (fun y => sil (tap (mat (a0 m c)) (mat (a2 m c)) (row s n i) y)) (Fin.ext (by show 1536 + (h.val * 128 + e.val) = 2 * 768 + (h.val * 128 + e.val); omega))
  have hg : ∀ i, (chunks m c s h n).g i = (raw (mat (a0 m c)) (mat (a1 m c)) (mat (a2 m c)) (fun x => a3 m c (ix1 x)) (fun x => a4 m c (ix1 x)) s h n).g i := by
    intro i
    show upTo (logs (a1 m c) (a3 m c) (a4 m c)) (ix4 s h n i) = _
    rw [upTo_at]
    show _ = ∑ j : Fin 64, if j ≤ i then lg (mat (a1 m c)) (fun x => a3 m c (ix1 x)) (fun x => a4 m c (ix1 x)) s h n j else 0
    refine Finset.sum_congr rfl fun j _ => ?_
    rw [logs_at]
  have hb : ∀ i, (chunks m c s h n).b i = (raw (mat (a0 m c)) (mat (a1 m c)) (mat (a2 m c)) (fun x => a3 m c (ix1 x)) (fun x => a4 m c (ix1 x)) s h n).b i := by
    intro i
    show byChunk1 (strengths (a1 m c)) (ix4 s h n i) = _
    rw [byChunk1_at, strengths_at]
    have e : (⟨s.val * 4096 + (n.val * 64 + i.val), by omega⟩ : Fin 16384) = row s n i := Fin.ext (by show s.val * 4096 + (n.val * 64 + i.val) = (s.val * 64 + n.val) * 64 + i.val; omega)
    exact congrArg (fun r => Ideal.logistic (a1 m c (ix2 r (⟨6 + h.val, by omega⟩ : Fin 128)))) e
  have ext : ∀ C C' : Chunk, C.q = C'.q → C.k = C'.k → C.v = C'.v → C.g = C'.g → C.b = C'.b → C = C' := by
    intro C C' h1 h2 h3 h4 h5
    cases C
    cases C'
    cases h1
    cases h2
    cases h3
    cases h4
    cases h5
    rfl
  exact ext _ _ (funext fun i => funext (hq i)) (funext fun i => funext (hk i)) (funext fun i => funext (hv i)) (funext hg) (funext hb)

end Cert.GdnRefIdeal.Tie

end
-- ==== Proof.GdnGates.lean ====
/-
  The chunk's gates at a place.
-/
module

public import proofs.«01_k».proof.Proof.GdnOut
public import proofs.«01_k».proof.Proof.GdnArgs
public import Idealize.ShloMosaic.Lib.Pipeline.ValueKit
public import Idealize.ShloMosaic.Lib.Pipeline.ReadBack
public import Idealize.ShloMosaic.Lib.WordCmp
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GdnIdeal.Tie

open Cert.GdnIdeal Cert.GdnIdeal.Gen Cert.Delta

/-- The logarithms of the decays. -/
theorem log_at (Z : Vec Ideal S64x128 .f32) (A D : Vec Ideal S1x128 .f32) (j : Fin 64) (x : Fin 128) :
    k0_pay14 Z A D (ix2 j x) = -(Ideal.exp (A (ix2 0 x))) * splus (Z (ix2 j x) + D (ix2 0 x)) := by
  unfold splus
  pointwise [k0_pay14]
  rw [zero_sub, zero_sub]
  rfl

/-- The mask of a chunk's steps at or before each, as ones and zeros. -/
theorem ones_at (i j : Fin 64) : (k0_pay18 : FVec Ideal S64x64 .f32) (ix2 i j) = if j ≤ i then 1 else 0 := by
  unfold k0_pay18
  pointwise
  rw [tri_at, pick]

/-- The summed logarithms by steps. -/
theorem sums_at (Z : Vec Ideal S64x128 .f32) (A D : Vec Ideal S1x128 .f32) (i : Fin 64) (x : Fin 128) :
    k0_pay20 Z A D (ix2 i x) = ∑ j : Fin 64, if j ≤ i then k0_pay14 Z A D (ix2 j x) else 0 := by
  unfold k0_pay20
  pointwise
  refine Finset.sum_congr rfl fun j _ => ?_
  rw [ones_at]
  split
  · rw [one_mul]
  · rw [zero_mul]

/-- The summed logarithms by heads. -/
theorem heads_at (Z : Vec Ideal S64x128 .f32) (A D : Vec Ideal S1x128 .f32) (i : Fin 64) (x : Fin 128) :
    k0_pay22 k0_pay18 (k0_pay21 Z A D) (constant S128x64 FTy.f32 0#32) (ix2 x i) = ∑ j : Fin 64, if j ≤ i then k0_pay14 Z A D (ix2 j x) else 0 := by
  unfold k0_pay22 k0_pay21
  pointwise
  refine Finset.sum_congr rfl fun j _ => ?_
  rw [ones_at]
  split
  · rw [mul_one]
  · rw [mul_zero]

/-- The indices that the scatter takes. -/
abbrev zeros : IVec S2 32 := concatenate S2 0 [⟨S1, broadcastInDim S1 ![] bcast_S_S1 (constantI S_ 32 0#32)⟩, ⟨S1, broadcastInDim S1 ![] bcast_S_S1 (constantI S_ 32 0#32)⟩] concatenates_S1_S1_S2_d0

/-- A column of the one row. -/
abbrev spot (n : Fin 6) : S1x128.Idx := ix2 (0 : Fin 1) (⟨n.val, by omega⟩ : Fin 128)

/-- Each update lands in its column of the one row. -/
theorem lands : ∀ n : Fin 6, scatter_S1x128_S2_S6_0_0_01_0.resultIdx? (S6.rowMajor.symm n) zeros = some (spot n) := by
  decide +kernel

/-- Different columns are different places. -/
theorem spot_inj : ∀ h n : Fin 6, spot h = spot n ↔ h = n := by
  decide +kernel

/-- The updates' order is that of the six entries. -/
theorem entry (n : Fin 6) : S6.rowMajor.symm n = ix1 n := by
  have e : ∀ (n : Fin 6) (a : Fin 1), ((S6.rowMajor.symm n : S6.Idx) a).val = ((ix1 n : S6.Idx) a).val := by decide +kernel
  exact funext fun a => Fin.ext (e n a)

/-- The scatter puts the six entries in the first six columns. -/
theorem scatter_at (x : FVec Ideal S1x128 .f32) (u : FVec Ideal S6 .f32) (h : Fin 6) :
    Host.scatter scatter_S1x128_S2_S6_0_0_01_0 (fun _ b => b) x zeros u (spot h) = u (ix1 h) := by
  unfold Host.scatter
  have e : List.finRange S6.numel = ([0, 1, 2, 3, 4, 5] : List (Fin 6)) := rfl
  rw [e]
  simp only [List.foldl_cons, List.foldl_nil, lands, spot_inj]
  match h with
  | 0 => exact congrArg u (entry 0)
  | 1 => exact congrArg u (entry 1)
  | 2 => exact congrArg u (entry 2)
  | 3 => exact congrArg u (entry 3)
  | 4 => exact congrArg u (entry 4)
  | 5 => exact congrArg u (entry 5)

end Cert.GdnIdeal.Tie

end
-- ==== Proof.GdnBlk.lean ====
/-
  The blocks that a grid point reads, at a place.
-/
module

public import proofs.«01_k».proof.Proof.GdnGates
public import proofs.«01_k».proof.Proof.GdnArgs
public import Idealize.ShloMosaic.Lib.Pipeline.ValueKit
public import Idealize.ShloMosaic.Lib.Pipeline.ReadBack
public import Idealize.ShloMosaic.Lib.WordCmp
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GdnIdeal.Tie

open Cert.GdnIdeal Cert.GdnIdeal.Gen Cert.Delta

variable (m : (ℓ : Loc nD τ sig) → Buf (Elt Ideal) ℓ)

/-- The blocks that a grid point takes. -/
theorem idx : ∀ t : Fin cfg0.N, win0_0.index t = ![t.val, 2] ∧ win0_1.index t = ![t.val, 3] ∧ win0_2.index t = ![t.val, 4] ∧ win0_3.index t = ![t.val, 5]
   ∧ win0_4.index t = ![t.val * 8 - 1, 2] ∧ win0_5.index t = ![t.val * 8 - 1, 3] ∧ win0_6.index t = ![t.val * 8 - 1, 4] ∧ win0_7.index t = ![t.val, 0]
   ∧ win0_8.index t = ![0, 0] ∧ win0_9.index t = ![0, 1] ∧ win0_10.index t = ![0, 2] ∧ win0_11.index t = ![0, 0] ∧ win0_12.index t = ![0, 0]
   ∧ win0_13.index t = ![0, 0] ∧ win0_14.index t = ![t.val, 0] ∧ (grid0.coords t 1).val = t.val % 64 :=
  (by decide +kernel : ∀ t : Fin grid0.N, _)

/-- The queries' block. -/
theorem q_blk (c : Dev nD) (t : Fin cfg0.N) (r : Fin 64) (x : Fin 768) (i : Fin 16384) (j : Fin 4608) (hi : i.val = t.val * 64 + r.val) (hj : j.val = 1536 + x.val) :
    (iblk m c 0 t : Vec Ideal S64x768 .f32) (ix2 r x) = m ((c : Thread nD τ).loc main_arg0) (ix2 i j) := by
  blk_point [iblk, V, idx t]

/-- The keys' block. -/
theorem k_blk (c : Dev nD) (t : Fin cfg0.N) (r : Fin 64) (x : Fin 768) (i : Fin 16384) (j : Fin 4608) (hi : i.val = t.val * 64 + r.val) (hj : j.val = 2304 + x.val) :
    (iblk m c 1 t : Vec Ideal S64x768 .f32) (ix2 r x) = m ((c : Thread nD τ).loc main_arg0) (ix2 i j) := by
  blk_point [iblk, V, idx t]

/-- The values' block. -/
theorem v_blk (c : Dev nD) (t : Fin cfg0.N) (r : Fin 64) (x : Fin 768) (i : Fin 16384) (j : Fin 4608) (hi : i.val = t.val * 64 + r.val) (hj : j.val = 3072 + x.val) :
    (iblk m c 2 t : Vec Ideal S64x768 .f32) (ix2 r x) = m ((c : Thread nD τ).loc main_arg0) (ix2 i j) := by
  blk_point [iblk, V, idx t]

/-- The gate's block. -/
theorem z_blk (c : Dev nD) (t : Fin cfg0.N) (r : Fin 64) (x : Fin 768) (i : Fin 16384) (j : Fin 4608) (hi : i.val = t.val * 64 + r.val) (hj : j.val = 3840 + x.val) :
    (iblk m c 3 t : Vec Ideal S64x768 .f32) (ix2 r x) = m ((c : Thread nD τ).loc main_arg0) (ix2 i j) := by
  blk_point [iblk, V, idx t]

/-- The queries' eight rows before the block. -/
theorem q8_blk (c : Dev nD) (t : Fin cfg0.N) (r : Fin 8) (x : Fin 768) (i : Fin 16384) (j : Fin 4608) (hi : i.val = (t.val * 8 - 1) * 8 + r.val) (hj : j.val = 1536 + x.val) :
    (iblk m c 4 t : Vec Ideal S8x768 .f32) (ix2 r x) = m ((c : Thread nD τ).loc main_arg0) (ix2 i j) := by
  blk_point [iblk, V, idx t]

/-- The keys' eight rows before the block. -/
theorem k8_blk (c : Dev nD) (t : Fin cfg0.N) (r : Fin 8) (x : Fin 768) (i : Fin 16384) (j : Fin 4608) (hi : i.val = (t.val * 8 - 1) * 8 + r.val) (hj : j.val = 2304 + x.val) :
    (iblk m c 5 t : Vec Ideal S8x768 .f32) (ix2 r x) = m ((c : Thread nD τ).loc main_arg0) (ix2 i j) := by
  blk_point [iblk, V, idx t]

/-- The values' eight rows before the block. -/
theorem v8_blk (c : Dev nD) (t : Fin cfg0.N) (r : Fin 8) (x : Fin 768) (i : Fin 16384) (j : Fin 4608) (hi : i.val = (t.val * 8 - 1) * 8 + r.val) (hj : j.val = 3072 + x.val) :
    (iblk m c 6 t : Vec Ideal S8x768 .f32) (ix2 r x) = m ((c : Thread nD τ).loc main_arg0) (ix2 i j) := by
  blk_point [iblk, V, idx t]

/-- The gates' block. -/
theorem g_blk (c : Dev nD) (t : Fin cfg0.N) (r : Fin 64) (x : Fin 128) (i : Fin 16384) (hi : i.val = t.val * 64 + r.val) :
    (iblk m c 7 t : Vec Ideal S64x128 .f32) (ix2 r x) = m ((c : Thread nD τ).loc main_arg1) (ix2 i x) := by
  blk_point [iblk, V, idx t]

/-- The taps' block. -/
theorem qw_blk (c : Dev nD) (t : Fin cfg0.N) (r : Fin 4) (x : Fin 768) (j : Fin 2304) (hj : j.val = 0 + x.val) :
    (iblk m c 8 t : Vec Ideal S4x768 .f32) (ix2 r x) = m ((c : Thread nD τ).loc main_arg2) (ix2 r j) := by
  blk_point [iblk, V, idx t]

/-- The taps' block. -/
theorem kw_blk (c : Dev nD) (t : Fin cfg0.N) (r : Fin 4) (x : Fin 768) (j : Fin 2304) (hj : j.val = 768 + x.val) :
    (iblk m c 9 t : Vec Ideal S4x768 .f32) (ix2 r x) = m ((c : Thread nD τ).loc main_arg2) (ix2 r j) := by
  blk_point [iblk, V, idx t]

/-- The taps' block. -/
theorem vw_blk (c : Dev nD) (t : Fin cfg0.N) (r : Fin 4) (x : Fin 768) (j : Fin 2304) (hj : j.val = 1536 + x.val) :
    (iblk m c 10 t : Vec Ideal S4x768 .f32) (ix2 r x) = m ((c : Thread nD τ).loc main_arg2) (ix2 r j) := by
  blk_point [iblk, V, idx t]

/-- The norm's weights. -/
theorem w_blk (c : Dev nD) (t : Fin cfg0.N) (d : Fin 128) :
    (iblk m c 13 t : Vec Ideal S1x128 .f32) (ix2 0 d) = m ((c : Thread nD τ).loc main_arg5) (ix1 d) := by
  blk_point [iblk, V, idx t]

/-- The decays' weights. -/
theorem a_blk (c : Dev nD) (t : Fin cfg0.N) (h : Fin 6) :
    (iblk m c 11 t : Vec Ideal S1x128 .f32) (ix2 0 (⟨h.val, by omega⟩ : Fin 128)) = m ((c : Thread nD τ).loc main_arg3) (ix1 h) := by
  have e : ((win0_11.blk t).view.emb (ix2 0 (⟨h.val, by omega⟩ : Fin 128)) : S1x128.Idx) = spot h := by
    funext y
    match y with
    | ⟨0, _⟩ => exact Subsingleton.elim (α := Fin 1) _ _
    | ⟨1, _⟩ => refine Fin.ext ?_; blk_simp [idx t]; rfl
  have q := (scatter_at (broadcastInDim S1x128 ![] bcast_S_S1x128 (constant S_ FTy.f32 0#32)) (m ((c : Thread nD τ).loc main_arg3)) h)
  rw [← e] at q
  exact q

/-- The gates' offsets. -/
theorem d_blk (c : Dev nD) (t : Fin cfg0.N) (h : Fin 6) :
    (iblk m c 12 t : Vec Ideal S1x128 .f32) (ix2 0 (⟨h.val, by omega⟩ : Fin 128)) = m ((c : Thread nD τ).loc main_arg4) (ix1 h) := by
  have e : ((win0_12.blk t).view.emb (ix2 0 (⟨h.val, by omega⟩ : Fin 128)) : S1x128.Idx) = spot h := by
    funext y
    match y with
    | ⟨0, _⟩ => exact Subsingleton.elim (α := Fin 1) _ _
    | ⟨1, _⟩ => refine Fin.ext ?_; blk_simp [idx t]; rfl
  have q := (scatter_at (broadcastInDim S1x128 ![] bcast_S_S1x128 (constant S_ FTy.f32 0#32)) (m ((c : Thread nD τ).loc main_arg4)) h)
  rw [← e] at q
  exact q

/-- The place of a block's row and column in the result. -/
theorem place (t : Fin cfg0.N) (r : Fin 64) (x : Fin 768) :
    (((((cfg0.win 14).blk t).view.emb (ix2 r x) : S16384x768.Idx) 0).val = t.val * 64 + r.val)
    ∧ (((((cfg0.win 14).blk t).view.emb (ix2 r x) : S16384x768.Idx) 1).val = x.val) := by
  constructor
  · blk_simp [idx t]
  · blk_simp [idx t]

end Cert.GdnIdeal.Tie

end
-- ==== Proof.GdnHeads.lean ====
/-
  The heads' queries, keys, values and gates at a place.
-/
module

public import proofs.«01_k».proof.Proof.GdnOut
public import proofs.«01_k».proof.Proof.GdnArgs
public import Idealize.ShloMosaic.Lib.Pipeline.ValueKit
public import Idealize.ShloMosaic.Lib.Pipeline.ReadBack
public import Idealize.ShloMosaic.Lib.WordCmp
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GdnIdeal.Tie

open Cert.GdnIdeal Cert.GdnIdeal.Gen Cert.Delta

variable (Q K V : FVec Ideal S64x768 .f32) (G B : FVec Ideal S64x128 .f32) (R : FVec Ideal S128x64 .f32)

/-- A head's column. -/
abbrev col (h : Fin 6) (x : Fin 128) : Fin 768 := ⟨h.val * 128 + x.val, by omega⟩

/-- A head's queries: its columns' rows over their lengths, scaled. -/
theorem qh_at (h : Fin 6) (i : Fin 64) (d : Fin 128) : qh Q h (ix2 i d) = unitRow (fun x => Q (ix2 i (col h x))) d * Ideal.ofBits .f32 0x3DB504F3#32 := by
  unfold unitRow col
  match h with
  | 0 =>
    unfold qh
    pointwise [k0_pay24]
  | 1 =>
    unfold qh
    pointwise [k0_pay41, k0_pay44, k0_pay45]
  | 2 =>
    unfold qh
    pointwise [k0_pay68]
  | 3 =>
    unfold qh
    pointwise [k0_pay87]
  | 4 =>
    unfold qh
    pointwise [k0_pay108]
  | 5 =>
    unfold qh
    pointwise [k0_pay130, k0_pay133, k0_pay134]

/-- A head's keys. -/
theorem kh_at (h : Fin 6) (i : Fin 64) (d : Fin 128) : kh K h (ix2 i d) = unitRow (fun x => K (ix2 i (col h x))) d := by
  unfold unitRow col
  match h with
  | 0 =>
    unfold kh
    pointwise [k0_pay25]
  | 1 =>
    unfold kh
    pointwise [k0_pay42, k0_pay46]
  | 2 =>
    unfold kh
    pointwise [k0_pay66, k0_pay69, k0_pay70]
  | 3 =>
    unfold kh
    pointwise [k0_pay88]
  | 4 =>
    unfold kh
    pointwise [k0_pay109]
  | 5 =>
    unfold kh
    pointwise [k0_pay131, k0_pay135]

/-- A head's values. -/
theorem vh_at (h : Fin 6) (i : Fin 64) (d : Fin 128) : vh V h (ix2 i d) = V (ix2 i (col h d)) := by
  unfold col
  match h with
  | 0 =>
    unfold vh
    pointwise [k0_pay23]
  | 1 =>
    unfold vh
    pointwise [k0_pay43]
  | 2 =>
    unfold vh
    pointwise [k0_pay67]
  | 3 =>
    unfold vh
    pointwise [k0_pay86]
  | 4 =>
    unfold vh
    pointwise [k0_pay107]
  | 5 =>
    unfold vh
    pointwise [k0_pay132]

/-- A head's gates. -/
theorem gh_at (h : Fin 6) (i : Fin 64) : gh G h (ix2 i 0) = G (ix2 i (⟨h.val, by omega⟩ : Fin 128)) := by
  match h with
  | 0 =>
    unfold gh
    pointwise [k0_pay26]
  | 1 =>
    unfold gh
    pointwise [k0_pay47]
  | 2 =>
    unfold gh
    pointwise [k0_pay71]
  | 3 =>
    unfold gh
    pointwise [k0_pay89]
  | 4 =>
    unfold gh
    pointwise [k0_pay110]
  | 5 =>
    unfold gh
    pointwise [k0_pay136]

/-- A head's strengths. -/
theorem bh_at (h : Fin 6) (i : Fin 64) : bh B h (ix2 i 0) = B (ix2 i (⟨6 + h.val, by omega⟩ : Fin 128)) := by
  match h with
  | 0 =>
    unfold bh
    pointwise [k0_pay27]
  | 1 =>
    unfold bh
    pointwise [k0_pay48]
  | 2 =>
    unfold bh
    pointwise [k0_pay72]
  | 3 =>
    unfold bh
    pointwise [k0_pay90]
  | 4 =>
    unfold bh
    pointwise [k0_pay111]
  | 5 =>
    unfold bh
    pointwise [k0_pay137]

/-- A head's last summed logarithm. -/
theorem lh_at (h : Fin 6) : lh G h (ix2 0 0) = G (ix2 (63 : Fin 64) (⟨h.val, by omega⟩ : Fin 128)) := by
  match h with
  | 0 =>
    unfold lh
    pointwise [k0_pay28, k0_pay26]
  | 1 =>
    unfold lh
    pointwise [k0_pay49, k0_pay47]
  | 2 =>
    unfold lh
    pointwise [k0_pay73, k0_pay71]
  | 3 =>
    unfold lh
    pointwise [k0_pay91, k0_pay89]
  | 4 =>
    unfold lh
    pointwise [k0_pay112, k0_pay110]
  | 5 =>
    unfold lh
    pointwise [k0_pay138, k0_pay136]

/-- A head's summed logarithms as a row. -/
theorem rh_at (h : Fin 6) (j : Fin 64) : rh R h (ix2 0 j) = R (ix2 (⟨h.val, by omega⟩ : Fin 128) j) := by
  match h with
  | 0 =>
    unfold rh
    pointwise
  | 1 =>
    unfold rh
    pointwise
  | 2 =>
    unfold rh
    pointwise
  | 3 =>
    unfold rh
    pointwise
  | 4 =>
    unfold rh
    pointwise
  | 5 =>
    unfold rh
    pointwise

/-- A head's part of the states. -/
theorem part_at (S : Vec Ideal S6x128x128 .f32) (h : Fin 6) (e d : Fin 128) : part S h (ix3 0 e d) = S (ix3 h e d) := by
  match h with
  | 0 =>
    unfold part
    pointwise
  | 1 =>
    unfold part
    pointwise
  | 2 =>
    unfold part
    pointwise
  | 3 =>
    unfold part
    pointwise
  | 4 =>
    unfold part
    pointwise
  | 5 =>
    unfold part
    pointwise

/-- A head's columns of the gate's block. -/
theorem zh_at (Z : Vec Ideal S64x768 .f32) (h : Fin 6) (i : Fin 64) (d : Fin 128) : zh Z h (ix2 i d) = Z (ix2 i (col h d)) := by
  unfold col
  match h with
  | 0 =>
    unfold zh
    pointwise
  | 1 =>
    unfold zh
    pointwise
  | 2 =>
    unfold zh
    pointwise
  | 3 =>
    unfold zh
    pointwise
  | 4 =>
    unfold zh
    pointwise
  | 5 =>
    unfold zh
    pointwise

end Cert.GdnIdeal.Tie

end
-- ==== Proof.GdnTaps.lean ====
/-
  The queries, keys and values before the norms, at a place.
-/
module

public import proofs.«01_k».proof.Proof.GdnBlk
public import proofs.«01_k».proof.Proof.GdnHeads
public import proofs.«01_k».proof.Proof.GdnArgs
public import Idealize.ShloMosaic.Lib.Pipeline.ValueKit
public import Idealize.ShloMosaic.Lib.Pipeline.ReadBack
public import Idealize.ShloMosaic.Lib.WordCmp
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GdnIdeal.Tie

open Cert.GdnIdeal Cert.GdnIdeal.Gen Cert.Delta
open Cert.GdnRefIdeal.Tie (mat states finish)

variable (m : (ℓ : Loc nD τ sig) → Buf (Elt Ideal) ℓ)

/-- What a read of the scratch of rows takes: the eight rows before the block, then the block's rows. -/
theorem held (A : FVec Ideal S64x768 .f32) (H : FVec Ideal S8x768 .f32) (L : Rows) (o : ℕ) (ho : o ≤ 8)
    (inb : ∀ a, (![o, 0] : Fin 2 → ℕ) a + (![64, 768] : Fin 2 → ℕ) a ≤ S72x768.size a) (r : Fin 64) (x : Fin 768) :
    rd (over A H L) o inb (ix2 r x) = if h : o + r.val < 8 then H (ix2 (⟨o + r.val, h⟩ : Fin 8) x) else A (ix2 (⟨o + r.val - 8, by omega⟩ : Fin 64) x) := by
  unfold rd over
  rw [View.readCov_eq_canon']
  show View.canon _ ((Rect.unit (s := S72x768) ![o, 0] ![64, 768] inb).toLoadRect.idx (ix2 r x)) = _
  split
  · next h =>
    rw [View.canon_cons_of_not_mem]
    · have e : (Rect.unit (s := S72x768) ![o, 0] ![64, 768] inb).toLoadRect.idx (ix2 r x)
          = (Rect.unit (s := S72x768) ![0, 0] ![8, 768] inb_S72x768_S8x768_0_0).emb (ix2 (⟨o + r.val, h⟩ : Fin 8) x) := by
        funext a
        match a with
        | ⟨0, _⟩ => refine Fin.ext ?_; show o + 1 * r.val = 0 + 1 * (o + r.val); omega
        | ⟨1, _⟩ => rfl
      rw [e, View.canon_cons_emb]
    · refine Rect.not_mem_set_of_axis _ _ (0 : Fin 2) 8 64 rfl rfl rfl (Or.inl ?_)
      show o + 1 * r.val < 8
      omega
  · next h =>
    have e : (Rect.unit (s := S72x768) ![o, 0] ![64, 768] inb).toLoadRect.idx (ix2 r x)
          = (Rect.unit (s := S72x768) ![8, 0] ![64, 768] inb_S72x768_S64x768_8_0).emb (ix2 (⟨o + r.val - 8, by omega⟩ : Fin 64) x) := by
      funext a
      match a with
      | ⟨0, _⟩ => refine Fin.ext ?_; show o + 1 * r.val = 8 + 1 * (o + r.val - 8); omega
      | ⟨1, _⟩ => rfl
    rw [e, View.canon_cons_emb]

/-- The rows before the block: zero at the first block of a sequence. -/
theorem before_q (i : grid0.Coords) (X : Vec Ideal S8x768 .f32) (r : Fin 8) (x : Fin 768) :
    k0_pay2 i X (ix2 r x) = if (i 1).val = 0 then 0 else X (ix2 r x) := by
  have hi : (i 1).val < 64 := (i 1).isLt
  unfold k0_pay2
  pointwise
  show Scalar.select (IntOp.cmpi .eq (BitVec.ofNat 32 (i 1).val) (BitVec.ofNat 32 0)) (0 : EReal) (X (ix2 r x)) = _
  rw [WordCmp.cmpi_eq_ofNat (by omega) (by omega)]
  by_cases h : (i 1).val = 0
  · rw [if_pos h, decide_eq_true h]; rfl
  · rw [if_neg h, decide_eq_false h]; rfl

/-- The keys' rows before the block. -/
theorem before_k (t : Fin cfg0.N) (X : Vec Ideal S8x768 .f32) (r : Fin 8) (x : Fin 768) :
    k0_pay6 (first t) X (ix2 r x) = if (grid0.coords t 1).val = 0 then 0 else X (ix2 r x) := by
  have hi : (grid0.coords t 1).val < 64 := (grid0.coords t 1).isLt
  unfold k0_pay6
  pointwise
  show Scalar.select (IntOp.cmpi .eq (BitVec.ofNat 32 (grid0.coords t 1).val) (BitVec.ofNat 32 0)) (0 : EReal) (X (ix2 r x)) = _
  rw [WordCmp.cmpi_eq_ofNat (by omega) (by omega)]
  by_cases h : (grid0.coords t 1).val = 0
  · rw [if_pos h, decide_eq_true h]; rfl
  · rw [if_neg h, decide_eq_false h]; rfl

/-- The values' rows before the block. -/
theorem before_v (t : Fin cfg0.N) (X : Vec Ideal S8x768 .f32) (r : Fin 8) (x : Fin 768) :
    k0_pay10 (first t) X (ix2 r x) = if (grid0.coords t 1).val = 0 then 0 else X (ix2 r x) := by
  have hi : (grid0.coords t 1).val < 64 := (grid0.coords t 1).isLt
  unfold k0_pay10
  pointwise
  show Scalar.select (IntOp.cmpi .eq (BitVec.ofNat 32 (grid0.coords t 1).val) (BitVec.ofNat 32 0)) (0 : EReal) (X (ix2 r x)) = _
  rw [WordCmp.cmpi_eq_ofNat (by omega) (by omega)]
  by_cases h : (grid0.coords t 1).val = 0
  · rw [if_pos h, decide_eq_true h]; rfl
  · rw [if_neg h, decide_eq_false h]; rfl

/-- The queries' rows are stored as they are. -/
theorem rows_q (X : Vec Ideal S64x768 .f32) (r : Fin 64) (x : Fin 768) : k0_pay3 X (ix2 r x) = X (ix2 r x) := by
  pointwise [k0_pay3]

/-- The keys' rows are stored as they are. -/
theorem rows_k (X : Vec Ideal S64x768 .f32) (r : Fin 64) (x : Fin 768) : k0_pay7 X (ix2 r x) = X (ix2 r x) := by
  pointwise [k0_pay7]

/-- The values' rows are stored as they are. -/
theorem rows_v (X : Vec Ideal S64x768 .f32) (r : Fin 64) (x : Fin 768) : k0_pay11 X (ix2 r x) = X (ix2 r x) := by
  pointwise [k0_pay11]

/-- A read of the scratch of rows `k` rows up is the channel `k` rows before. -/
theorem shift (p : FVec Ideal S16384x4608 .f32) (o : ℕ) (t : Fin cfg0.N) (A : FVec Ideal S64x768 .f32) (H : FVec Ideal S8x768 .f32) (L : Rows)
    (hA : ∀ (r : Fin 64) (x : Fin 768) (i : Fin 16384) (j : Fin 4608), i.val = t.val * 64 + r.val → j.val = 1536 + o + x.val → A (ix2 r x) = p (ix2 i j))
    (hH : ∀ (r : Fin 8) (x : Fin 768) (i : Fin 16384) (j : Fin 4608), i.val = (t.val * 8 - 1) * 8 + r.val → j.val = 1536 + o + x.val →
      H (ix2 r x) = if t.val % 64 = 0 then 0 else p (ix2 i j))
    (k : ℕ) (hk : k ≤ 3) (inb : ∀ a, (![8 - k, 0] : Fin 2 → ℕ) a + (![64, 768] : Fin 2 → ℕ) a ≤ S72x768.size a)
    (r : Fin 64) (x : Fin 768) (i : Fin 16384) (j : Fin 2304) (hi : i.val = t.val * 64 + r.val) (hj : j.val = o + x.val) :
    rd (over A H L) (8 - k) inb (ix2 r x) = back (mat p) k i j := by
  have hr := r.isLt
  have ht : t.val < 256 := t.isLt
  rw [held _ _ _ (8 - k) (by omega) inb r x]
  unfold back
  by_cases h : 8 - k + r.val < 8
  · by_cases h0 : t.val % 64 = 0
    · rw [dif_pos h, hH _ x (⟨(t.val * 8 - 1) * 8 + (8 - k + r.val), by omega⟩ : Fin 16384) (⟨1536 + j.val, by omega⟩ : Fin 4608) rfl (by show 1536 + j.val = _; omega), if_pos h0, if_neg (by omega)]
    · rw [dif_pos h, hH _ x (⟨i.val - k, by omega⟩ : Fin 16384) (⟨1536 + j.val, by omega⟩ : Fin 4608) (by show i.val - k = (t.val * 8 - 1) * 8 + (8 - k + r.val); omega) (by show 1536 + j.val = _; omega),
        if_neg h0, if_pos (by omega)]
  · rw [dif_neg h, hA _ x (⟨i.val - k, by omega⟩ : Fin 16384) (⟨1536 + j.val, by omega⟩ : Fin 4608) (by show i.val - k = t.val * 64 + (8 - k + r.val - 8); omega) (by show 1536 + j.val = _; omega),
      if_pos (by omega)]

/-- The row itself. -/
theorem shift0 (p : FVec Ideal S16384x4608 .f32) (i : Fin 16384) (j : Fin 2304) : p (ix2 i (⟨1536 + j.val, by omega⟩ : Fin 4608)) = back (mat p) 0 i j := by
  unfold back
  rw [if_pos (Nat.zero_le _)]
  rfl

/-- The queries' taps at a place. -/
theorem conv_q (W : Vec Ideal S4x768 .f32) (X3 X2 X1 X0 : Vec Ideal S64x768 .f32) (r : Fin 64) (x : Fin 768) :
    k0_pay5 (k0_pay4 (View.ld W (Rect.unit ![0, 0] ![1, 768] inb_S4x768_S1x768_0_0)) X3 (View.ld W (Rect.unit ![1, 0] ![1, 768] inb_S4x768_S1x768_1_0)) X2
      (View.ld W (Rect.unit ![2, 0] ![1, 768] inb_S4x768_S1x768_2_0)) X1) (View.ld W (Rect.unit ![3, 0] ![1, 768] inb_S4x768_S1x768_3_0)) X0 (ix2 r x)
    = sil (W (ix2 0 x) * X3 (ix2 r x) + W (ix2 1 x) * X2 (ix2 r x) + W (ix2 2 x) * X1 (ix2 r x) + W (ix2 3 x) * X0 (ix2 r x)) := by
  unfold sil
  pointwise [k0_pay4, k0_pay5]

/-- The keys' taps at a place. -/
theorem conv_k (W : Vec Ideal S4x768 .f32) (X3 X2 X1 X0 : Vec Ideal S64x768 .f32) (r : Fin 64) (x : Fin 768) :
    k0_pay9 (k0_pay8 (View.ld W (Rect.unit ![0, 0] ![1, 768] inb_S4x768_S1x768_0_0)) X3 (View.ld W (Rect.unit ![1, 0] ![1, 768] inb_S4x768_S1x768_1_0)) X2
      (View.ld W (Rect.unit ![2, 0] ![1, 768] inb_S4x768_S1x768_2_0)) X1) (View.ld W (Rect.unit ![3, 0] ![1, 768] inb_S4x768_S1x768_3_0)) X0 (ix2 r x)
    = sil (W (ix2 0 x) * X3 (ix2 r x) + W (ix2 1 x) * X2 (ix2 r x) + W (ix2 2 x) * X1 (ix2 r x) + W (ix2 3 x) * X0 (ix2 r x)) := by
  unfold sil
  pointwise [k0_pay8, k0_pay9]

/-- The values' taps at a place. -/
theorem conv_v (W : Vec Ideal S4x768 .f32) (X3 X2 X1 X0 : Vec Ideal S64x768 .f32) (r : Fin 64) (x : Fin 768) :
    k0_pay13 (k0_pay12 (View.ld W (Rect.unit ![0, 0] ![1, 768] inb_S4x768_S1x768_0_0)) X3 (View.ld W (Rect.unit ![1, 0] ![1, 768] inb_S4x768_S1x768_1_0)) X2
      (View.ld W (Rect.unit ![2, 0] ![1, 768] inb_S4x768_S1x768_2_0)) X1) (View.ld W (Rect.unit ![3, 0] ![1, 768] inb_S4x768_S1x768_3_0)) X0 (ix2 r x)
    = sil (W (ix2 0 x) * X3 (ix2 r x) + W (ix2 1 x) * X2 (ix2 r x) + W (ix2 2 x) * X1 (ix2 r x) + W (ix2 3 x) * X0 (ix2 r x)) := by
  unfold sil
  pointwise [k0_pay12, k0_pay13]

/-- The queries before the norms: the taps over the rows, times their logistic. -/
theorem qv_at (c : Dev nD) (t : Fin cfg0.N) (r : Fin 64) (x : Fin 768) (i : Fin 16384) (j : Fin 2304) (hi : i.val = t.val * 64 + r.val) (hj : j.val = 0 + x.val) :
    qv m c t (ix2 r x) = sil (tap (mat (m ((c : Thread nD τ).loc main_arg0) : FVec Ideal S16384x4608 .f32)) (mat (m ((c : Thread nD τ).loc main_arg2) : FVec Ideal S4x2304 .f32)) i j) := by
  have hc : (grid0.coords t 1).val = t.val % 64 := (idx t).2.2.2.2.2.2.2.2.2.2.2.2.2.2.2
  have hA : ∀ (r : Fin 64) (x : Fin 768) (i : Fin 16384) (j : Fin 4608), i.val = t.val * 64 + r.val → j.val = 1536 + 0 + x.val →
      (k0_pay3 (iblk m c 0 t) : FVec Ideal S64x768 .f32) (ix2 r x) = m ((c : Thread nD τ).loc main_arg0) (ix2 i j) := fun r x i j hi hj =>
    (rows_q _ r x).trans (q_blk m c t r x i j hi (by omega))
  have hH : ∀ (r : Fin 8) (x : Fin 768) (i : Fin 16384) (j : Fin 4608), i.val = (t.val * 8 - 1) * 8 + r.val → j.val = 1536 + 0 + x.val →
      (k0_pay2 (grid0.coords t) (iblk m c 4 t) : FVec Ideal S8x768 .f32) (ix2 r x) = if t.val % 64 = 0 then (0 : EReal) else (m ((c : Thread nD τ).loc main_arg0) : FVec Ideal S16384x4608 .f32) (ix2 i j) := fun r x i j hi hj => by
    rw [before_q, hc, q8_blk m c t r x i j hi (by omega)]
  have s3 := shift (m ((c : Thread nD τ).loc main_arg0)) 0 t _ _ [] hA hH 3 (by omega) inb_S72x768_S64x768_5_0 r x i j hi hj
  have s2 := shift (m ((c : Thread nD τ).loc main_arg0)) 0 t _ _ [] hA hH 2 (by omega) inb_S72x768_S64x768_6_0 r x i j hi hj
  have s1 := shift (m ((c : Thread nD τ).loc main_arg0)) 0 t _ _ [] hA hH 1 (by omega) inb_S72x768_S64x768_7_0 r x i j hi hj
  have s0 := (hA r x i (⟨1536 + j.val, by omega⟩ : Fin 4608) hi (by show 1536 + j.val = _; omega)).trans (shift0 (m ((c : Thread nD τ).loc main_arg0)) i j)
  unfold qv
  refine (conv_q _ _ _ _ _ r x).trans ?_
  unfold tap
  exact congrArg sil (congrArg₂ (· + ·) (congrArg₂ (· + ·) (congrArg₂ (· + ·) (congrArg₂ (· * ·) (qw_blk m c t 0 x j hj) s3) (congrArg₂ (· * ·) (qw_blk m c t 1 x j hj) s2))
    (congrArg₂ (· * ·) (qw_blk m c t 2 x j hj) s1)) (congrArg₂ (· * ·) (qw_blk m c t 3 x j hj) s0))

/-- The keys before the norms: the taps over the rows, times their logistic. -/
theorem kv_at (c : Dev nD) (t : Fin cfg0.N) (r : Fin 64) (x : Fin 768) (i : Fin 16384) (j : Fin 2304) (hi : i.val = t.val * 64 + r.val) (hj : j.val = 768 + x.val) :
    kv m c t (ix2 r x) = sil (tap (mat (m ((c : Thread nD τ).loc main_arg0) : FVec Ideal S16384x4608 .f32)) (mat (m ((c : Thread nD τ).loc main_arg2) : FVec Ideal S4x2304 .f32)) i j) := by
  have hc : (grid0.coords t 1).val = t.val % 64 := (idx t).2.2.2.2.2.2.2.2.2.2.2.2.2.2.2
  have hA : ∀ (r : Fin 64) (x : Fin 768) (i : Fin 16384) (j : Fin 4608), i.val = t.val * 64 + r.val → j.val = 1536 + 768 + x.val →
      (k0_pay7 (iblk m c 1 t) : FVec Ideal S64x768 .f32) (ix2 r x) = m ((c : Thread nD τ).loc main_arg0) (ix2 i j) := fun r x i j hi hj =>
    (rows_k _ r x).trans (k_blk m c t r x i j hi (by omega))
  have hH : ∀ (r : Fin 8) (x : Fin 768) (i : Fin 16384) (j : Fin 4608), i.val = (t.val * 8 - 1) * 8 + r.val → j.val = 1536 + 768 + x.val →
      (k0_pay6 (first t) (iblk m c 5 t) : FVec Ideal S8x768 .f32) (ix2 r x) = if t.val % 64 = 0 then (0 : EReal) else (m ((c : Thread nD τ).loc main_arg0) : FVec Ideal S16384x4608 .f32) (ix2 i j) := fun r x i j hi hj => by
    rw [before_k, hc, k8_blk m c t r x i j hi (by omega)]
  have s3 := shift (m ((c : Thread nD τ).loc main_arg0)) 768 t _ _ (rowsQ m c t) hA hH 3 (by omega) inb_S72x768_S64x768_5_0 r x i j hi hj
  have s2 := shift (m ((c : Thread nD τ).loc main_arg0)) 768 t _ _ (rowsQ m c t) hA hH 2 (by omega) inb_S72x768_S64x768_6_0 r x i j hi hj
  have s1 := shift (m ((c : Thread nD τ).loc main_arg0)) 768 t _ _ (rowsQ m c t) hA hH 1 (by omega) inb_S72x768_S64x768_7_0 r x i j hi hj
  have s0 := (hA r x i (⟨1536 + j.val, by omega⟩ : Fin 4608) hi (by show 1536 + j.val = _; omega)).trans (shift0 (m ((c : Thread nD τ).loc main_arg0)) i j)
  unfold kv
  refine (conv_k _ _ _ _ _ r x).trans ?_
  unfold tap
  exact congrArg sil (congrArg₂ (· + ·) (congrArg₂ (· + ·) (congrArg₂ (· + ·) (congrArg₂ (· * ·) (kw_blk m c t 0 x j hj) s3) (congrArg₂ (· * ·) (kw_blk m c t 1 x j hj) s2))
    (congrArg₂ (· * ·) (kw_blk m c t 2 x j hj) s1)) (congrArg₂ (· * ·) (kw_blk m c t 3 x j hj) s0))

/-- The values before the norms: the taps over the rows, times their logistic. -/
theorem vv_at (c : Dev nD) (t : Fin cfg0.N) (r : Fin 64) (x : Fin 768) (i : Fin 16384) (j : Fin 2304) (hi : i.val = t.val * 64 + r.val) (hj : j.val = 1536 + x.val) :
    vv m c t (ix2 r x) = sil (tap (mat (m ((c : Thread nD τ).loc main_arg0) : FVec Ideal S16384x4608 .f32)) (mat (m ((c : Thread nD τ).loc main_arg2) : FVec Ideal S4x2304 .f32)) i j) := by
  have hc : (grid0.coords t 1).val = t.val % 64 := (idx t).2.2.2.2.2.2.2.2.2.2.2.2.2.2.2
  have hA : ∀ (r : Fin 64) (x : Fin 768) (i : Fin 16384) (j : Fin 4608), i.val = t.val * 64 + r.val → j.val = 1536 + 1536 + x.val →
      (k0_pay11 (iblk m c 2 t) : FVec Ideal S64x768 .f32) (ix2 r x) = m ((c : Thread nD τ).loc main_arg0) (ix2 i j) := fun r x i j hi hj =>
    (rows_v _ r x).trans (v_blk m c t r x i j hi (by omega))
  have hH : ∀ (r : Fin 8) (x : Fin 768) (i : Fin 16384) (j : Fin 4608), i.val = (t.val * 8 - 1) * 8 + r.val → j.val = 1536 + 1536 + x.val →
      (k0_pay10 (first t) (iblk m c 6 t) : FVec Ideal S8x768 .f32) (ix2 r x) = if t.val % 64 = 0 then (0 : EReal) else (m ((c : Thread nD τ).loc main_arg0) : FVec Ideal S16384x4608 .f32) (ix2 i j) := fun r x i j hi hj => by
    rw [before_v, hc, v8_blk m c t r x i j hi (by omega)]
  have s3 := shift (m ((c : Thread nD τ).loc main_arg0)) 1536 t _ _ (rowsK m c t) hA hH 3 (by omega) inb_S72x768_S64x768_5_0 r x i j hi hj
  have s2 := shift (m ((c : Thread nD τ).loc main_arg0)) 1536 t _ _ (rowsK m c t) hA hH 2 (by omega) inb_S72x768_S64x768_6_0 r x i j hi hj
  have s1 := shift (m ((c : Thread nD τ).loc main_arg0)) 1536 t _ _ (rowsK m c t) hA hH 1 (by omega) inb_S72x768_S64x768_7_0 r x i j hi hj
  have s0 := (hA r x i (⟨1536 + j.val, by omega⟩ : Fin 4608) hi (by show 1536 + j.val = _; omega)).trans (shift0 (m ((c : Thread nD τ).loc main_arg0)) i j)
  unfold vv
  refine (conv_v _ _ _ _ _ r x).trans ?_
  unfold tap
  exact congrArg sil (congrArg₂ (· + ·) (congrArg₂ (· + ·) (congrArg₂ (· + ·) (congrArg₂ (· * ·) (vw_blk m c t 0 x j hj) s3) (congrArg₂ (· * ·) (vw_blk m c t 1 x j hj) s2))
    (congrArg₂ (· * ·) (vw_blk m c t 2 x j hj) s1)) (congrArg₂ (· * ·) (vw_blk m c t 3 x j hj) s0))

end Cert.GdnIdeal.Tie

end
-- ==== Proof.GdnPlaces.lean ====
/-
  A point's states and outputs at a place.
-/
module

public import proofs.«01_k».proof.Proof.GdnHeads
public import proofs.«01_k».proof.Proof.GdnArgs
public import Idealize.ShloMosaic.Lib.Pipeline.ValueKit
public import Idealize.ShloMosaic.Lib.Pipeline.ReadBack
public import Idealize.ShloMosaic.Lib.WordCmp
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GdnIdeal.Tie

open Cert.GdnIdeal Cert.GdnIdeal.Gen Cert.Delta

variable (Q K V : FVec Ideal S64x768 .f32) (G B : FVec Ideal S64x128 .f32) (R : FVec Ideal S128x64 .f32) (S : Vec Ideal S6x128x128 .f32)

/-- A head's next state among the six. -/
theorem states_at (L : List (View.Piece (Elt Ideal) S6x128x128 .f32)) (h : Fin 6) (e d : Fin 128) :
    View.canon (stateOf K V G B R S L) (ix3 h e d) = after (kh K h) (vh V h) (gh G h) (bh B h) (lh G h) (rh R h) (part S h) (ix3 0 e d) := by
  unfold stateOf
  match h with
  | 0 =>
    rw [View.canon_cons_of_not_mem _ _ (Rect.not_mem_set_of_axis _ _ (0 : Fin 3) 5 1 rfl rfl rfl (Or.inl (by show 0 < 5; omega)))]
    rw [View.canon_cons_of_not_mem _ _ (Rect.not_mem_set_of_axis _ _ (0 : Fin 3) 4 1 rfl rfl rfl (Or.inl (by show 0 < 4; omega)))]
    rw [View.canon_cons_of_not_mem _ _ (Rect.not_mem_set_of_axis _ _ (0 : Fin 3) 3 1 rfl rfl rfl (Or.inl (by show 0 < 3; omega)))]
    rw [View.canon_cons_of_not_mem _ _ (Rect.not_mem_set_of_axis _ _ (0 : Fin 3) 2 1 rfl rfl rfl (Or.inl (by show 0 < 2; omega)))]
    rw [View.canon_cons_of_not_mem _ _ (Rect.not_mem_set_of_axis _ _ (0 : Fin 3) 1 1 rfl rfl rfl (Or.inl (by show 0 < 1; omega)))]
    have e' : (ix3 (0 : Fin 6) e d : S6x128x128.Idx) = (Rect.unit (s := S6x128x128) ![0, 0, 0] ![1, 128, 128] inb_S6x128x128_S1x128x128_0_0_0).emb (ix3 (0 : Fin 1) e d) := by
      funext a
      match a with
      | ⟨0, _⟩ => rfl
      | ⟨1, _⟩ => exact Fin.ext (by show e.val = 0 + 1 * e.val; omega)
      | ⟨2, _⟩ => exact Fin.ext (by show d.val = 0 + 1 * d.val; omega)
    rw [e', View.canon_cons_emb]
  | 1 =>
    rw [View.canon_cons_of_not_mem _ _ (Rect.not_mem_set_of_axis _ _ (0 : Fin 3) 5 1 rfl rfl rfl (Or.inl (by show 1 < 5; omega)))]
    rw [View.canon_cons_of_not_mem _ _ (Rect.not_mem_set_of_axis _ _ (0 : Fin 3) 4 1 rfl rfl rfl (Or.inl (by show 1 < 4; omega)))]
    rw [View.canon_cons_of_not_mem _ _ (Rect.not_mem_set_of_axis _ _ (0 : Fin 3) 3 1 rfl rfl rfl (Or.inl (by show 1 < 3; omega)))]
    rw [View.canon_cons_of_not_mem _ _ (Rect.not_mem_set_of_axis _ _ (0 : Fin 3) 2 1 rfl rfl rfl (Or.inl (by show 1 < 2; omega)))]
    have e' : (ix3 (1 : Fin 6) e d : S6x128x128.Idx) = (Rect.unit (s := S6x128x128) ![1, 0, 0] ![1, 128, 128] inb_S6x128x128_S1x128x128_1_0_0).emb (ix3 (0 : Fin 1) e d) := by
      funext a
      match a with
      | ⟨0, _⟩ => rfl
      | ⟨1, _⟩ => exact Fin.ext (by show e.val = 0 + 1 * e.val; omega)
      | ⟨2, _⟩ => exact Fin.ext (by show d.val = 0 + 1 * d.val; omega)
    rw [e', View.canon_cons_emb]
  | 2 =>
    rw [View.canon_cons_of_not_mem _ _ (Rect.not_mem_set_of_axis _ _ (0 : Fin 3) 5 1 rfl rfl rfl (Or.inl (by show 2 < 5; omega)))]
    rw [View.canon_cons_of_not_mem _ _ (Rect.not_mem_set_of_axis _ _ (0 : Fin 3) 4 1 rfl rfl rfl (Or.inl (by show 2 < 4; omega)))]
    rw [View.canon_cons_of_not_mem _ _ (Rect.not_mem_set_of_axis _ _ (0 : Fin 3) 3 1 rfl rfl rfl (Or.inl (by show 2 < 3; omega)))]
    have e' : (ix3 (2 : Fin 6) e d : S6x128x128.Idx) = (Rect.unit (s := S6x128x128) ![2, 0, 0] ![1, 128, 128] inb_S6x128x128_S1x128x128_2_0_0).emb (ix3 (0 : Fin 1) e d) := by
      funext a
      match a with
      | ⟨0, _⟩ => rfl
      | ⟨1, _⟩ => exact Fin.ext (by show e.val = 0 + 1 * e.val; omega)
      | ⟨2, _⟩ => exact Fin.ext (by show d.val = 0 + 1 * d.val; omega)
    rw [e', View.canon_cons_emb]
  | 3 =>
    rw [View.canon_cons_of_not_mem _ _ (Rect.not_mem_set_of_axis _ _ (0 : Fin 3) 5 1 rfl rfl rfl (Or.inl (by show 3 < 5; omega)))]
    rw [View.canon_cons_of_not_mem _ _ (Rect.not_mem_set_of_axis _ _ (0 : Fin 3) 4 1 rfl rfl rfl (Or.inl (by show 3 < 4; omega)))]
    have e' : (ix3 (3 : Fin 6) e d : S6x128x128.Idx) = (Rect.unit (s := S6x128x128) ![3, 0, 0] ![1, 128, 128] inb_S6x128x128_S1x128x128_3_0_0).emb (ix3 (0 : Fin 1) e d) := by
      funext a
      match a with
      | ⟨0, _⟩ => rfl
      | ⟨1, _⟩ => exact Fin.ext (by show e.val = 0 + 1 * e.val; omega)
      | ⟨2, _⟩ => exact Fin.ext (by show d.val = 0 + 1 * d.val; omega)
    rw [e', View.canon_cons_emb]
  | 4 =>
    rw [View.canon_cons_of_not_mem _ _ (Rect.not_mem_set_of_axis _ _ (0 : Fin 3) 5 1 rfl rfl rfl (Or.inl (by show 4 < 5; omega)))]
    have e' : (ix3 (4 : Fin 6) e d : S6x128x128.Idx) = (Rect.unit (s := S6x128x128) ![4, 0, 0] ![1, 128, 128] inb_S6x128x128_S1x128x128_4_0_0).emb (ix3 (0 : Fin 1) e d) := by
      funext a
      match a with
      | ⟨0, _⟩ => rfl
      | ⟨1, _⟩ => exact Fin.ext (by show e.val = 0 + 1 * e.val; omega)
      | ⟨2, _⟩ => exact Fin.ext (by show d.val = 0 + 1 * d.val; omega)
    rw [e', View.canon_cons_emb]
  | 5 =>
    have e' : (ix3 (5 : Fin 6) e d : S6x128x128.Idx) = (Rect.unit (s := S6x128x128) ![5, 0, 0] ![1, 128, 128] inb_S6x128x128_S1x128x128_5_0_0).emb (ix3 (0 : Fin 1) e d) := by
      funext a
      match a with
      | ⟨0, _⟩ => rfl
      | ⟨1, _⟩ => exact Fin.ext (by show e.val = 0 + 1 * e.val; omega)
      | ⟨2, _⟩ => exact Fin.ext (by show d.val = 0 + 1 * d.val; omega)
    rw [e', View.canon_cons_emb]

/-- A head's outputs among the six. -/
theorem outs_at (Z : Vec Ideal S64x768 .f32) (W : Vec Ideal S1x128 .f32) (h : Fin 6) (i : Fin 64) (d : Fin 128) :
    View.canon (blockOf Q K V G B R S Z W) (ix2 i (col h d)) = ended (outs (qh Q h) (kh K h) (vh V h) (gh G h) (bh B h) (rh R h) (part S h)) (zh Z h) W (ix2 i d) := by
  unfold blockOf
  match h with
  | 0 =>
    rw [View.canon_cons_of_not_mem _ _ (Rect.not_mem_set_of_axis _ _ (1 : Fin 2) 640 128 rfl rfl rfl (Or.inl (by show 0 * 128 + d.val < 640; omega)))]
    rw [View.canon_cons_of_not_mem _ _ (Rect.not_mem_set_of_axis _ _ (1 : Fin 2) 512 128 rfl rfl rfl (Or.inl (by show 0 * 128 + d.val < 512; omega)))]
    rw [View.canon_cons_of_not_mem _ _ (Rect.not_mem_set_of_axis _ _ (1 : Fin 2) 384 128 rfl rfl rfl (Or.inl (by show 0 * 128 + d.val < 384; omega)))]
    rw [View.canon_cons_of_not_mem _ _ (Rect.not_mem_set_of_axis _ _ (1 : Fin 2) 256 128 rfl rfl rfl (Or.inl (by show 0 * 128 + d.val < 256; omega)))]
    rw [View.canon_cons_of_not_mem _ _ (Rect.not_mem_set_of_axis _ _ (1 : Fin 2) 128 128 rfl rfl rfl (Or.inl (by show 0 * 128 + d.val < 128; omega)))]
    have e' : (ix2 i (col 0 d) : S64x768.Idx) = (Rect.unit (s := S64x768) ![0, 0] ![64, 128] inb_S64x768_S64x128_0_0).emb (ix2 i d) := by
      funext a
      match a with
      | ⟨0, _⟩ => exact Fin.ext (by show i.val = 0 + 1 * i.val; omega)
      | ⟨1, _⟩ => exact Fin.ext (by show 0 * 128 + d.val = 0 + 1 * d.val; omega)
    rw [e', View.canon_cons_emb]
  | 1 =>
    rw [View.canon_cons_of_not_mem _ _ (Rect.not_mem_set_of_axis _ _ (1 : Fin 2) 640 128 rfl rfl rfl (Or.inl (by show 1 * 128 + d.val < 640; omega)))]
    rw [View.canon_cons_of_not_mem _ _ (Rect.not_mem_set_of_axis _ _ (1 : Fin 2) 512 128 rfl rfl rfl (Or.inl (by show 1 * 128 + d.val < 512; omega)))]
    rw [View.canon_cons_of_not_mem _ _ (Rect.not_mem_set_of_axis _ _ (1 : Fin 2) 384 128 rfl rfl rfl (Or.inl (by show 1 * 128 + d.val < 384; omega)))]
    rw [View.canon_cons_of_not_mem _ _ (Rect.not_mem_set_of_axis _ _ (1 : Fin 2) 256 128 rfl rfl rfl (Or.inl (by show 1 * 128 + d.val < 256; omega)))]
    have e' : (ix2 i (col 1 d) : S64x768.Idx) = (Rect.unit (s := S64x768) ![0, 128] ![64, 128] inb_S64x768_S64x128_0_128).emb (ix2 i d) := by
      funext a
      match a with
      | ⟨0, _⟩ => exact Fin.ext (by show i.val = 0 + 1 * i.val; omega)
      | ⟨1, _⟩ => exact Fin.ext (by show 1 * 128 + d.val = 128 + 1 * d.val; omega)
    rw [e', View.canon_cons_emb]
  | 2 =>
    rw [View.canon_cons_of_not_mem _ _ (Rect.not_mem_set_of_axis _ _ (1 : Fin 2) 640 128 rfl rfl rfl (Or.inl (by show 2 * 128 + d.val < 640; omega)))]
    rw [View.canon_cons_of_not_mem _ _ (Rect.not_mem_set_of_axis _ _ (1 : Fin 2) 512 128 rfl rfl rfl (Or.inl (by show 2 * 128 + d.val < 512; omega)))]
    rw [View.canon_cons_of_not_mem _ _ (Rect.not_mem_set_of_axis _ _ (1 : Fin 2) 384 128 rfl rfl rfl (Or.inl (by show 2 * 128 + d.val < 384; omega)))]
    have e' : (ix2 i (col 2 d) : S64x768.Idx) = (Rect.unit (s := S64x768) ![0, 256] ![64, 128] inb_S64x768_S64x128_0_256).emb (ix2 i d) := by
      funext a
      match a with
      | ⟨0, _⟩ => exact Fin.ext (by show i.val = 0 + 1 * i.val; omega)
      | ⟨1, _⟩ => exact Fin.ext (by show 2 * 128 + d.val = 256 + 1 * d.val; omega)
    rw [e', View.canon_cons_emb]
  | 3 =>
    rw [View.canon_cons_of_not_mem _ _ (Rect.not_mem_set_of_axis _ _ (1 : Fin 2) 640 128 rfl rfl rfl (Or.inl (by show 3 * 128 + d.val < 640; omega)))]
    rw [View.canon_cons_of_not_mem _ _ (Rect.not_mem_set_of_axis _ _ (1 : Fin 2) 512 128 rfl rfl rfl (Or.inl (by show 3 * 128 + d.val < 512; omega)))]
    have e' : (ix2 i (col 3 d) : S64x768.Idx) = (Rect.unit (s := S64x768) ![0, 384] ![64, 128] inb_S64x768_S64x128_0_384).emb (ix2 i d) := by
      funext a
      match a with
      | ⟨0, _⟩ => exact Fin.ext (by show i.val = 0 + 1 * i.val; omega)
      | ⟨1, _⟩ => exact Fin.ext (by show 3 * 128 + d.val = 384 + 1 * d.val; omega)
    rw [e', View.canon_cons_emb]
  | 4 =>
    rw [View.canon_cons_of_not_mem _ _ (Rect.not_mem_set_of_axis _ _ (1 : Fin 2) 640 128 rfl rfl rfl (Or.inl (by show 4 * 128 + d.val < 640; omega)))]
    have e' : (ix2 i (col 4 d) : S64x768.Idx) = (Rect.unit (s := S64x768) ![0, 512] ![64, 128] inb_S64x768_S64x128_0_512).emb (ix2 i d) := by
      funext a
      match a with
      | ⟨0, _⟩ => exact Fin.ext (by show i.val = 0 + 1 * i.val; omega)
      | ⟨1, _⟩ => exact Fin.ext (by show 4 * 128 + d.val = 512 + 1 * d.val; omega)
    rw [e', View.canon_cons_emb]
  | 5 =>
    have e' : (ix2 i (col 5 d) : S64x768.Idx) = (Rect.unit (s := S64x768) ![0, 640] ![64, 128] inb_S64x768_S64x128_0_640).emb (ix2 i d) := by
      funext a
      match a with
      | ⟨0, _⟩ => exact Fin.ext (by show i.val = 0 + 1 * i.val; omega)
      | ⟨1, _⟩ => exact Fin.ext (by show 5 * 128 + d.val = 640 + 1 * d.val; omega)
    rw [e', View.canon_cons_emb]

end Cert.GdnIdeal.Tie

end
-- ==== Proof.GdnValue.lean ====
/-
  The gated delta rule: each grid point is a chunk of its six heads, and the states follow the chunks.
-/
module

public import proofs.«01_k».proof.Proof.GdnTaps
public import proofs.«01_k».proof.Proof.GdnPlaces
public import proofs.«01_k».proof.Proof.Gen.GdnRefIdeal.Run
public import proofs.«01_k».proof.Defs
public import Idealize.ShloMosaic.Lib.Claim
public import proofs.«01_k».proof.Proof.GdnArgs
public import Idealize.ShloMosaic.Lib.Pipeline.ValueKit
public import Idealize.ShloMosaic.Lib.Pipeline.ReadBack
public import Idealize.ShloMosaic.Lib.WordCmp
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GdnIdeal.Tie

open Cert.GdnIdeal Cert.GdnIdeal.Gen Cert.Delta
open Cert.GdnRefIdeal.Tie (mat states finish)

variable (m : (ℓ : Loc nD τ sig) → Buf (Elt Ideal) ℓ)

/-- A head's chunk over the kernel's arguments. -/
abbrev chunkOf (c : Dev nD) (s : Fin 4) (h : Fin 6) (n : Fin 64) : Chunk :=
  raw (mat (m ((c : Thread nD τ).loc main_arg0) : FVec Ideal S16384x4608 .f32)) (mat (m ((c : Thread nD τ).loc main_arg1) : FVec Ideal S16384x128 .f32))
    (mat (m ((c : Thread nD τ).loc main_arg2) : FVec Ideal S4x2304 .f32)) (fun x => (m ((c : Thread nD τ).loc main_arg3) : FVec Ideal S6 .f32) (ix1 x))
    (fun x => (m ((c : Thread nD τ).loc main_arg4) : FVec Ideal S6 .f32) (ix1 x)) s h n

/-- The logarithm of a step's decay at a grid point. -/
theorem lg_at (c : Dev nD) (t : Fin cfg0.N) (s : Fin 4) (n : Fin 64) (ht : t.val = s.val * 64 + n.val) (h : Fin 6) (j : Fin 64) :
    k0_pay14 (iblk m c 7 t) (iblk m c 11 t) (iblk m c 12 t) (ix2 j (⟨h.val, by omega⟩ : Fin 128))
      = lg (mat (m ((c : Thread nD τ).loc main_arg1) : FVec Ideal S16384x128 .f32)) (fun x => (m ((c : Thread nD τ).loc main_arg3) : FVec Ideal S6 .f32) (ix1 x))
        (fun x => (m ((c : Thread nD τ).loc main_arg4) : FVec Ideal S6 .f32) (ix1 x)) s h n j := by
  refine (log_at _ _ _ j _).trans ?_
  unfold lg
  exact congrArg₂ (fun x y : EReal => -(Ideal.exp x) * splus y) (a_blk m c t h)
    (congrArg₂ (· + ·) (g_blk m c t j _ (row s n j) (by show (s.val * 64 + n.val) * 64 + j.val = _; omega)) (d_blk m c t h))

/-- The summed logarithms at a grid point. -/
theorem g_at (c : Dev nD) (t : Fin cfg0.N) (s : Fin 4) (n : Fin 64) (ht : t.val = s.val * 64 + n.val) (h : Fin 6) (i : Fin 64) :
    gv m c t (ix2 i (⟨h.val, by omega⟩ : Fin 128)) = (chunkOf m c s h n).g i := by
  refine (sums_at _ _ _ i _).trans ?_
  show _ = ∑ j : Fin 64, if j ≤ i then _ else 0
  refine Finset.sum_congr rfl fun j _ => ?_
  rw [lg_at m c t s n ht h j]

/-- A head's inputs at a grid point are its chunk. -/
theorem is_chunk (c : Dev nD) (t : Fin cfg0.N) (s : Fin 4) (n : Fin 64) (ht : t.val = s.val * 64 + n.val) (h : Fin 6) :
    Is (chunkOf m c s h n) (qh (qv m c t) h) (kh (kv m c t) h) (vh (vv m c t) h) (gh (gv m c t) h) (bh (bv m c t) h) (rh (rv m c t) h) where
  q i d := by
    rw [qh_at]
    show _ = unitRow (fun x => _) d * Ideal.ofBits .f32 0x3DB504F3#32
    refine congrArg (fun f => unitRow f d * Ideal.ofBits .f32 0x3DB504F3#32) (funext fun x => ?_)
    exact qv_at m c t i _ (row s n i) (chan 0 h x) (by show (s.val * 64 + n.val) * 64 + i.val = _; omega) rfl
  k i d := by
    rw [kh_at]
    show _ = unitRow (fun x => sil (tap _ _ (row s n i) (chan 1 h x))) d
    refine congrArg (fun f => unitRow f d) (funext fun x => ?_)
    exact kv_at m c t i _ (row s n i) (chan 1 h x) (by show (s.val * 64 + n.val) * 64 + i.val = _; omega) rfl
  v i d := by
    rw [vh_at]
    exact vv_at m c t i _ (row s n i) (chan 2 h d) (by show (s.val * 64 + n.val) * 64 + i.val = _; omega) rfl
  g i := by
    rw [gh_at]
    exact g_at m c t s n ht h i
  b i := by
    rw [bh_at]
    exact congrArg Ideal.logistic (g_blk m c t i _ (row s n i) (by show (s.val * 64 + n.val) * 64 + i.val = _; omega))
  r j := by
    rw [rh_at]
    refine (heads_at _ _ _ j _).trans ?_
    show _ = ∑ l : Fin 64, if l ≤ j then _ else 0
    refine Finset.sum_congr rfl fun l _ => ?_
    rw [lg_at m c t s n ht h l]

/-- The head's last summed logarithm. -/
theorem last_is (c : Dev nD) (t : Fin cfg0.N) (s : Fin 4) (n : Fin 64) (ht : t.val = s.val * 64 + n.val) (h : Fin 6) :
    lh (gv m c t) h (ix2 0 0) = (chunkOf m c s h n).g 63 := by
  rw [lh_at]
  exact g_at m c t s n ht h 63

/-- The state that a grid point takes: zero at a sequence's first. -/
theorem zero_state (h : Fin 6) (e d : Fin 128) : part (k0_pay1 (F := Ideal)) h (ix3 0 e d) = 0 := by
  rw [part_at]
  pointwise [k0_pay1]

/-- The states after a grid point are those that the sequence's chunks reach. -/
theorem states_eq (c : Dev nD) (s : Fin 4) (h : Fin 6) (n : ℕ) : ∀ (hn : n < 64) (t : Fin cfg0.N) (ht : t.val = s.val * 64 + n) (e d : Fin 128),
    (outsAt0 m c t.val t.isLt).2 (ix3 h e d) = states (chunkOf m c s h) (n + 1) e d := by
  induction n with
  | zero =>
    intro hn t ht e d
    rw [state_first m c t (by omega), states_at]
    exact (is_chunk m c t s 0 ht h).after (raw_good _ _ _ _ _ _ _ _) _ (last_is m c t s 0 ht h) _ _ (zero_state h) e d
  | succ n ih =>
    intro hn t ht e d
    have hf : (Fin.ofNat 64 (n + 1) : Fin 64) = ⟨n + 1, hn⟩ := Fin.ext (Nat.mod_eq_of_lt hn)
    rw [state_next m c t (by omega), states_at, Cert.GdnRefIdeal.Tie.states_succ, hf]
    refine (is_chunk m c t s ⟨n + 1, hn⟩ ht h).after (raw_good _ _ _ _ _ _ _ _) _ (last_is m c t s ⟨n + 1, hn⟩ ht h) _ _ (fun e d => ?_) e d
    rw [part_at]
    exact ih (by omega) ⟨t.val - 1, by omega⟩ (by show t.val - 1 = _; omega) e d

/-- The block written at a grid point. -/
theorem block_at (c : Dev nD) (t : Fin cfg0.N) (s : Fin 4) (n : Fin 64) (ht : t.val = s.val * 64 + n.val) (h : Fin 6) (i : Fin 64) (d : Fin 128) :
    (outsAt0 m c t.val t.isLt).1 (ix2 i (col h d))
      = finish (fun e => (chunkOf m c s h n).out (states (chunkOf m c s h) n.val) i e) (fun e => (m ((c : Thread nD τ).loc main_arg5) : FVec Ideal S128 .f32) (ix1 e))
        ((m ((c : Thread nD τ).loc main_arg0) : FVec Ideal S16384x4608 .f32) (ix2 (row s n i) (⟨3840 + (col h d).val, by have := (col h d).isLt; omega⟩ : Fin 4608))) d := by
  have hw : (fun e : Fin 128 => (iblk m c 13 t : Vec Ideal S1x128 .f32) (ix2 0 e)) = fun e => (m ((c : Thread nD τ).loc main_arg5) : FVec Ideal S128 .f32) (ix1 e) :=
    funext fun e => w_blk m c t e
  have hz : zh (iblk m c 3 t) h (ix2 i d) = (m ((c : Thread nD τ).loc main_arg0) : FVec Ideal S16384x4608 .f32) (ix2 (row s n i) (⟨3840 + (col h d).val, by have := (col h d).isLt; omega⟩ : Fin 4608)) :=
    (zh_at _ h i d).trans (z_blk m c t i _ (row s n i) _ (by show (s.val * 64 + n.val) * 64 + i.val = _; omega) rfl)
  by_cases h0 : t.val % 64 = 0
  · have hn : n.val = 0 := by omega
    rw [block_first m c t h0, outs_at, ended_at, hw, hz, hn]
    refine congrArg (fun o => close o _ _ d) (funext fun e => ?_)
    exact (is_chunk m c t s n ht h).outs (raw_good _ _ _ _ _ _ _ _) _ _ (zero_state h) i e
  · rw [block_next m c t h0, outs_at, ended_at, hw, hz]
    refine congrArg (fun o => close o _ _ d) (funext fun e => ?_)
    refine (is_chunk m c t s n ht h).outs (raw_good _ _ _ _ _ _ _ _) _ _ (fun e d => ?_) i e
    rw [part_at]
    have q := states_eq m c s h (n.val - 1) (by omega) ⟨t.val - 1, by omega⟩ (by show t.val - 1 = _; omega) e d
    rw [show n.val - 1 + 1 = n.val by omega] at q
    exact q

/-- The place of a block's row and column. -/
theorem place_eq (t : Fin cfg0.N) (r : Fin 64) (x : Fin 768) (i : Fin 16384) (hi : i.val = t.val * 64 + r.val) :
    (((cfg0.win 14).blk t).view.emb (ix2 r x) : S16384x768.Idx) = ix2 i x := by
  have p := place t r x
  funext a
  match a with
  | ⟨0, _⟩ => exact Fin.ext (p.1.trans hi.symm)
  | ⟨1, _⟩ => exact Fin.ext p.2

/-- The result array after the run is any array that has the chunks' outputs. -/
theorem final (c : Dev nD) (X : FVec Ideal S16384x768 .bf16)
    (hX : ∀ (s : Fin 4) (n i : Fin 64) (h : Fin 6) (d : Fin 128), X (ix2 (row s n i) (col h d))
      = finish (fun e => (chunkOf m c s h n).out (states (chunkOf m c s h) n.val) i e) (fun e => (m ((c : Thread nD τ).loc main_arg5) : FVec Ideal S128 .f32) (ix1 e))
        ((m ((c : Thread nD τ).loc main_arg0) : FVec Ideal S16384x4608 .f32) (ix2 (row s n i) (⟨3840 + (col h d).val, by have := (col h d).isLt; omega⟩ : Fin 4608))) d) :
    (dats m 0 c).arrAt 14 (cfgs 0).N = X := by
  refine (dats m 0 c).arrAt_eq_of_covers 14 _ (by decide +kernel) fun t hf y => ?_
  blk_simp
  rw [after0_14]
  have ht : t.val < 256 := t.isLt
  have e : y = (ix2 (y 0) (y 1) : S64x768.Idx) := ValueIdx.eq_ix2 (n0 := 64) (n1 := 768) y
  generalize (y 0 : Fin 64) = i at e
  generalize (y 1 : Fin 768) = x at e
  have hx : x.val < 768 := x.isLt
  have ex : x = col (⟨x.val / 128, by omega⟩ : Fin 6) (⟨x.val % 128, Nat.mod_lt _ (by omega)⟩ : Fin 128) :=
    Fin.ext (by show x.val = x.val / 128 * 128 + x.val % 128; omega)
  rw [e, ex]
  have q := block_at m c t (⟨t.val / 64, by omega⟩ : Fin 4) (⟨t.val % 64, Nat.mod_lt _ (by omega)⟩ : Fin 64) (by show t.val = t.val / 64 * 64 + t.val % 64; omega)
    (⟨x.val / 128, by omega⟩ : Fin 6) i (⟨x.val % 128, Nat.mod_lt _ (by omega)⟩ : Fin 128)
  refine q.trans ((hX _ _ _ _ _).symm.trans (congrArg X (place_eq t i _ _ ?_).symm))
  show (t.val / 64 * 64 + t.val % 64) * 64 + i.val = t.val * 64 + i.val
  omega

/-- The reference's element over the kernel's arguments. -/
theorem ref_same (m' : (ℓ : Loc Cert.GdnRefIdeal.nD Cert.GdnRefIdeal.τ Cert.GdnRefIdeal.sig) → Buf (Elt Ideal) ℓ) (c : Dev nD)
    (e0 : Cert.GdnRefIdeal.Tie.a0 m' c = m ((c : Thread nD τ).loc main_arg0)) (e1 : Cert.GdnRefIdeal.Tie.a1 m' c = m ((c : Thread nD τ).loc main_arg1))
    (e2 : Cert.GdnRefIdeal.Tie.a2 m' c = m ((c : Thread nD τ).loc main_arg2)) (e3 : Cert.GdnRefIdeal.Tie.a3 m' c = m ((c : Thread nD τ).loc main_arg3))
    (e4 : Cert.GdnRefIdeal.Tie.a4 m' c = m ((c : Thread nD τ).loc main_arg4)) (e5 : Cert.GdnRefIdeal.Tie.a5 m' c = m ((c : Thread nD τ).loc main_arg5))
    (s : Fin 4) (n i : Fin 64) (h : Fin 6) (d : Fin 128) :
    (Cert.GdnRefIdeal.Value.out_main_v417 (Cert.GdnRefIdeal.Tie.after_ m' c 64) : FVec Ideal S16384x768 .bf16) (ix2 (row s n i) (col h d))
      = finish (fun e => (chunkOf m c s h n).out (states (chunkOf m c s h) n.val) i e) (fun e => (m ((c : Thread nD τ).loc main_arg5) : FVec Ideal S128 .f32) (ix1 e))
        ((m ((c : Thread nD τ).loc main_arg0) : FVec Ideal S16384x4608 .f32) (ix2 (row s n i) (⟨3840 + (col h d).val, by have := (col h d).isLt; omega⟩ : Fin 4608))) d := by
  have hc : Cert.GdnRefIdeal.Tie.chunks m' c s h = chunkOf m c s h := funext fun n => by
    rw [Cert.GdnRefIdeal.Tie.chunks_raw, e0, e1, e2, e3, e4]
  have q := Cert.GdnRefIdeal.Tie.ref_at m' c (row s n i) (col h d) s n i h d rfl rfl
  rw [hc, e0, e5] at q
  exact q

end Cert.GdnIdeal.Tie

namespace Cert.Tie

/-- The gated delta rule and its reference compute the same result from the same arguments. -/
theorem gdn_algebraic : Cert.algebraic_GdnIdeal_GdnRefIdeal := by
  pair_intro
  · run_from Cert.GdnIdeal.Gen.run_main m g
  · refine (θ_run Cert.GdnRefIdeal.defs _ _).mono (fun r h c => ⟨(h c).1.trans ?_, (h c).2⟩) (Cert.GdnRefIdeal.Value.run m' g')
    obtain ⟨e0, e1, e2, e3, e4, e5⟩ := hagree c
    exact (Cert.GdnIdeal.Tie.final m c _ (Cert.GdnIdeal.Tie.ref_same m m' c e0 e1 e2 e3 e4 e5)).symm

end Cert.Tie

end
-- ==== Proof.FinalValue.lean ====
/-
  The final RMSNorm: the result of the model from the last layer's output.
-/
module

public import proofs.«01_k».proof.Proof.Gen.FinalIdeal.Frame
public import proofs.«01_k».proof.Proof.Gen.FinalRefIdeal.Run
public import proofs.«01_k».proof.Proof.Norm
public import proofs.«01_k».proof.Defs
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FinalIdeal.Tie

open Cert.FinalIdeal Cert.FinalIdeal.Gen

variable (m : (ℓ : Loc nD τ sig) → Buf (Elt Ideal) ℓ)

/-- The blocks that a grid point takes. -/
theorem idx : ∀ t : Fin cfg0.N, win0_0.index t = ![t.val, 0] ∧ win0_1.index t = ![0, 0] ∧ win0_2.index t = ![t.val, 0] :=
  (by decide +kernel : ∀ t : Fin grid0.N, _)

/-- What the body stores at a place of its block is the reference's element at that place of the array. -/
theorem point (c : Dev nD) (t : Fin cfg0.N) (y) :
    out0_2 (iblk m c 0 t) (iblk m c 1 t) y
    = Cert.Tie.norm (m ((c : Thread nD τ).loc main_arg0)) (m ((c : Thread nD τ).loc main_arg1)) (((cfg0.win 2).blk t).view.emb y) := by
  frame_out
  pointwise [k0_pay1, Cert.Tie.norm]
  blk_point [iblk, V, idx t]

/-- The result array after the run is the reference's RMSNorm of the arguments. -/
theorem final (c : Dev nD) : (dats m 0 c).arrAt 2 (cfgs 0).N
    = Cert.Tie.norm (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.FinalIdeal.Tie

namespace Cert.Tie

/-- The final RMSNorm and its reference compute the same result from the same arguments. -/
theorem final_algebraic : Cert.algebraic_FinalIdeal_FinalRefIdeal := by
  pair_intro
  · run_from Cert.FinalIdeal.Gen.run_main m g
  · run_from Cert.FinalRefIdeal.Value.run m' g'
    exact (Cert.FinalIdeal.Tie.final m c).symm

end Cert.Tie

end
-- ==== Proof.lean ====
/-
  The claims of the statement: every program runs to its end, leaves its arguments alone and its counters at zero; each
  idealised kernel computes, over the extended reals, what its reference computes (the modules `Proof/*Value.lean`).
  This file gathers them.
-/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.Up.Frame
public import proofs.«01_k».proof.Proof.Gen.UpIdeal.Frame
public import proofs.«01_k».proof.Proof.Gen.UpRefIdeal.Run
public import proofs.«01_k».proof.Proof.Gen.Down.Frame
public import proofs.«01_k».proof.Proof.Gen.DownIdeal.Frame
public import proofs.«01_k».proof.Proof.Gen.DownRefIdeal.Run
public import proofs.«01_k».proof.Proof.Gen.Out.Frame
public import proofs.«01_k».proof.Proof.Gen.OutIdeal.Frame
public import proofs.«01_k».proof.Proof.Gen.OutRefIdeal.Run
public import proofs.«01_k».proof.Proof.Gen.InSb.Frame
public import proofs.«01_k».proof.Proof.Gen.InSbIdeal.Frame
public import proofs.«01_k».proof.Proof.Gen.InSbRefIdeal.Run
public import proofs.«01_k».proof.Proof.Gen.InMain.Frame
public import proofs.«01_k».proof.Proof.Gen.InMainIdeal.Frame
public import proofs.«01_k».proof.Proof.Gen.InMainRefIdeal.Run
public import proofs.«01_k».proof.Proof.Gen.InGate.Frame
public import proofs.«01_k».proof.Proof.Gen.InGateIdeal.Frame
public import proofs.«01_k».proof.Proof.Gen.InGateRefIdeal.Run
public import proofs.«01_k».proof.Proof.Gen.Conv.Frame
public import proofs.«01_k».proof.Proof.Gen.ConvIdeal.Frame
public import proofs.«01_k».proof.Proof.Gen.ConvRefIdeal.Run
public import proofs.«01_k».proof.Proof.Gen.Gdn.Frame
public import proofs.«01_k».proof.Proof.Gen.GdnIdeal.Frame
public import proofs.«01_k».proof.Proof.Gen.Final.Frame
public import proofs.«01_k».proof.Proof.Gen.FinalIdeal.Frame
public import proofs.«01_k».proof.Proof.Gen.FinalRefIdeal.Run
public import proofs.«01_k».proof.Proof.AttnValue
public import proofs.«01_k».proof.Proof.UpValue
public import proofs.«01_k».proof.Proof.DownValue
public import proofs.«01_k».proof.Proof.OutValue
public import proofs.«01_k».proof.Proof.InSbValue
public import proofs.«01_k».proof.Proof.InMainValue
public import proofs.«01_k».proof.Proof.InGateValue
public import proofs.«01_k».proof.Proof.ConvValue
public import proofs.«01_k».proof.Proof.GdnValue
public import proofs.«01_k».proof.Proof.FinalValue
public import Idealize.ShloMosaic.Lib.Claim
public import Idealize.ShloMosaic.Adequacy
public import Idealize.ShloMosaic.Init

@[expose] public section

noncomputable section

namespace Cert.Proof

open Idealize.ShloMosaic Idealize.SL.Sem

/-- The reference of the stick-breaking attention runs, its arguments unchanged, its counters zero. -/
theorem ref_frame_Attn (m : (ℓ : Loc Cert.AttnRefIdeal.nD Cert.AttnRefIdeal.τ Cert.AttnRefIdeal.sig) → Buf (Elt Ideal) ℓ)
    (g : Dev Cert.AttnRefIdeal.nD → PrngReg) :
    θ_run (Cert.AttnRefIdeal.defs (F := Ideal)) (onTc (τ := Cert.AttnRefIdeal.τ) (Cert.AttnRefIdeal.main (F := Ideal))) ⟨m, fun _ => 0, g⟩
      (fun r => (∀ c : Dev Cert.AttnRefIdeal.nD,
        r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
        ∧ r.2.sem = fun _ => 0) :=
  (θ_run Cert.AttnRefIdeal.defs _ _).mono
    (fun r h => ⟨fun c => (h c).2, sem_eq_zero_of_no_sems (by decide) r.2⟩) (Cert.AttnRefIdeal.Value.run m g)

/-- The reference of the first MLP product runs, its arguments unchanged, its counters zero. -/
theorem ref_frame_Up (m : (ℓ : Loc Cert.UpRefIdeal.nD Cert.UpRefIdeal.τ Cert.UpRefIdeal.sig) → Buf (Elt Ideal) ℓ)
    (g : Dev Cert.UpRefIdeal.nD → PrngReg) :
    θ_run (Cert.UpRefIdeal.defs (F := Ideal)) (onTc (τ := Cert.UpRefIdeal.τ) (Cert.UpRefIdeal.main (F := Ideal))) ⟨m, fun _ => 0, g⟩
      (fun r => (∀ c : Dev Cert.UpRefIdeal.nD,
        r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
        ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
        ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
        ∧ r.2.sem = fun _ => 0) :=
  (θ_run Cert.UpRefIdeal.defs _ _).mono
    (fun r h => ⟨fun c => (h c).2, sem_eq_zero_of_no_sems (by decide) r.2⟩) (Cert.UpRefIdeal.Value.run m g)

/-- The reference of the second MLP product runs, its arguments unchanged, its counters zero. -/
theorem ref_frame_Down (m : (ℓ : Loc Cert.DownRefIdeal.nD Cert.DownRefIdeal.τ Cert.DownRefIdeal.sig) → Buf (Elt Ideal) ℓ)
    (g : Dev Cert.DownRefIdeal.nD → PrngReg) :
    θ_run (Cert.DownRefIdeal.defs (F := Ideal)) (onTc (τ := Cert.DownRefIdeal.τ) (Cert.DownRefIdeal.main (F := Ideal))) ⟨m, fun _ => 0, g⟩
      (fun r => (∀ c : Dev Cert.DownRefIdeal.nD,
        r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
        ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
        ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
        ∧ r.2.sem = fun _ => 0) :=
  (θ_run Cert.DownRefIdeal.defs _ _).mono
    (fun r h => ⟨fun c => (h c).2, sem_eq_zero_of_no_sems (by decide) r.2⟩) (Cert.DownRefIdeal.Value.run m g)

/-- The reference of the output projection runs, its arguments unchanged, its counters zero. -/
theorem ref_frame_Out (m : (ℓ : Loc Cert.OutRefIdeal.nD Cert.OutRefIdeal.τ Cert.OutRefIdeal.sig) → Buf (Elt Ideal) ℓ)
    (g : Dev Cert.OutRefIdeal.nD → PrngReg) :
    θ_run (Cert.OutRefIdeal.defs (F := Ideal)) (onTc (τ := Cert.OutRefIdeal.τ) (Cert.OutRefIdeal.main (F := Ideal))) ⟨m, fun _ => 0, g⟩
      (fun r => (∀ c : Dev Cert.OutRefIdeal.nD,
        r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
        ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
        ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
        ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
        ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
        ∧ r.2.sem = fun _ => 0) :=
  (θ_run Cert.OutRefIdeal.defs _ _).mono
    (fun r h => ⟨fun c => (h c).2, sem_eq_zero_of_no_sems (by decide) r.2⟩) (Cert.OutRefIdeal.Value.run m g)

/-- The reference of the attention's input projection runs, its arguments unchanged, its counters zero. -/
theorem ref_frame_InSb (m : (ℓ : Loc Cert.InSbRefIdeal.nD Cert.InSbRefIdeal.τ Cert.InSbRefIdeal.sig) → Buf (Elt Ideal) ℓ)
    (g : Dev Cert.InSbRefIdeal.nD → PrngReg) :
    θ_run (Cert.InSbRefIdeal.defs (F := Ideal)) (onTc (τ := Cert.InSbRefIdeal.τ) (Cert.InSbRefIdeal.main (F := Ideal))) ⟨m, fun _ => 0, g⟩
      (fun r => (∀ c : Dev Cert.InSbRefIdeal.nD,
        r.2.mem ((c.tc : Thread Cert.InSbRefIdeal.nD Cert.InSbRefIdeal.τ).loc Cert.InSbRefIdeal.main_arg0) = m ((c.tc : Thread Cert.InSbRefIdeal.nD Cert.InSbRefIdeal.τ).loc Cert.InSbRefIdeal.main_arg0)
        ∧ r.2.mem ((c.tc : Thread Cert.InSbRefIdeal.nD Cert.InSbRefIdeal.τ).loc Cert.InSbRefIdeal.main_arg1) = m ((c.tc : Thread Cert.InSbRefIdeal.nD Cert.InSbRefIdeal.τ).loc Cert.InSbRefIdeal.main_arg1)
        ∧ r.2.mem ((c.tc : Thread Cert.InSbRefIdeal.nD Cert.InSbRefIdeal.τ).loc Cert.InSbRefIdeal.main_arg2) = m ((c.tc : Thread Cert.InSbRefIdeal.nD Cert.InSbRefIdeal.τ).loc Cert.InSbRefIdeal.main_arg2))
        ∧ r.2.sem = fun _ => 0) :=
  (θ_run Cert.InSbRefIdeal.defs _ _).mono
    (fun r h => ⟨fun c => (h c).2, sem_eq_zero_of_no_sems (by decide) r.2⟩) (Cert.InSbRefIdeal.Value.run m g)

/-- The reference of the convolution's and recurrence's input projection runs, its arguments unchanged, its counters zero. -/
theorem ref_frame_InMain (m : (ℓ : Loc Cert.InMainRefIdeal.nD Cert.InMainRefIdeal.τ Cert.InMainRefIdeal.sig) → Buf (Elt Ideal) ℓ)
    (g : Dev Cert.InMainRefIdeal.nD → PrngReg) :
    θ_run (Cert.InMainRefIdeal.defs (F := Ideal)) (onTc (τ := Cert.InMainRefIdeal.τ) (Cert.InMainRefIdeal.main (F := Ideal))) ⟨m, fun _ => 0, g⟩
      (fun r => (∀ c : Dev Cert.InMainRefIdeal.nD,
        r.2.mem ((c.tc : Thread Cert.InMainRefIdeal.nD Cert.InMainRefIdeal.τ).loc Cert.InMainRefIdeal.main_arg0) = m ((c.tc : Thread Cert.InMainRefIdeal.nD Cert.InMainRefIdeal.τ).loc Cert.InMainRefIdeal.main_arg0)
        ∧ r.2.mem ((c.tc : Thread Cert.InMainRefIdeal.nD Cert.InMainRefIdeal.τ).loc Cert.InMainRefIdeal.main_arg1) = m ((c.tc : Thread Cert.InMainRefIdeal.nD Cert.InMainRefIdeal.τ).loc Cert.InMainRefIdeal.main_arg1)
        ∧ r.2.mem ((c.tc : Thread Cert.InMainRefIdeal.nD Cert.InMainRefIdeal.τ).loc Cert.InMainRefIdeal.main_arg2) = m ((c.tc : Thread Cert.InMainRefIdeal.nD Cert.InMainRefIdeal.τ).loc Cert.InMainRefIdeal.main_arg2))
        ∧ r.2.sem = fun _ => 0) :=
  (θ_run Cert.InMainRefIdeal.defs _ _).mono
    (fun r h => ⟨fun c => (h c).2, sem_eq_zero_of_no_sems (by decide) r.2⟩) (Cert.InMainRefIdeal.Value.run m g)

/-- The reference of the gates' input projection runs, its arguments unchanged, its counters zero. -/
theorem ref_frame_InGate (m : (ℓ : Loc Cert.InGateRefIdeal.nD Cert.InGateRefIdeal.τ Cert.InGateRefIdeal.sig) → Buf (Elt Ideal) ℓ)
    (g : Dev Cert.InGateRefIdeal.nD → PrngReg) :
    θ_run (Cert.InGateRefIdeal.defs (F := Ideal)) (onTc (τ := Cert.InGateRefIdeal.τ) (Cert.InGateRefIdeal.main (F := Ideal))) ⟨m, fun _ => 0, g⟩
      (fun r => (∀ c : Dev Cert.InGateRefIdeal.nD,
        r.2.mem ((c.tc : Thread Cert.InGateRefIdeal.nD Cert.InGateRefIdeal.τ).loc Cert.InGateRefIdeal.main_arg0) = m ((c.tc : Thread Cert.InGateRefIdeal.nD Cert.InGateRefIdeal.τ).loc Cert.InGateRefIdeal.main_arg0)
        ∧ r.2.mem ((c.tc : Thread Cert.InGateRefIdeal.nD Cert.InGateRefIdeal.τ).loc Cert.InGateRefIdeal.main_arg1) = m ((c.tc : Thread Cert.InGateRefIdeal.nD Cert.InGateRefIdeal.τ).loc Cert.InGateRefIdeal.main_arg1)
        ∧ r.2.mem ((c.tc : Thread Cert.InGateRefIdeal.nD Cert.InGateRefIdeal.τ).loc Cert.InGateRefIdeal.main_arg2) = m ((c.tc : Thread Cert.InGateRefIdeal.nD Cert.InGateRefIdeal.τ).loc Cert.InGateRefIdeal.main_arg2))
        ∧ r.2.sem = fun _ => 0) :=
  (θ_run Cert.InGateRefIdeal.defs _ _).mono
    (fun r h => ⟨fun c => (h c).2, sem_eq_zero_of_no_sems (by decide) r.2⟩) (Cert.InGateRefIdeal.Value.run m g)

/-- The reference of the short convolution runs, its arguments unchanged, its counters zero. -/
theorem ref_frame_Conv (m : (ℓ : Loc Cert.ConvRefIdeal.nD Cert.ConvRefIdeal.τ Cert.ConvRefIdeal.sig) → Buf (Elt Ideal) ℓ)
    (g : Dev Cert.ConvRefIdeal.nD → PrngReg) :
    θ_run (Cert.ConvRefIdeal.defs (F := Ideal)) (onTc (τ := Cert.ConvRefIdeal.τ) (Cert.ConvRefIdeal.main (F := Ideal))) ⟨m, fun _ => 0, g⟩
      (fun r => (∀ c : Dev Cert.ConvRefIdeal.nD,
        r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
        ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
        ∧ r.2.sem = fun _ => 0) :=
  (θ_run Cert.ConvRefIdeal.defs _ _).mono
    (fun r h => ⟨fun c => (h c).2, sem_eq_zero_of_no_sems (by decide) r.2⟩) (Cert.ConvRefIdeal.Value.run m g)

/-- The reference of the gated delta recurrence runs, its arguments unchanged, its counters zero. -/
theorem ref_frame_Gdn (m : (ℓ : Loc Cert.GdnRefIdeal.nD Cert.GdnRefIdeal.τ Cert.GdnRefIdeal.sig) → Buf (Elt Ideal) ℓ)
    (g : Dev Cert.GdnRefIdeal.nD → PrngReg) :
    θ_run (Cert.GdnRefIdeal.defs (F := Ideal)) (onTc (τ := Cert.GdnRefIdeal.τ) (Cert.GdnRefIdeal.main (F := Ideal))) ⟨m, fun _ => 0, g⟩
      (fun r => (∀ c : Dev Cert.GdnRefIdeal.nD,
        r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
        ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
        ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
        ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
        ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4)
        ∧ r.2.mem ((c.tc : Thread Cert.GdnRefIdeal.nD Cert.GdnRefIdeal.τ).loc Cert.GdnRefIdeal.main_arg5) = m ((c.tc : Thread Cert.GdnRefIdeal.nD Cert.GdnRefIdeal.τ).loc Cert.GdnRefIdeal.main_arg5))
        ∧ r.2.sem = fun _ => 0) :=
  (θ_run Cert.GdnRefIdeal.defs _ _).mono
    (fun r h => ⟨fun c => (h c).2, sem_eq_zero_of_no_sems (by decide) r.2⟩) (Cert.GdnRefIdeal.Value.run m g)

/-- The reference of the final RMSNorm runs, its arguments unchanged, its counters zero. -/
theorem ref_frame_Final (m : (ℓ : Loc Cert.FinalRefIdeal.nD Cert.FinalRefIdeal.τ Cert.FinalRefIdeal.sig) → Buf (Elt Ideal) ℓ)
    (g : Dev Cert.FinalRefIdeal.nD → PrngReg) :
    θ_run (Cert.FinalRefIdeal.defs (F := Ideal)) (onTc (τ := Cert.FinalRefIdeal.τ) (Cert.FinalRefIdeal.main (F := Ideal))) ⟨m, fun _ => 0, g⟩
      (fun r => (∀ c : Dev Cert.FinalRefIdeal.nD,
        r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
        ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
        ∧ r.2.sem = fun _ => 0) :=
  (θ_run Cert.FinalRefIdeal.defs _ _).mono
    (fun r h => ⟨fun c => (h c).2, sem_eq_zero_of_no_sems (by decide) r.2⟩) (Cert.FinalRefIdeal.Value.run m g)

/-- The side conditions of the precondition's own operations. -/
theorem pre_facts : Cert.Pre_qk_finite.Facts where
  slices_S16384x2304_S16384x1536_0_0 := by decide
  bitsLt_bf16_f32 := by decide
  bcast_S_S16384x1536 := by decide
  reducesTo_S16384x1536_S_d0_1 := by decide
  h_S_ := by decide

/-- All claims together. -/
theorem claim : Cert.Claim :=
  ⟨Cert.Attn.Gen.facts,
    Cert.AttnIdeal.Gen.facts,
    Cert.AttnRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.Out.Gen.facts,
    Cert.OutIdeal.Gen.facts,
    Cert.OutRefIdeal.Gen.facts,
    Cert.InSb.Gen.facts,
    Cert.InSbIdeal.Gen.facts,
    Cert.InSbRefIdeal.Gen.facts,
    Cert.InMain.Gen.facts,
    Cert.InMainIdeal.Gen.facts,
    Cert.InMainRefIdeal.Gen.facts,
    Cert.InGate.Gen.facts,
    Cert.InGateIdeal.Gen.facts,
    Cert.InGateRefIdeal.Gen.facts,
    Cert.Conv.Gen.facts,
    Cert.ConvIdeal.Gen.facts,
    Cert.ConvRefIdeal.Gen.facts,
    Cert.Gdn.Gen.facts,
    Cert.GdnIdeal.Gen.facts,
    Cert.GdnRefIdeal.Gen.facts,
    Cert.Final.Gen.facts,
    Cert.FinalIdeal.Gen.facts,
    Cert.FinalRefIdeal.Gen.facts,
    pre_facts,
    fun m g _ => Cert.Attn.Gen.frame m g,
    fun m g _ => Cert.AttnIdeal.Gen.frame m g,
    fun m g _ => Cert.AttnIdeal.Gen.frame m g,
    fun m g _ => ref_frame_Attn m g,
    fun m g _ => ref_frame_Attn m g,
    fun m g _ => Cert.Up.Gen.frame m g,
    fun m g _ => Cert.UpIdeal.Gen.frame m g,
    fun m g _ => ref_frame_Up m g,
    fun m g _ => Cert.Down.Gen.frame m g,
    fun m g _ => Cert.DownIdeal.Gen.frame m g,
    fun m g _ => ref_frame_Down m g,
    fun m g _ => Cert.Out.Gen.frame m g,
    fun m g _ => Cert.OutIdeal.Gen.frame m g,
    fun m g _ => ref_frame_Out m g,
    fun m g _ => Cert.InSb.Gen.frame m g,
    fun m g _ => Cert.InSbIdeal.Gen.frame m g,
    fun m g _ => ref_frame_InSb m g,
    fun m g _ => Cert.InMain.Gen.frame m g,
    fun m g _ => Cert.InMainIdeal.Gen.frame m g,
    fun m g _ => ref_frame_InMain m g,
    fun m g _ => Cert.InGate.Gen.frame m g,
    fun m g _ => Cert.InGateIdeal.Gen.frame m g,
    fun m g _ => ref_frame_InGate m g,
    fun m g _ => Cert.Conv.Gen.frame m g,
    fun m g _ => Cert.ConvIdeal.Gen.frame m g,
    fun m g _ => ref_frame_Conv m g,
    fun m g _ => Cert.Gdn.Gen.frame m g,
    fun m g _ => Cert.GdnIdeal.Gen.frame m g,
    fun m g _ => ref_frame_Gdn m g,
    fun m g _ => Cert.Final.Gen.frame m g,
    fun m g _ => Cert.FinalIdeal.Gen.frame m g,
    fun m g _ => ref_frame_Final m g,
    trivial,
    Cert.Tie.attn_algebraic,
    trivial,
    Cert.Tie.up_algebraic,
    trivial,
    Cert.Tie.down_algebraic,
    trivial,
    Cert.Tie.out_algebraic,
    trivial,
    Cert.Tie.in_sb_algebraic,
    trivial,
    Cert.Tie.in_main_algebraic,
    trivial,
    Cert.Tie.in_gate_algebraic,
    trivial,
    Cert.Tie.conv_algebraic,
    trivial,
    Cert.Tie.gdn_algebraic,
    trivial,
    Cert.Tie.final_algebraic⟩

end Cert.Proof

end
